-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x7168 : Shape := ⟨3, ![1, 2048, 7168]⟩
abbrev S1x2048 : Shape := ⟨2, ![1, 2048]⟩
abbrev S7168 : Shape := ⟨1, ![7168]⟩
abbrev S7168x9216 : Shape := ⟨2, ![7168, 9216]⟩
abbrev S9216 : Shape := ⟨1, ![9216]⟩
abbrev S1x2048x9216 : Shape := ⟨3, ![1, 2048, 9216]⟩
abbrev S1x2048x72 : Shape := ⟨3, ![1, 2048, 72]⟩
abbrev S2048x7168 : Shape := ⟨2, ![2048, 7168]⟩
abbrev S2048x9216 : Shape := ⟨2, ![2048, 9216]⟩
abbrev S2048x72 : Shape := ⟨2, ![2048, 72]⟩
abbrev S_ : Shape := ⟨0, ![]⟩
abbrev S2048x128 : Shape := ⟨2, ![2048, 128]⟩
abbrev S1x7168 : Shape := ⟨2, ![1, 7168]⟩
abbrev S1x9216 : Shape := ⟨2, ![1, 9216]⟩
abbrev S7168x2048 : Shape := ⟨2, ![7168, 2048]⟩
abbrev S256x9216 : Shape := ⟨2, ![256, 9216]⟩
abbrev S2048x256 : Shape := ⟨2, ![2048, 256]⟩
abbrev S1x256 : Shape := ⟨2, ![1, 256]⟩
abbrev S256x2048 : Shape := ⟨2, ![256, 2048]⟩
abbrev S2x128x9216 : Shape := ⟨3, ![2, 128, 9216]⟩
abbrev S2 : Shape := ⟨1, ![2]⟩
abbrev S128x2048 : Shape := ⟨2, ![128, 2048]⟩
abbrev S1 : Shape := ⟨1, ![1]⟩
abbrev S1x128x9216 : Shape := ⟨3, ![1, 128, 9216]⟩
abbrev S128x9216 : Shape := ⟨2, ![128, 9216]⟩
abbrev S128x128 : Shape := ⟨2, ![128, 128]⟩
abbrev S128x1 : Shape := ⟨2, ![128, 1]⟩
abbrev S1x128 : Shape := ⟨2, ![1, 128]⟩
abbrev S1x128x128 : Shape := ⟨3, ![1, 128, 128]⟩
abbrev S512x9216 : Shape := ⟨2, ![512, 9216]⟩
abbrev S512x256 : Shape := ⟨2, ![512, 256]⟩
abbrev S256x128 : Shape := ⟨2, ![256, 128]⟩
abbrev S128x256 : Shape := ⟨2, ![128, 256]⟩
abbrev S128 : Shape := ⟨1, ![128]⟩
abbrev S2048x1 : Shape := ⟨2, ![2048, 1]⟩
abbrev S2048x512 : Shape := ⟨2, ![2048, 512]⟩
abbrev S32x7168 : Shape := ⟨2, ![32, 7168]⟩
abbrev S32x1 : Shape := ⟨2, ![32, 1]⟩
abbrev S32x128 : Shape := ⟨2, ![32, 128]⟩
abbrev S1792x512 : Shape := ⟨2, ![1792, 512]⟩
abbrev S1792x2048 : Shape := ⟨2, ![1792, 2048]⟩
abbrev S32 : Shape := ⟨1, ![32]⟩

abbrev nBuf : Space → Nat
  | .hbm => 26
  | .vmem => 41
  | .smem => 0
  | _ => 0

abbrev bufTy : (tb : Table) → Fin (tcTables nBuf tb) → BufTy
  | .hbm, ⟨0, _⟩ => ⟨S1x2048x7168, .fp8e4m3⟩
  | .hbm, ⟨1, _⟩ => ⟨S1x2048, .f32⟩
  | .hbm, ⟨2, _⟩ => ⟨S1x2048, .f32⟩
  | .hbm, ⟨3, _⟩ => ⟨S7168, .f32⟩
  | .hbm, ⟨4, _⟩ => ⟨S7168x9216, .fp8e4m3⟩
  | .hbm, ⟨5, _⟩ => ⟨S9216, .f32⟩
  | .hbm, ⟨6, _⟩ => ⟨S1x2048x9216, .fp8e5m2⟩
  | .hbm, ⟨7, _⟩ => ⟨S1x2048x72, .f32⟩
  | .hbm, ⟨8, _⟩ => ⟨S2048x7168, .fp8e4m3⟩
  | .hbm, ⟨9, _⟩ => ⟨S2048x9216, .fp8e5m2⟩
  | .hbm, ⟨10, _⟩ => ⟨S2048x72, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S1x7168, .f32⟩
  | .hbm, ⟨15, _⟩ => ⟨S1x9216, .f32⟩
  | .hbm, ⟨16, _⟩ => ⟨S2048x7168, .f32⟩
  | .hbm, ⟨17, _⟩ => ⟨S7168x2048, .bf16⟩
  | .hbm, ⟨18, _⟩ => ⟨S2048x128, .f32⟩
  | .hbm, ⟨19, _⟩ => ⟨S1x7168, .f32⟩
  | .hbm, ⟨20, _⟩ => ⟨S2048x1, .f32⟩
  | .hbm, ⟨21, _⟩ => ⟨S2048x1, .f32⟩
  | .hbm, ⟨22, _⟩ => ⟨S7168x9216, .f32⟩
  | .hbm, ⟨23, _⟩ => ⟨S2048x7168, .bf16⟩
  | .hbm, ⟨24, _⟩ => ⟨S1x2048x7168, .bf16⟩
  | .hbm, ⟨25, _⟩ => ⟨S7168, .f32⟩
  | .local _ .vmem, ⟨0, _⟩ => ⟨S2048x128, .f32⟩
  | .local _ .vmem, ⟨1, _⟩ => ⟨S1x9216, .f32⟩
  | .local _ .vmem, ⟨2, _⟩ => ⟨S256x9216, .fp8e4m3⟩
  | .local _ .vmem, ⟨3, _⟩ => ⟨S256x9216, .fp8e4m3⟩
  | .local _ .vmem, ⟨4, _⟩ => ⟨S2048x256, .fp8e4m3⟩
  | .local _ .vmem, ⟨5, _⟩ => ⟨S2048x256, .fp8e4m3⟩
  | .local _ .vmem, ⟨6, _⟩ => ⟨S1x2048, .f32⟩
  | .local _ .vmem, ⟨7, _⟩ => ⟨S1x2048, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S256x2048, .bf16⟩
  | .local _ .vmem, ⟨13, _⟩ => ⟨S256x2048, .bf16⟩
  | .local _ .vmem, ⟨14, _⟩ => ⟨S2048x128, .f32⟩
  | .local _ .vmem, ⟨15, _⟩ => ⟨S1x256, .f32⟩
  | .local _ .vmem, ⟨16, _⟩ => ⟨S1x256, .f32⟩
  | .local _ .vmem, ⟨17, _⟩ => ⟨S2048x9216, .bf16⟩
  | .local _ .vmem, ⟨18, _⟩ => ⟨S2x128x9216, .fp8e5m2⟩
  | .local _ .vmem, ⟨19, _⟩ => ⟨S2048x128, .f32⟩
  | .local _ .vmem, ⟨20, _⟩ => ⟨S2048x128, .f32⟩
  | .local _ .vmem, ⟨21, _⟩ => ⟨S7168x2048, .bf16⟩
  | .local _ .vmem, ⟨22, _⟩ => ⟨S2048x512, .fp8e5m2⟩
  | .local _ .vmem, ⟨23, _⟩ => ⟨S2048x512, .fp8e5m2⟩
  | .local _ .vmem, ⟨24, _⟩ => ⟨S2048x128, .f32⟩
  | .local _ .vmem, ⟨25, _⟩ => ⟨S32x7168, .f32⟩
  | .local _ .vmem, ⟨26, _⟩ => ⟨S32x7168, .f32⟩
  | .local _ .vmem, ⟨27, _⟩ => ⟨S32x7168, .fp8e4m3⟩
  | .local _ .vmem, ⟨28, _⟩ => ⟨S32x7168, .fp8e4m3⟩
  | .local _ .vmem, ⟨29, _⟩ => ⟨S32x1, .f32⟩
  | .local _ .vmem, ⟨30, _⟩ => ⟨S32x1, .f32⟩
  | .local _ .vmem, ⟨31, _⟩ => ⟨S32x1, .f32⟩
  | .local _ .vmem, ⟨32, _⟩ => ⟨S32x1, .f32⟩
  | .local _ .vmem, ⟨33, _⟩ => ⟨S1x7168, .f32⟩
  | .local _ .vmem, ⟨34, _⟩ => ⟨S32x128, .f32⟩
  | .local _ .vmem, ⟨35, _⟩ => ⟨S32x128, .f32⟩
  | .local _ .vmem, ⟨36, _⟩ => ⟨S1792x512, .f32⟩
  | .local _ .vmem, ⟨37, _⟩ => ⟨S1792x512, .f32⟩
  | .local _ .vmem, ⟨38, _⟩ => ⟨S32x7168, .bf16⟩
  | .local _ .vmem, ⟨39, _⟩ => ⟨S32x7168, .bf16⟩
  | .local _ .vmem, ⟨40, _⟩ => ⟨S2048x512, .bf16⟩
  | _, _ => ⟨S1x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_scratch0 : Ref sig .tc := ⟨.vmem, 40, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc1_sem0_0 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_221 : BitVec 32 := 0#32
  let c16_i32 : BitVec 32 := 16#32
  let v419 : BitVec 32 := Scalar.addi c0_i32_221 c16_i32
  let c1_i32_222 : BitVec 32 := 1#32
  ⟨c0_i32_221, v419, c1_i32_222⟩
def k0_cond2 (k0_t1 : Fin k0_t1_loop.trips) : BitVec 1 :=
  let c0_i32_221 : BitVec 32 := 0#32
  let c1_i32_222 : BitVec 32 := 1#32
  let arg18 : BitVec 32 := Scf.iv c0_i32_221 c1_i32_222 k0_t1
  let c1_i32_224 : BitVec 32 := 1#32
  let v421 : BitVec 32 := Scalar.addi arg18 c1_i32_224
  let c16_i32_225 : BitVec 32 := 16#32
  let v422 : BitVec 1 := Scalar.cmpi .slt v421 c16_i32_225
  let v423 : BitVec 32 := Scalar.extui v422
  let c0_i32_226 : BitVec 32 := 0#32
  let v424 : BitVec 1 := Scalar.cmpi .ne v423 c0_i32_226
  v424

def k0_off1 (k0_t1 : Fin k0_t1_loop.trips) : Fin 1 → Nat :=
  let c1_i32_530 : BitVec 32 := 1#32
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1733 : BitVec 32 := Scalar.subi c1_i32_530 v420
  ![v1733.toNat]
def k0_off2 (k0_t1 : Fin k0_t1_loop.trips) : Fin 3 → Nat :=
  let c1_i32_530 : BitVec 32 := 1#32
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1733 : BitVec 32 := Scalar.subi c1_i32_530 v420
  let c0_i32_532 : BitVec 32 := 0#32
  let c0_i32_533 : BitVec 32 := 0#32
  ![v1733.toNat, 0, 0]
def k0_off3 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c1_i32_529 : BitVec 32 := 1#32
  let v1732 : BitVec 32 := Scalar.addi arg18 c1_i32_529
  let c128_i32_531 : BitVec 32 := 128#32
  let v1734 : BitVec 32 := Scalar.muli v1732 c128_i32_531
  let c0_i32_534 : BitVec 32 := 0#32
  ![v1734.toNat, 0]
def k0_off4 (k0_t1 : Fin k0_t1_loop.trips) : Fin 1 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  ![v420.toNat]
def k0_off5 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let c0_i32_227 : BitVec 32 := 0#32
  let c0_i32_228 : BitVec 32 := 0#32
  ![v420.toNat, 0, 0]
def k0_off6 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32 : BitVec 32 := 128#32
  let v425 : BitVec 32 := Scalar.muli arg18 c128_i32
  let c0_i32_229 : BitVec 32 := 0#32
  ![v425.toNat, 0]
def k0_mult1 (k0_t1 : Fin k0_t1_loop.trips) : BitVec 32 :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  v431
def k0_off7 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v433 : Index := Scalar.indexCast v432
  let c0_231 : Index := 0#32
  ![v433.toNat, 0]
def k0_off8 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v442 : Index := Scalar.indexCast v420
  let c0_234 : Index := 0#32
  let c0_235 : Index := 0#32
  ![v442.toNat, 0, 0]
def k0_off9 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v450 : Index := Scalar.indexCast v432
  let c0_236 : Index := 0#32
  ![v450.toNat, 0]
def k0_off10 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v460 : Index := Scalar.indexCast v420
  let c0_239 : Index := 0#32
  let c128_240 : Index := 128#32
  ![v460.toNat, 0, 128]
def k0_off11 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v468 : Index := Scalar.indexCast v432
  let c128_241 : Index := 128#32
  ![v468.toNat, 128]
def k0_off12 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v478 : Index := Scalar.indexCast v420
  let c0_244 : Index := 0#32
  let c256_245 : Index := 256#32
  ![v478.toNat, 0, 256]
def k0_off13 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v486 : Index := Scalar.indexCast v432
  let c256_246 : Index := 256#32
  ![v486.toNat, 256]
def k0_off14 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v496 : Index := Scalar.indexCast v420
  let c0_248 : Index := 0#32
  let c384_249 : Index := 384#32
  ![v496.toNat, 0, 384]
def k0_off15 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v504 : Index := Scalar.indexCast v432
  let c384_250 : Index := 384#32
  ![v504.toNat, 384]
def k0_off16 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v514 : Index := Scalar.indexCast v420
  let c0_253 : Index := 0#32
  let c512_254 : Index := 512#32
  ![v514.toNat, 0, 512]
def k0_off17 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v522 : Index := Scalar.indexCast v432
  let c512_255 : Index := 512#32
  ![v522.toNat, 512]
def k0_off18 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v532 : Index := Scalar.indexCast v420
  let c0_257 : Index := 0#32
  let c640_258 : Index := 640#32
  ![v532.toNat, 0, 640]
def k0_off19 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v540 : Index := Scalar.indexCast v432
  let c640_259 : Index := 640#32
  ![v540.toNat, 640]
def k0_off20 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v550 : Index := Scalar.indexCast v420
  let c0_262 : Index := 0#32
  let c768_263 : Index := 768#32
  ![v550.toNat, 0, 768]
def k0_off21 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v558 : Index := Scalar.indexCast v432
  let c768_264 : Index := 768#32
  ![v558.toNat, 768]
def k0_off22 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v568 : Index := Scalar.indexCast v420
  let c0_266 : Index := 0#32
  let c896_267 : Index := 896#32
  ![v568.toNat, 0, 896]
def k0_off23 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v576 : Index := Scalar.indexCast v432
  let c896_268 : Index := 896#32
  ![v576.toNat, 896]
def k0_off24 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v586 : Index := Scalar.indexCast v420
  let c0_271 : Index := 0#32
  let c1024_272 : Index := 1024#32
  ![v586.toNat, 0, 1024]
def k0_off25 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v594 : Index := Scalar.indexCast v432
  let c1024_273 : Index := 1024#32
  ![v594.toNat, 1024]
def k0_off26 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v604 : Index := Scalar.indexCast v420
  let c0_275 : Index := 0#32
  let c1152_276 : Index := 1152#32
  ![v604.toNat, 0, 1152]
def k0_off27 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v612 : Index := Scalar.indexCast v432
  let c1152_277 : Index := 1152#32
  ![v612.toNat, 1152]
def k0_off28 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v622 : Index := Scalar.indexCast v420
  let c0_280 : Index := 0#32
  let c1280_281 : Index := 1280#32
  ![v622.toNat, 0, 1280]
def k0_off29 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v630 : Index := Scalar.indexCast v432
  let c1280_282 : Index := 1280#32
  ![v630.toNat, 1280]
def k0_off30 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v640 : Index := Scalar.indexCast v420
  let c0_284 : Index := 0#32
  let c1408_285 : Index := 1408#32
  ![v640.toNat, 0, 1408]
def k0_off31 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v648 : Index := Scalar.indexCast v432
  let c1408_286 : Index := 1408#32
  ![v648.toNat, 1408]
def k0_off32 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v658 : Index := Scalar.indexCast v420
  let c0_289 : Index := 0#32
  let c1536_290 : Index := 1536#32
  ![v658.toNat, 0, 1536]
def k0_off33 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v666 : Index := Scalar.indexCast v432
  let c1536_291 : Index := 1536#32
  ![v666.toNat, 1536]
def k0_off34 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v676 : Index := Scalar.indexCast v420
  let c0_293 : Index := 0#32
  let c1664_294 : Index := 1664#32
  ![v676.toNat, 0, 1664]
def k0_off35 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v684 : Index := Scalar.indexCast v432
  let c1664_295 : Index := 1664#32
  ![v684.toNat, 1664]
def k0_off36 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v694 : Index := Scalar.indexCast v420
  let c0_298 : Index := 0#32
  let c1792_299 : Index := 1792#32
  ![v694.toNat, 0, 1792]
def k0_off37 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v702 : Index := Scalar.indexCast v432
  let c1792_300 : Index := 1792#32
  ![v702.toNat, 1792]
def k0_off38 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v712 : Index := Scalar.indexCast v420
  let c0_302 : Index := 0#32
  let c1920_303 : Index := 1920#32
  ![v712.toNat, 0, 1920]
def k0_off39 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v720 : Index := Scalar.indexCast v432
  let c1920_304 : Index := 1920#32
  ![v720.toNat, 1920]
def k0_off40 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v730 : Index := Scalar.indexCast v420
  let c0_306 : Index := 0#32
  let c2048_307 : Index := 2048#32
  ![v730.toNat, 0, 2048]
def k0_off41 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v738 : Index := Scalar.indexCast v432
  let c2048_308 : Index := 2048#32
  ![v738.toNat, 2048]
def k0_off42 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v748 : Index := Scalar.indexCast v420
  let c0_310 : Index := 0#32
  let c2176_311 : Index := 2176#32
  ![v748.toNat, 0, 2176]
def k0_off43 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v756 : Index := Scalar.indexCast v432
  let c2176_312 : Index := 2176#32
  ![v756.toNat, 2176]
def k0_off44 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v766 : Index := Scalar.indexCast v420
  let c0_314 : Index := 0#32
  let c2304_315 : Index := 2304#32
  ![v766.toNat, 0, 2304]
def k0_off45 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v774 : Index := Scalar.indexCast v432
  let c2304_316 : Index := 2304#32
  ![v774.toNat, 2304]
def k0_off46 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v784 : Index := Scalar.indexCast v420
  let c0_318 : Index := 0#32
  let c2432_319 : Index := 2432#32
  ![v784.toNat, 0, 2432]
def k0_off47 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v792 : Index := Scalar.indexCast v432
  let c2432_320 : Index := 2432#32
  ![v792.toNat, 2432]
def k0_off48 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v802 : Index := Scalar.indexCast v420
  let c0_322 : Index := 0#32
  let c2560_323 : Index := 2560#32
  ![v802.toNat, 0, 2560]
def k0_off49 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v810 : Index := Scalar.indexCast v432
  let c2560_324 : Index := 2560#32
  ![v810.toNat, 2560]
def k0_off50 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v820 : Index := Scalar.indexCast v420
  let c0_326 : Index := 0#32
  let c2688_327 : Index := 2688#32
  ![v820.toNat, 0, 2688]
def k0_off51 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v828 : Index := Scalar.indexCast v432
  let c2688_328 : Index := 2688#32
  ![v828.toNat, 2688]
def k0_off52 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v838 : Index := Scalar.indexCast v420
  let c0_330 : Index := 0#32
  let c2816_331 : Index := 2816#32
  ![v838.toNat, 0, 2816]
def k0_off53 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v846 : Index := Scalar.indexCast v432
  let c2816_332 : Index := 2816#32
  ![v846.toNat, 2816]
def k0_off54 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v856 : Index := Scalar.indexCast v420
  let c0_334 : Index := 0#32
  let c2944_335 : Index := 2944#32
  ![v856.toNat, 0, 2944]
def k0_off55 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v864 : Index := Scalar.indexCast v432
  let c2944_336 : Index := 2944#32
  ![v864.toNat, 2944]
def k0_off56 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v874 : Index := Scalar.indexCast v420
  let c0_338 : Index := 0#32
  let c3072_339 : Index := 3072#32
  ![v874.toNat, 0, 3072]
def k0_off57 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v882 : Index := Scalar.indexCast v432
  let c3072_340 : Index := 3072#32
  ![v882.toNat, 3072]
def k0_off58 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v892 : Index := Scalar.indexCast v420
  let c0_342 : Index := 0#32
  let c3200_343 : Index := 3200#32
  ![v892.toNat, 0, 3200]
def k0_off59 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v900 : Index := Scalar.indexCast v432
  let c3200_344 : Index := 3200#32
  ![v900.toNat, 3200]
def k0_off60 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v910 : Index := Scalar.indexCast v420
  let c0_346 : Index := 0#32
  let c3328_347 : Index := 3328#32
  ![v910.toNat, 0, 3328]
def k0_off61 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v918 : Index := Scalar.indexCast v432
  let c3328_348 : Index := 3328#32
  ![v918.toNat, 3328]
def k0_off62 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v928 : Index := Scalar.indexCast v420
  let c0_350 : Index := 0#32
  let c3456_351 : Index := 3456#32
  ![v928.toNat, 0, 3456]
def k0_off63 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v936 : Index := Scalar.indexCast v432
  let c3456_352 : Index := 3456#32
  ![v936.toNat, 3456]
def k0_off64 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v946 : Index := Scalar.indexCast v420
  let c0_354 : Index := 0#32
  let c3584_355 : Index := 3584#32
  ![v946.toNat, 0, 3584]
def k0_off65 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v954 : Index := Scalar.indexCast v432
  let c3584_356 : Index := 3584#32
  ![v954.toNat, 3584]
def k0_off66 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v964 : Index := Scalar.indexCast v420
  let c0_358 : Index := 0#32
  let c3712_359 : Index := 3712#32
  ![v964.toNat, 0, 3712]
def k0_off67 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v972 : Index := Scalar.indexCast v432
  let c3712_360 : Index := 3712#32
  ![v972.toNat, 3712]
def k0_off68 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v982 : Index := Scalar.indexCast v420
  let c0_362 : Index := 0#32
  let c3840_363 : Index := 3840#32
  ![v982.toNat, 0, 3840]
def k0_off69 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v990 : Index := Scalar.indexCast v432
  let c3840_364 : Index := 3840#32
  ![v990.toNat, 3840]
def k0_off70 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1000 : Index := Scalar.indexCast v420
  let c0_366 : Index := 0#32
  let c3968_367 : Index := 3968#32
  ![v1000.toNat, 0, 3968]
def k0_off71 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1008 : Index := Scalar.indexCast v432
  let c3968_368 : Index := 3968#32
  ![v1008.toNat, 3968]
def k0_off72 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1018 : Index := Scalar.indexCast v420
  let c0_370 : Index := 0#32
  let c4096_371 : Index := 4096#32
  ![v1018.toNat, 0, 4096]
def k0_off73 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1026 : Index := Scalar.indexCast v432
  let c4096_372 : Index := 4096#32
  ![v1026.toNat, 4096]
def k0_off74 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1036 : Index := Scalar.indexCast v420
  let c0_374 : Index := 0#32
  let c4224_375 : Index := 4224#32
  ![v1036.toNat, 0, 4224]
def k0_off75 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1044 : Index := Scalar.indexCast v432
  let c4224_376 : Index := 4224#32
  ![v1044.toNat, 4224]
def k0_off76 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1054 : Index := Scalar.indexCast v420
  let c0_378 : Index := 0#32
  let c4352_379 : Index := 4352#32
  ![v1054.toNat, 0, 4352]
def k0_off77 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1062 : Index := Scalar.indexCast v432
  let c4352_380 : Index := 4352#32
  ![v1062.toNat, 4352]
def k0_off78 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1072 : Index := Scalar.indexCast v420
  let c0_382 : Index := 0#32
  let c4480_383 : Index := 4480#32
  ![v1072.toNat, 0, 4480]
def k0_off79 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1080 : Index := Scalar.indexCast v432
  let c4480_384 : Index := 4480#32
  ![v1080.toNat, 4480]
def k0_off80 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1090 : Index := Scalar.indexCast v420
  let c0_386 : Index := 0#32
  let c4608_387 : Index := 4608#32
  ![v1090.toNat, 0, 4608]
def k0_off81 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1098 : Index := Scalar.indexCast v432
  let c4608_388 : Index := 4608#32
  ![v1098.toNat, 4608]
def k0_off82 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1108 : Index := Scalar.indexCast v420
  let c0_390 : Index := 0#32
  let c4736_391 : Index := 4736#32
  ![v1108.toNat, 0, 4736]
def k0_off83 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1116 : Index := Scalar.indexCast v432
  let c4736_392 : Index := 4736#32
  ![v1116.toNat, 4736]
def k0_off84 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1126 : Index := Scalar.indexCast v420
  let c0_394 : Index := 0#32
  let c4864_395 : Index := 4864#32
  ![v1126.toNat, 0, 4864]
def k0_off85 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1134 : Index := Scalar.indexCast v432
  let c4864_396 : Index := 4864#32
  ![v1134.toNat, 4864]
def k0_off86 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1144 : Index := Scalar.indexCast v420
  let c0_398 : Index := 0#32
  let c4992_399 : Index := 4992#32
  ![v1144.toNat, 0, 4992]
def k0_off87 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1152 : Index := Scalar.indexCast v432
  let c4992_400 : Index := 4992#32
  ![v1152.toNat, 4992]
def k0_off88 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1162 : Index := Scalar.indexCast v420
  let c0_402 : Index := 0#32
  let c5120_403 : Index := 5120#32
  ![v1162.toNat, 0, 5120]
def k0_off89 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1170 : Index := Scalar.indexCast v432
  let c5120_404 : Index := 5120#32
  ![v1170.toNat, 5120]
def k0_off90 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1180 : Index := Scalar.indexCast v420
  let c0_406 : Index := 0#32
  let c5248_407 : Index := 5248#32
  ![v1180.toNat, 0, 5248]
def k0_off91 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1188 : Index := Scalar.indexCast v432
  let c5248_408 : Index := 5248#32
  ![v1188.toNat, 5248]
def k0_off92 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1198 : Index := Scalar.indexCast v420
  let c0_410 : Index := 0#32
  let c5376_411 : Index := 5376#32
  ![v1198.toNat, 0, 5376]
def k0_off93 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1206 : Index := Scalar.indexCast v432
  let c5376_412 : Index := 5376#32
  ![v1206.toNat, 5376]
def k0_off94 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1216 : Index := Scalar.indexCast v420
  let c0_414 : Index := 0#32
  let c5504_415 : Index := 5504#32
  ![v1216.toNat, 0, 5504]
def k0_off95 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1224 : Index := Scalar.indexCast v432
  let c5504_416 : Index := 5504#32
  ![v1224.toNat, 5504]
def k0_off96 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1234 : Index := Scalar.indexCast v420
  let c0_418 : Index := 0#32
  let c5632_419 : Index := 5632#32
  ![v1234.toNat, 0, 5632]
def k0_off97 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1242 : Index := Scalar.indexCast v432
  let c5632_420 : Index := 5632#32
  ![v1242.toNat, 5632]
def k0_off98 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1252 : Index := Scalar.indexCast v420
  let c0_422 : Index := 0#32
  let c5760_423 : Index := 5760#32
  ![v1252.toNat, 0, 5760]
def k0_off99 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1260 : Index := Scalar.indexCast v432
  let c5760_424 : Index := 5760#32
  ![v1260.toNat, 5760]
def k0_off100 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1270 : Index := Scalar.indexCast v420
  let c0_426 : Index := 0#32
  let c5888_427 : Index := 5888#32
  ![v1270.toNat, 0, 5888]
def k0_off101 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1278 : Index := Scalar.indexCast v432
  let c5888_428 : Index := 5888#32
  ![v1278.toNat, 5888]
def k0_off102 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1288 : Index := Scalar.indexCast v420
  let c0_430 : Index := 0#32
  let c6016_431 : Index := 6016#32
  ![v1288.toNat, 0, 6016]
def k0_off103 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1296 : Index := Scalar.indexCast v432
  let c6016_432 : Index := 6016#32
  ![v1296.toNat, 6016]
def k0_off104 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1306 : Index := Scalar.indexCast v420
  let c0_434 : Index := 0#32
  let c6144_435 : Index := 6144#32
  ![v1306.toNat, 0, 6144]
def k0_off105 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1314 : Index := Scalar.indexCast v432
  let c6144_436 : Index := 6144#32
  ![v1314.toNat, 6144]
def k0_off106 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1324 : Index := Scalar.indexCast v420
  let c0_438 : Index := 0#32
  let c6272_439 : Index := 6272#32
  ![v1324.toNat, 0, 6272]
def k0_off107 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1332 : Index := Scalar.indexCast v432
  let c6272_440 : Index := 6272#32
  ![v1332.toNat, 6272]
def k0_off108 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1342 : Index := Scalar.indexCast v420
  let c0_442 : Index := 0#32
  let c6400_443 : Index := 6400#32
  ![v1342.toNat, 0, 6400]
def k0_off109 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1350 : Index := Scalar.indexCast v432
  let c6400_444 : Index := 6400#32
  ![v1350.toNat, 6400]
def k0_off110 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1360 : Index := Scalar.indexCast v420
  let c0_446 : Index := 0#32
  let c6528_447 : Index := 6528#32
  ![v1360.toNat, 0, 6528]
def k0_off111 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1368 : Index := Scalar.indexCast v432
  let c6528_448 : Index := 6528#32
  ![v1368.toNat, 6528]
def k0_off112 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1378 : Index := Scalar.indexCast v420
  let c0_450 : Index := 0#32
  let c6656_451 : Index := 6656#32
  ![v1378.toNat, 0, 6656]
def k0_off113 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1386 : Index := Scalar.indexCast v432
  let c6656_452 : Index := 6656#32
  ![v1386.toNat, 6656]
def k0_off114 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1396 : Index := Scalar.indexCast v420
  let c0_454 : Index := 0#32
  let c6784_455 : Index := 6784#32
  ![v1396.toNat, 0, 6784]
def k0_off115 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1404 : Index := Scalar.indexCast v432
  let c6784_456 : Index := 6784#32
  ![v1404.toNat, 6784]
def k0_off116 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1414 : Index := Scalar.indexCast v420
  let c0_458 : Index := 0#32
  let c6912_459 : Index := 6912#32
  ![v1414.toNat, 0, 6912]
def k0_off117 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1422 : Index := Scalar.indexCast v432
  let c6912_460 : Index := 6912#32
  ![v1422.toNat, 6912]
def k0_off118 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1432 : Index := Scalar.indexCast v420
  let c0_462 : Index := 0#32
  let c7040_463 : Index := 7040#32
  ![v1432.toNat, 0, 7040]
def k0_off119 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1440 : Index := Scalar.indexCast v432
  let c7040_464 : Index := 7040#32
  ![v1440.toNat, 7040]
def k0_off120 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1450 : Index := Scalar.indexCast v420
  let c0_466 : Index := 0#32
  let c7168_467 : Index := 7168#32
  ![v1450.toNat, 0, 7168]
def k0_off121 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1458 : Index := Scalar.indexCast v432
  let c7168_468 : Index := 7168#32
  ![v1458.toNat, 7168]
def k0_off122 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1468 : Index := Scalar.indexCast v420
  let c0_470 : Index := 0#32
  let c7296_471 : Index := 7296#32
  ![v1468.toNat, 0, 7296]
def k0_off123 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1476 : Index := Scalar.indexCast v432
  let c7296_472 : Index := 7296#32
  ![v1476.toNat, 7296]
def k0_off124 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1486 : Index := Scalar.indexCast v420
  let c0_474 : Index := 0#32
  let c7424_475 : Index := 7424#32
  ![v1486.toNat, 0, 7424]
def k0_off125 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1494 : Index := Scalar.indexCast v432
  let c7424_476 : Index := 7424#32
  ![v1494.toNat, 7424]
def k0_off126 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1504 : Index := Scalar.indexCast v420
  let c0_478 : Index := 0#32
  let c7552_479 : Index := 7552#32
  ![v1504.toNat, 0, 7552]
def k0_off127 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1512 : Index := Scalar.indexCast v432
  let c7552_480 : Index := 7552#32
  ![v1512.toNat, 7552]
def k0_off128 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1522 : Index := Scalar.indexCast v420
  let c0_482 : Index := 0#32
  let c7680_483 : Index := 7680#32
  ![v1522.toNat, 0, 7680]
def k0_off129 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1530 : Index := Scalar.indexCast v432
  let c7680_484 : Index := 7680#32
  ![v1530.toNat, 7680]
def k0_off130 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1540 : Index := Scalar.indexCast v420
  let c0_486 : Index := 0#32
  let c7808_487 : Index := 7808#32
  ![v1540.toNat, 0, 7808]
def k0_off131 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1548 : Index := Scalar.indexCast v432
  let c7808_488 : Index := 7808#32
  ![v1548.toNat, 7808]
def k0_off132 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1558 : Index := Scalar.indexCast v420
  let c0_490 : Index := 0#32
  let c7936_491 : Index := 7936#32
  ![v1558.toNat, 0, 7936]
def k0_off133 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1566 : Index := Scalar.indexCast v432
  let c7936_492 : Index := 7936#32
  ![v1566.toNat, 7936]
def k0_off134 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1576 : Index := Scalar.indexCast v420
  let c0_494 : Index := 0#32
  let c8064_495 : Index := 8064#32
  ![v1576.toNat, 0, 8064]
def k0_off135 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1584 : Index := Scalar.indexCast v432
  let c8064_496 : Index := 8064#32
  ![v1584.toNat, 8064]
def k0_off136 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1594 : Index := Scalar.indexCast v420
  let c0_498 : Index := 0#32
  let c8192_499 : Index := 8192#32
  ![v1594.toNat, 0, 8192]
def k0_off137 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1602 : Index := Scalar.indexCast v432
  let c8192_500 : Index := 8192#32
  ![v1602.toNat, 8192]
def k0_off138 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1612 : Index := Scalar.indexCast v420
  let c0_502 : Index := 0#32
  let c8320_503 : Index := 8320#32
  ![v1612.toNat, 0, 8320]
def k0_off139 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1620 : Index := Scalar.indexCast v432
  let c8320_504 : Index := 8320#32
  ![v1620.toNat, 8320]
def k0_off140 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1630 : Index := Scalar.indexCast v420
  let c0_506 : Index := 0#32
  let c8448_507 : Index := 8448#32
  ![v1630.toNat, 0, 8448]
def k0_off141 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1638 : Index := Scalar.indexCast v432
  let c8448_508 : Index := 8448#32
  ![v1638.toNat, 8448]
def k0_off142 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1648 : Index := Scalar.indexCast v420
  let c0_510 : Index := 0#32
  let c8576_511 : Index := 8576#32
  ![v1648.toNat, 0, 8576]
def k0_off143 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1656 : Index := Scalar.indexCast v432
  let c8576_512 : Index := 8576#32
  ![v1656.toNat, 8576]
def k0_off144 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1666 : Index := Scalar.indexCast v420
  let c0_514 : Index := 0#32
  let c8704_515 : Index := 8704#32
  ![v1666.toNat, 0, 8704]
def k0_off145 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1674 : Index := Scalar.indexCast v432
  let c8704_516 : Index := 8704#32
  ![v1674.toNat, 8704]
def k0_off146 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1684 : Index := Scalar.indexCast v420
  let c0_518 : Index := 0#32
  let c8832_519 : Index := 8832#32
  ![v1684.toNat, 0, 8832]
def k0_off147 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1692 : Index := Scalar.indexCast v432
  let c8832_520 : Index := 8832#32
  ![v1692.toNat, 8832]
def k0_off148 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1702 : Index := Scalar.indexCast v420
  let c0_522 : Index := 0#32
  let c8960_523 : Index := 8960#32
  ![v1702.toNat, 0, 8960]
def k0_off149 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1710 : Index := Scalar.indexCast v432
  let c8960_524 : Index := 8960#32
  ![v1710.toNat, 8960]
def k0_off150 (k0_t1 : Fin k0_t1_loop.trips) : Fin 3 → Nat :=
  let c0_i32_221 : BitVec 32 := 0#32
  let c1_i32_222 : BitVec 32 := 1#32
  let arg18 : BitVec 32 := Scf.iv c0_i32_221 c1_i32_222 k0_t1
  let c2_i32 : BitVec 32 := 2#32
  let v420 : BitVec 32 := Scalar.remsi arg18 c2_i32
  let v1720 : Index := Scalar.indexCast v420
  let c0_526 : Index := 0#32
  let c9088_527 : Index := 9088#32
  ![v1720.toNat, 0, 9088]
def k0_off151 (k0_t1 : Fin k0_t1_loop.trips) : Fin 2 → Nat :=
  let c0_i32_221 : BitVec 32 := 0#32
  let c1_i32_222 : BitVec 32 := 1#32
  let arg18 : BitVec 32 := Scf.iv c0_i32_221 c1_i32_222 k0_t1
  let c128_i32_230 : BitVec 32 := 128#32
  let v431 : BitVec 32 := Scalar.muli arg18 c128_i32_230
  let v432 : BitVec 32 := v431
  let v1728 : Index := Scalar.indexCast v432
  let c9088_528 : Index := 9088#32
  ![v1728.toNat, 9088]
@[reducible] def k0_t2_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg18 : BitVec 32 := Scf.iv c0_i32_1 c1_i32 k0_t2
  let c512_i32 : BitVec 32 := 512#32
  let v398 : BitVec 32 := Scalar.muli arg18 c512_i32
  v398
def k0_off152 (k0_t2 : Fin k0_t2_loop.trips) : Fin 2 → Nat :=
  let c0_i32_1 : BitVec 32 := 0#32
  let c1_i32 : BitVec 32 := 1#32
  let arg18 : BitVec 32 := Scf.iv c0_i32_1 c1_i32 k0_t2
  let c512_i32 : BitVec 32 := 512#32
  let v398 : BitVec 32 := Scalar.muli arg18 c512_i32
  let v399 : BitVec 32 := v398
  let v400 : Index := Scalar.indexCast v399
  let c0_204 : Index := 0#32
  ![v400.toNat, 0]
def k0_off153 (k0_t2 : Fin k0_t2_loop.trips) : Fin 2 → Nat :=
  let c0_i32_1 : BitVec 32 := 0#32
  let c1_i32 : BitVec 32 := 1#32
  let arg18 : BitVec 32 := Scf.iv c0_i32_1 c1_i32 k0_t2
  let c512_i32 : BitVec 32 := 512#32
  let v398 : BitVec 32 := Scalar.muli arg18 c512_i32
  let v399 : BitVec 32 := v398
  let v404 : Index := Scalar.indexCast v399
  let c0_208 : Index := 0#32
  ![v404.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x9216 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![18, 4], ![false, false]⟩

def k1_mult1 (i : grid1.Coords) : BitVec 32 :=
  let arg1 : BitVec 32 := BitVec.ofNat 32 (i 1).val
  let c1792_i32 : BitVec 32 := 1792#32
  let v3 : BitVec 32 := Scalar.muli arg1 c1792_i32
  v3
def k1_off1 (i : grid1.Coords) : Fin 2 → Nat :=
  let arg1 : BitVec 32 := BitVec.ofNat 32 (i 1).val
  let c1792_i32 : BitVec 32 := 1792#32
  let v3 : BitVec 32 := Scalar.muli arg1 c1792_i32
  let v4 : BitVec 32 := v3
  let v5 : Index := Scalar.indexCast v4
  let c0 : Index := 0#32
  ![v5.toNat, 0]
def k1_cond2 (i : grid1.Coords) : BitVec 1 :=
  let arg0 : BitVec 32 := BitVec.ofNat 32 (i 0).val
  let c4_i32 : BitVec 32 := 4#32
  let v11 : BitVec 32 := Scalar.muli arg0 c4_i32
  let arg1 : BitVec 32 := BitVec.ofNat 32 (i 1).val
  let v12 : BitVec 32 := Scalar.addi v11 arg1
  let c64_i32 : BitVec 32 := 64#32
  let v13 : BitVec 1 := Scalar.cmpi .slt v12 c64_i32
  let v14 : BitVec 32 := Scalar.extui v13
  let c0_i32_5 : BitVec 32 := 0#32
  let v15 : BitVec 1 := Scalar.cmpi .ne v14 c0_i32_5
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage1_0 : Fin 1 → Memref sig .tc .vmem S7168x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x512 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32x7168 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x7168 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S32x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1x7168 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S32x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1792x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S32x7168 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S1x2048x7168 : Shape := ⟨3, ![1, 2048, 7168]⟩
abbrev S1x2048 : Shape := ⟨2, ![1, 2048]⟩
abbrev S7168 : Shape := ⟨1, ![7168]⟩
abbrev S7168x9216 : Shape := ⟨2, ![7168, 9216]⟩
abbrev S9216 : Shape := ⟨1, ![9216]⟩
abbrev S1x2048x9216 : Shape := ⟨3, ![1, 2048, 9216]⟩
abbrev S1x2048x72 : Shape := ⟨3, ![1, 2048, 72]⟩
abbrev S1x2048x1 : Shape := ⟨3, ![1, 2048, 1]⟩
abbrev S1x1x7168 : Shape := ⟨3, ![1, 1, 7168]⟩
abbrev S1x2048x72x128 : Shape := ⟨4, ![1, 2048, 72, 128]⟩
abbrev S1x2048x72x1 : Shape := ⟨4, ![1, 2048, 72, 1]⟩
abbrev S1x9216 : Shape := ⟨2, ![1, 9216]⟩

abbrev nBuf : Space → Nat
  | .hbm => 11
  | .vmem => 11
  | .smem => 0
  | _ => 0

abbrev bufTy : (tb : Table) → Fin (tcTables nBuf tb) → BufTy
  | .hbm, ⟨0, _⟩ => ⟨S1x2048x7168, .fp8e4m3⟩
  | .hbm, ⟨1, _⟩ => ⟨S1x2048, .f32⟩
  | .hbm, ⟨2, _⟩ => ⟨S1x2048, .f32⟩
  | .hbm, ⟨3, _⟩ => ⟨S7168, .f32⟩
  | .hbm, ⟨4, _⟩ => ⟨S7168x9216, .fp8e4m3⟩
  | .hbm, ⟨5, _⟩ => ⟨S9216, .f32⟩
  | .hbm, ⟨6, _⟩ => ⟨S1x2048x9216, .fp8e5m2⟩
  | .hbm, ⟨7, _⟩ => ⟨S1x2048x72, .f32⟩
  | .hbm, ⟨8, _⟩ => ⟨S1x2048x7168, .bf16⟩
  | .hbm, ⟨9, _⟩ => ⟨S7168x9216, .f32⟩
  | .hbm, ⟨10, _⟩ => ⟨S7168, .f32⟩
  | .local _ .vmem, ⟨0, _⟩ => ⟨S1x2048x7168, .fp8e4m3⟩
  | .local _ .vmem, ⟨1, _⟩ => ⟨S1x2048, .f32⟩
  | .local _ .vmem, ⟨2, _⟩ => ⟨S1x2048, .f32⟩
  | .local _ .vmem, ⟨3, _⟩ => ⟨S7168, .f32⟩
  | .local _ .vmem, ⟨4, _⟩ => ⟨S7168x9216, .fp8e4m3⟩
  | .local _ .vmem, ⟨5, _⟩ => ⟨S9216, .f32⟩
  | .local _ .vmem, ⟨6, _⟩ => ⟨S1x2048x9216, .fp8e5m2⟩
  | .local _ .vmem, ⟨7, _⟩ => ⟨S1x2048x72, .f32⟩
  | .local _ .vmem, ⟨8, _⟩ => ⟨S1x2048x7168, .bf16⟩
  | .local _ .vmem, ⟨9, _⟩ => ⟨S7168x9216, .f32⟩
  | .local _ .vmem, ⟨10, _⟩ => ⟨S7168, .f32⟩
  | _, _ => ⟨S1x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048x9216 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x9216 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Run.Kernel.Ring.lean ====
/-
  The first call's hand-made double buffer: the names of its pieces. The quantised output gradient stays in HBM; the
  body copies it in sixteen chunks of 128 rows into the two slots of a staging buffer, chunk `c` into slot `c % 2` on
  semaphore `c % 2`. Here: the chunks, slots and semaphores under one name each, the equations that restate the
  body's own slices by those names, and what "in flight", "home" and "free" say.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the body's own copies ride on. -/
abbrev UU (nD : Nat) (τ : Topo) : Type := UR sig nD τ × Counters
local notation "𝕄" => MT nD τ sig Unit (Elt F) ℕ (UU nD τ) ℕ
/-- The pipeline library's part of it. -/
abbrev EP : Emb (UR sig nD τ) (MT nD τ sig Unit (Elt F) ℕ (UU nD τ) ℕ) := embL
/-- No loop of the program needs a variant. -/
abbrev 𝒱₀ : Variants := Variants.none

omit [FloatOps F] in
theorem entails_of_eq {P Q : sProp 𝕄} (e : P = Q) : P ⊢ Q := e ▸ .rfl

/-! ## Chunks, slots, semaphores -/

/-- The quantised output gradient, whole, in HBM. -/
abbrev hbm : Memref sig .tc .hbm S2048x9216 .fp8e5m2 := Memref.whole main_v1
/-- The staging buffer of two slots, whole. -/
abbrev stg : Memref sig .tc .vmem S2x128x9216 .fp8e5m2 := Memref.whole cc0_scratch1

abbrev chOff (b : Fin 16) : Fin 2 → Nat := ![128 * b.val, 0]
theorem chOff_inb (b : Fin 16) : ∀ a, chOff b a + S128x9216.size a ≤ S2048x9216.size a := by
  have := b.isLt; intro a; fin_cases a
  · show 128 * b.val + 128 ≤ 2048; omega
  · show 0 + 9216 ≤ 9216; omega
abbrev slotOff (s : Fin 2) : Fin 3 → Nat := ![s.val, 0, 0]
theorem slotOff_inb (s : Fin 2) : ∀ a, slotOff s a + S1x128x9216.size a ≤ S2x128x9216.size a := by
  have := s.isLt; intro a; fin_cases a
  · show s.val + 1 ≤ 2; omega
  · show 0 + 128 ≤ 128; omega
  · show 0 + 9216 ≤ 9216; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b`: rows `128 b` to `128 b + 127`. -/
def chunk (b : Fin 16) : Memref sig .tc .hbm S128x9216 .fp8e5m2 :=
  hbm.slice (Rect.unit (s := S2048x9216) (chOff b) S128x9216.size (chOff_inb b)) (fun _ => rfl)
/-- Slot `s` of the staging buffer. -/
def slot (s : Fin 2) : Memref sig .tc .vmem S128x9216 .fp8e5m2 :=
  (stg.slice (Rect.unit (s := S2x128x9216) (slotOff s) S1x128x9216.size (slotOff_inb s)) (fun _ => rfl)).squeeze S128x9216 squeezes_S1x128x9216_S128x9216
/-- Slot `s`'s semaphore. -/
def csm (s : Fin 2) : DmaSems sig S_ := (cc0_scratch4.slice (Rect.unit (s := S2) (semOff s) S1.size (semOff_inb s))).squeeze S_ squeezes_S1_S_

instance (s : Fin 2) : ClosedOff (slotOff s) := ⟨slotOff s, rfl⟩
instance (b : Fin 16) : ClosedOff (chOff b) := ⟨chOff b, rfl⟩

theorem trips_eq : k0_t1_loop.trips = 16 := by decide

/-- The other slot than the trip's own. -/
theorem sl_succ_val (k : ℕ) : (Ring.sl 2 (k + 1)).val = 1 - k % 2 := by
  simp only [Ring.sl, Fin.ofNat]; omega
theorem sl_val (k : ℕ) : (Ring.sl 2 k).val = k % 2 := rfl

theorem off1_eq (k : Fin k0_t1_loop.trips) : k0_off1 k = semOff (Ring.sl 2 (k.val + 1)) := by
  rw [k0_off1_eq]; unfold semOff; rw [sl_succ_val]
theorem off2_eq (k : Fin k0_t1_loop.trips) : k0_off2 k = slotOff (Ring.sl 2 (k.val + 1)) := by
  rw [k0_off2_eq]; unfold slotOff; rw [sl_succ_val]
theorem off3_eq (k : Fin k0_t1_loop.trips) (hk : k.val + 1 < 16) : k0_off3 k = chOff (Ring.bk 16 (k.val + 1)) := by
  rw [k0_off3_eq]; unfold chOff; rw [Ring.bk_val hk]; rfl
theorem off4_eq (k : Fin k0_t1_loop.trips) : k0_off4 k = semOff (Ring.sl 2 k.val) := by
  rw [k0_off4_eq]; rfl
theorem off5_eq (k : Fin k0_t1_loop.trips) : k0_off5 k = slotOff (Ring.sl 2 k.val) := by
  rw [k0_off5_eq]; rfl
theorem off6_eq (k : Fin k0_t1_loop.trips) (hk : k.val < 16) : k0_off6 k = chOff (Ring.bk 16 k.val) := by
  rw [k0_off6_eq]; unfold chOff; rw [Ring.bk_val hk]

theorem csm_congr {off : Fin 1 → Nat} {s : Fin 2} (e : off = semOff s) (hh) :
    (cc0_scratch4.slice (Rect.unit (s := S2) off S1.size hh)).squeeze S_ squeezes_S1_S_ = csm s :=
  congrArg (fun A : DmaSems sig S1 => A.squeeze S_ squeezes_S1_S_) (SemArray.slice_unit_congr _ e _ _)
theorem slot_congr {off : Fin 3 → Nat} {s : Fin 2} (e : off = slotOff s) (hh hs) :
    (stg.slice (Rect.unit (s := S2x128x9216) off S1x128x9216.size hh) hs).squeeze S128x9216 squeezes_S1x128x9216_S128x9216 = slot s :=
  congrArg (fun M : Memref sig .tc .vmem S1x128x9216 .fp8e5m2 => M.squeeze S128x9216 squeezes_S1x128x9216_S128x9216) (Memref.slice_unit_congr _ e _ _ _ _)
theorem chunk_congr {off : Fin 2 → Nat} {b : Fin 16} (e : off = chOff b) (hh hs) :
    hbm.slice (Rect.unit (s := S2048x9216) off S128x9216.size hh) hs = chunk b :=
  Memref.slice_unit_congr _ e hh (chOff_inb b) hs (fun _ => rfl)

/-- Before the loop: semaphore, slot and chunk 0. -/
@[sl_canon] theorem semL0 (hh) : (cc0_scratch4.slice (Rect.unit (s := S2) ![0] S1.size hh)).squeeze S_ squeezes_S1_S_ = csm 0 := csm_congr (by decide) _
@[sl_canon] theorem slotL0 (hh hs) : (stg.slice (Rect.unit (s := S2x128x9216) ![0, 0, 0] S1x128x9216.size hh) hs).squeeze S128x9216 squeezes_S1x128x9216_S128x9216 = slot 0 := slot_congr (by decide) _ _
@[sl_canon] theorem chunkL0 (hh hs) : hbm.slice (Rect.unit (s := S2048x9216) ![0, 0] S128x9216.size hh) hs = chunk 0 := chunk_congr (by decide) _ _

/-- Trip `k`: chunk `k` waited for in slot `k % 2`, chunk `k + 1` sent into the other slot. -/
@[sl_canon] theorem semI (k : Fin k0_t1_loop.trips) (hh) :
    (cc0_scratch4.slice (Rect.unit (s := S2) (k0_off1 k) S1.size hh)).squeeze S_ squeezes_S1_S_ = csm (Ring.sl 2 (k.val + 1)) := csm_congr (off1_eq k) _
@[sl_canon] theorem semW (k : Fin k0_t1_loop.trips) (hh) :
    (cc0_scratch4.slice (Rect.unit (s := S2) (k0_off4 k) S1.size hh)).squeeze S_ squeezes_S1_S_ = csm (Ring.sl 2 k.val) := csm_congr (off4_eq k) _
@[sl_canon] theorem slotI (k : Fin k0_t1_loop.trips) (hh hs) :
    (stg.slice (Rect.unit (s := S2x128x9216) (k0_off2 k) S1x128x9216.size hh) hs).squeeze S128x9216 squeezes_S1x128x9216_S128x9216 = slot (Ring.sl 2 (k.val + 1)) := slot_congr (off2_eq k) _ _
@[sl_canon] theorem slotW (k : Fin k0_t1_loop.trips) (hh hs) :
    (stg.slice (Rect.unit (s := S2x128x9216) (k0_off5 k) S1x128x9216.size hh) hs).squeeze S128x9216 squeezes_S1x128x9216_S128x9216 = slot (Ring.sl 2 k.val) := slot_congr (off5_eq k) _ _
@[sl_canon] theorem chunkI (k : Fin k0_t1_loop.trips) (hk : k.val + 1 < 16) (hh hs) :
    hbm.slice (Rect.unit (s := S2048x9216) (k0_off3 k) S128x9216.size hh) hs = chunk (Ring.bk 16 (k.val + 1)) := chunk_congr (off3_eq k hk) _ _
@[sl_canon] theorem chunkW (k : Fin k0_t1_loop.trips) (hk : k.val < 16) (hh hs) :
    hbm.slice (Rect.unit (s := S2048x9216) (k0_off6 k) S128x9216.size hh) hs = chunk (Ring.bk 16 k.val) := chunk_congr (off6_eq k hk) _ _

/-! ## Home, free, in flight -/

section Pieces
variable (c : Dev nD) (XA : Buf (Elt F) (hbm.view.loc (c : Thread nD τ)))

abbrev cellP (s : Fin 2) : sProp 𝕄 := semVal ((c : Thread nD τ), SemLoc.dma (csm s).sem) 0
abbrev slotP (s : Fin 2) (f : Buf (Elt F) ((slot s).view.loc (c : Thread nD τ))) : sProp 𝕄 :=
  (slot s).view.loc (c : Thread nD τ) ↦[(slot s).view.set]{fullShare} f
/-- Chunk `b` HOME: held at the array's contents. -/
abbrev homeP (b : Fin 16) : sProp 𝕄 := (chunk b).view.loc (c : Thread nD τ) ↦[(chunk b).view.set]{fullShare} XA
/-- What chunk `b`'s copy leaves in slot `s` over prior contents `f`. -/
abbrev landed (s : Fin 2) (b : Fin 16) (f : Buf (Elt F) ((slot s).view.loc (c : Thread nD τ))) : Buf (Elt F) ((slot s).view.loc (c : Thread nD τ)) :=
  (slot s).view.writes (Elt F) f [⟨Rect.whole S128x9216, ReadAs.same.apply ((chunk b).view.read (Elt F) XA)⟩]
/-- The units a chunk's copy moves on its semaphore. -/
abbrev NN : ℕ := 36864
theorem amount_eq (s : Fin 2) : (slot s).view.amount (SemLoc.dma (csm s).sem) = NN := by rfl
/-- Slot `s` IN FLIGHT with chunk `b`, sent over `f`. -/
abbrev flightP (s : Fin 2) (b : Fin 16) (f : Buf (Elt F) ((slot s).view.loc (c : Thread nD τ))) : sProp 𝕄 :=
  Transfers.Flight countersEmb (c : Thread nD τ) (SemLoc.dma (csm s).sem) () NN iprop(slotP c s (landed c XA s b f) ∗ homeP c XA b)

end Pieces

end Cert.Kernel.Own

end
-- ==== Proof.Run.Kernel.Heads.lean ====
module

public import proofs.«01_k».proof.Proof.Run.Kernel.Ring
public import Idealize.ShloMosaic.Lib.Pipeline.ValueKit

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The dequantised output gradient: the codes, times the block scale of their row, times the weight's column scale. -/
def DQ (x2 : S2048x128.Idx → F .f32) (x3 : S1x9216.Idx → F .f32) (xa : S2048x9216.Idx → F .fp8e5m2) : FVec F S2048x9216 .bf16 :=
  mulf (mulf (extf .bf16 xa bitsLt_fp8e5m2_bf16)
      (truncf .bf16 (fun y : S2048x9216.Idx => x2 (ix2 (y 0) ⟨(y 1).val / 128, by have h : (y 1).val < 9216 := (y 1).isLt; omega⟩)) bitsLt_bf16_f32))
    (truncf .bf16 (fun y : S2048x9216.Idx => x3 (ix2 0 (y 1))) bitsLt_bf16_f32)

/-- One head's payload, as every one of the 72 stores spells it: the head's column of the scales, the head's
    stretch of the weight scales, the head's stretch of the codes. -/
def headPay (h : ℕ) (hs : S128x128.Slices ![0, h] S128x1) (S : Vec F S128x128 .f32) (w : Vec F S1x128 .f32) (d : Vec F S1x128x128 .fp8e5m2) : FVec F S128x128 .bf16 :=
  shapeCast S128x128 (mulf (mulf (extf .bf16 (shapeCast S128x128 d shapeCasts_S1x128x128_S128x128) bitsLt_fp8e5m2_bf16)
      (truncf .bf16 (broadcastTo S128x128 (shapeCast S128x1 (extractStridedSlice S128x1 ![0, h] (shapeCast S128x128 S shapeCasts_S128x128_S128x128) hs) shapeCasts_S128x1_S128x1) broadcasts_S128x1_S128x128) bitsLt_bf16_f32))
    (broadcastTo S128x128 (truncf .bf16 (shapeCast S1x128 w shapeCasts_S1x128_S1x128) bitsLt_bf16_f32) broadcasts_S1x128_S128x128)) shapeCasts_S128x128_S128x128

theorem headPay_apply (h : ℕ) (hh : h < 72) (hs) (S : Vec F S128x128 .f32) (w : Vec F S1x128 .f32) (d : Vec F S1x128x128 .fp8e5m2) (r l : Fin 128) :
    headPay h hs S w d (ix2 r l) =
      mulf (mulf (extf .bf16 (fun x : S128x128.Idx => d (ix3 0 (x 0) (x 1))) bitsLt_fp8e5m2_bf16) (truncf .bf16 (fun x : S128x128.Idx => S (ix2 (x 0) ⟨h, by omega⟩)) bitsLt_bf16_f32))
        (truncf .bf16 (fun x : S128x128.Idx => w (ix2 0 (x 1))) bitsLt_bf16_f32) (ix2 r l) := by
  unfold headPay
  pointwise

/-! ## The staged chunk -/

/-- Where the slot's row `r`, column `l` lies in the staging buffer; -/
theorem slot_idx (s : Fin 2) (r : Fin 128) (l : Fin 9216) :
    (Rect.unit (s := S2x128x9216) (slotOff s) S1x128x9216.size (slotOff_inb s)).emb (Shape.reshapeEquiv (squeezes_S1x128x9216_S128x9216).numel_eq (ix2 r l)) = (ix3 s r l : S2x128x9216.Idx) := by
  have e : Shape.reshapeEquiv (squeezes_S1x128x9216_S128x9216).numel_eq (ix2 r l : S128x9216.Idx) = (ix3 (0 : Fin 1) r l : S1x128x9216.Idx) :=
    Shape.reshapeEquiv_eq_of_rowMajor _ (by
      rw [Shape.rowMajor_val_three, Shape.rowMajor_val_two]
      show ((0 : ℕ) * 128 + r.val) * 9216 + l.val = r.val * 9216 + l.val
      omega)
  refine (congrArg (Rect.unit (s := S2x128x9216) (slotOff s) S1x128x9216.size (slotOff_inb s)).emb e).trans ?_
  funext a
  refine Fin.ext ?_
  rw [Rect.emb_apply]
  fin_cases a
  · show s.val + 1 * 0 = s.val; omega
  · show 0 + 1 * r.val = r.val; omega
  · show 0 + 1 * l.val = l.val; omega

/-- and the chunk's in the array. -/
theorem chunk_idx (b : Fin 16) (r : Fin 128) (l : Fin 9216) :
    (Rect.unit (s := S2048x9216) (chOff b) S128x9216.size (chOff_inb b)).emb (ix2 r l) = (ix2 ⟨128 * b.val + r.val, by omega⟩ l : S2048x9216.Idx) := by
  funext a
  refine Fin.ext ?_
  rw [Rect.emb_apply]
  fin_cases a
  · show 128 * b.val + 1 * r.val = 128 * b.val + r.val; omega
  · show 0 + 1 * l.val = l.val; omega

theorem whole_idx (x : S128x9216.Idx) : (Rect.whole S128x9216).emb x = x := by
  funext a; refine Fin.ext ?_; rw [Rect.emb_apply]; show 0 + 1 * _ = _; omega

omit [FloatOps F] in
theorem landed_slot (c : Dev nD) (XA : Buf (Elt F) (hbm.view.loc (c : Thread nD τ))) (s : Fin 2) (b : Fin 16) (f) (x : S128x9216.Idx) :
    (slot s).view.read (Elt F) (landed c XA s b f) x = (chunk b).view.read (Elt F) XA x := by
  have h := View.read_writes_cons_emb (slot s).view f (Rect.whole S128x9216) (ReadAs.same.apply ((chunk b).view.read (Elt F) XA)) [] x
  exact (congrArg ((slot s).view.read (Elt F) (landed c XA s b f)) (whole_idx x)).symm.trans h

omit [FloatOps F] in
/-- A landed chunk read through the staging buffer: slot `s`, row `r`, column `l` holds the array's row `128 b + r`. -/
theorem landed_read (c : Dev nD) (XA : Buf (Elt F) (hbm.view.loc (c : Thread nD τ))) (s : Fin 2) (b : Fin 16) (f) (r : Fin 128) (l : Fin 9216) :
    stg.view.read (Elt F) (landed c XA s b f) (ix3 s r l) = hbm.view.read (Elt F) XA (ix2 ⟨128 * b.val + r.val, by omega⟩ l) :=
  (congrArg (stg.view.read (Elt F) (landed c XA s b f)) (slot_idx s r l)).symm.trans
    ((landed_slot c XA s b f (ix2 r l)).trans (congrArg (hbm.view.read (Elt F) XA) (chunk_idx b r l)))

section Heads

variable (c : Dev nD) (XA : Buf (Elt F) (hbm.view.loc (c : Thread nD τ)))
  (arg2 : Memref sig .tc .vmem S2048x128 .f32) (arg3 : Memref sig .tc .vmem S1x9216 .f32)
  (X2 : Buf (Elt F) (arg2.view.loc (c : Thread nD τ))) (X3 : Buf (Elt F) (arg3.view.loc (c : Thread nD τ)))

/-- `DQ` of the three buffers' contents. -/
abbrev DQv : FVec F S2048x9216 .bf16 := DQ (arg2.view.read (Elt F) X2) (arg3.view.read (Elt F) X3) (hbm.view.read (Elt F) XA)

/-- A landed chunk, as contents of the whole staging buffer. -/
abbrev landedS (s : Fin 2) (b : Fin 16) (f : stg.view.ty.Contents (Elt F)) : stg.view.ty.Contents (Elt F) := landed c XA s b f

/-- The head's payload over any three vectors that read as the three buffers do there. -/
theorem head_of (k : ℕ) (hk : k < 16) (h : ℕ) (hh : h < 72) (hs) (x2 : S2048x128.Idx → F .f32) (x3 : S1x9216.Idx → F .f32) (xa : S2048x9216.Idx → F .fp8e5m2)
    (S : Vec F S128x128 .f32) (w : Vec F S1x128 .f32) (d : Vec F S1x128x128 .fp8e5m2)
    (hS : ∀ r : Fin 128, S (ix2 r ⟨h, by omega⟩) = x2 (ix2 ⟨128 * k + r.val, by omega⟩ ⟨h, by omega⟩))
    (hw : ∀ l : Fin 128, w (ix2 0 l) = x3 (ix2 0 ⟨128 * h + l.val, by omega⟩))
    (hd : ∀ r l : Fin 128, d (ix3 0 r l) = xa (ix2 ⟨128 * k + r.val, by omega⟩ ⟨128 * h + l.val, by omega⟩)) (r l : Fin 128) :
    headPay h hs S w d (ix2 r l) = DQ x2 x3 xa (ix2 ⟨128 * k + r.val, by omega⟩ ⟨128 * h + l.val, by omega⟩) := by
  rw [headPay_apply h hh]
  unfold DQ
  pointwise
  rw [hS, hw, hd]
  have hq : (⟨(128 * h + l.val) / 128, by omega⟩ : Fin 128) = ⟨h, by omega⟩ := Fin.ext (by show (128 * h + l.val) / 128 = h; omega)
  rw [hq]

theorem scales_read (k : ℕ) (hk : k < 16) {o7 : Fin 2 → ℕ} (e7 : o7 = ![128 * k, 0]) (i7 : ∀ a, o7 a + S128x128.size a ≤ S2048x128.size a) (r h : Fin 128) :
    arg2.view.readAt (Elt F) (Rect.unit (s := S2048x128) o7 S128x128.size i7).toLoadRect X2 (ix2 r h) = arg2.view.read (Elt F) X2 (ix2 ⟨128 * k + r.val, by omega⟩ h) := by
  subst e7
  rw [View.readAt_apply]; congr 1; funext a; refine Fin.ext ?_; fin_cases a
  · show 128 * k + 1 * r.val = 128 * k + r.val; omega
  · show 0 + 1 * h.val = h.val; omega

theorem weights_read (h : ℕ) (hh : h < 72) {ow : Fin 2 → ℕ} (ew : ow = ![0, 128 * h]) (iw : ∀ a, ow a + S1x128.size a ≤ S1x9216.size a) (l : Fin 128) :
    arg3.view.readAt (Elt F) (Rect.unit (s := S1x9216) ow S1x128.size iw).toLoadRect X3 (ix2 0 l) = arg3.view.read (Elt F) X3 (ix2 0 ⟨128 * h + l.val, by omega⟩) := by
  subst ew
  rw [View.readAt_apply]; congr 1; funext a; refine Fin.ext ?_; fin_cases a
  · show 0 + 1 * 0 = 0; omega
  · show 128 * h + 1 * l.val = 128 * h + l.val; omega

theorem codes_read (k : ℕ) (hk : k < 16) (h : ℕ) (hh : h < 72) (f) {o8 : Fin 3 → ℕ} (e8 : o8 = ![k % 2, 0, 128 * h]) (i8 : ∀ a, o8 a + S1x128x128.size a ≤ S2x128x9216.size a) (r l : Fin 128) :
    stg.view.readAt (Elt F) (Rect.unit (s := S2x128x9216) o8 S1x128x128.size i8).toLoadRect (landedS c XA (Ring.sl 2 k) (Ring.bk 16 k) f) (ix3 0 r l)
      = hbm.view.read (Elt F) XA (ix2 ⟨128 * k + r.val, by omega⟩ ⟨128 * h + l.val, by omega⟩) := by
  subst e8
  have e : (Rect.unit (s := S2x128x9216) ![k % 2, 0, 128 * h] S1x128x128.size i8).toLoadRect.idx (ix3 0 r l) = ix3 (Ring.sl 2 k) r ⟨128 * h + l.val, by omega⟩ := by
    funext a; refine Fin.ext ?_; fin_cases a
    · show k % 2 + 1 * 0 = k % 2; omega
    · show 0 + 1 * r.val = r.val; omega
    · show 128 * h + 1 * l.val = 128 * h + l.val; omega
  refine (congrArg (stg.view.read (Elt F) (landedS c XA (Ring.sl 2 k) (Ring.bk 16 k) f)) e).trans ?_
  refine (landed_read c XA (Ring.sl 2 k) (Ring.bk 16 k) f r ⟨128 * h + l.val, by omega⟩).trans ?_
  congr 2
  refine Fin.ext ?_
  show 128 * (Ring.bk 16 k).val + r.val = 128 * k + r.val
  rw [Ring.bk_val hk]

/-- One head of chunk `k`: its payload at `(r, l)` is `DQ` at row `128 k + r`, column `128 h + l`. -/
theorem head_ok (k : ℕ) (hk : k < 16) (h : ℕ) (hh : h < 72) (hs) (f)
    {o7 : Fin 2 → ℕ} (e7 : o7 = ![128 * k, 0]) (i7 : ∀ a, o7 a + S128x128.size a ≤ S2048x128.size a)
    {ow : Fin 2 → ℕ} (ew : ow = ![0, 128 * h]) (iw : ∀ a, ow a + S1x128.size a ≤ S1x9216.size a)
    {o8 : Fin 3 → ℕ} (e8 : o8 = ![k % 2, 0, 128 * h]) (i8 : ∀ a, o8 a + S1x128x128.size a ≤ S2x128x9216.size a)
    {o9 : Fin 2 → ℕ} (e9 : o9 = ![128 * k, 128 * h]) (i9 : ∀ a, o9 a + S128x128.size a ≤ S2048x9216.size a)
    (x : S128x128.Idx) :
    headPay h hs (arg2.view.readAt (Elt F) (Rect.unit (s := S2048x128) o7 S128x128.size i7).toLoadRect X2)
        (arg3.view.readAt (Elt F) (Rect.unit (s := S1x9216) ow S1x128.size iw).toLoadRect X3)
        (stg.view.readAt (Elt F) (Rect.unit (s := S2x128x9216) o8 S1x128x128.size i8).toLoadRect (landedS c XA (Ring.sl 2 k) (Ring.bk 16 k) f)) x
      = DQv c XA arg2 arg3 X2 X3 ((Rect.unit (s := S2048x9216) o9 S128x128.size i9).emb x) := by
  subst e9
  obtain ⟨r, l, rfl⟩ : ∃ (r l : Fin 128), x = ix2 r l := ⟨x 0, x 1, by rw [← eq_ix2 x]⟩
  have hy : (Rect.unit (s := S2048x9216) ![128 * k, 128 * h] S128x128.size i9).emb (ix2 r l) = ix2 ⟨128 * k + r.val, by omega⟩ ⟨128 * h + l.val, by omega⟩ := by
    funext a; refine Fin.ext ?_; rw [Rect.emb_apply]; fin_cases a
    · show 128 * k + 1 * r.val = 128 * k + r.val; omega
    · show 128 * h + 1 * l.val = 128 * h + l.val; omega
  refine Eq.trans ?_ (congrArg (DQv c XA arg2 arg3 X2 X3) hy.symm)
  exact head_of k hk h hh hs _ _ _ _ _ _ (fun r => scales_read c arg2 X2 k hk e7 i7 r ⟨h, by omega⟩) (fun l => weights_read c arg3 X3 h hh ew iw l)
    (fun r l => codes_read c XA k hk h hh f e8 i8 r l) r l

theorem head_slices (h : ℕ) (hh : h < 72) : S128x128.Slices ![0, h] S128x1 :=
  ⟨rfl, fun a => by
    fin_cases a
    · show 0 + 128 ≤ 128; omega
    · show h + 1 ≤ 128; omega⟩

/-- The pieces `L` hold `DQ` and fill columns below `128 n` of rows `128 k` to `128 k + 127`. -/
def HeadsOK (k n : ℕ) (L : List (View.Piece (Elt F) S2048x9216 .bf16)) : Prop :=
  (∀ p ∈ L, ∀ x, p.2 x = DQv c XA arg2 arg3 X2 X3 (p.1.emb x) ∧ 128 * k ≤ (p.1.emb x 0).val) ∧
    ∀ y : S2048x9216.Idx, 128 * k ≤ (y 0).val → (y 0).val < 128 * k + 128 → (y 1).val < 128 * n → ∃ p ∈ L, y ∈ p.1.set

theorem heads_nil (k : ℕ) : HeadsOK c XA arg2 arg3 X2 X3 k 0 [] :=
  ⟨fun p hp => absurd hp List.not_mem_nil, fun y _ _ h => absurd h (by omega)⟩

theorem heads_cons (k : ℕ) (hk : k < 16) (n : ℕ) (hn : n < 72) (f)
    {o7 : Fin 2 → ℕ} (e7 : o7 = ![128 * k, 0]) (i7 : ∀ a, o7 a + S128x128.size a ≤ S2048x128.size a)
    {ow : Fin 2 → ℕ} (ew : ow = ![0, 128 * n]) (iw : ∀ a, ow a + S1x128.size a ≤ S1x9216.size a)
    {o8 : Fin 3 → ℕ} [C8 : ClosedOff o8] (e8 : C8.form = ![k % 2, 0, 128 * n]) (i8 : ∀ a, o8 a + S1x128x128.size a ≤ S2x128x9216.size a)
    {o9 : Fin 2 → ℕ} [C9 : ClosedOff o9] (e9 : C9.form = ![128 * k, 128 * n]) (i9 : ∀ a, o9 a + S128x128.size a ≤ S2048x9216.size a)
    {L : List (View.Piece (Elt F) S2048x9216 .bf16)} (hL : HeadsOK c XA arg2 arg3 X2 X3 k n L) :
    HeadsOK c XA arg2 arg3 X2 X3 k (n + 1) (⟨Rect.unit (s := S2048x9216) o9 S128x128.size i9,
      headPay n (head_slices n hn) (arg2.view.readAt (Elt F) (Rect.unit (s := S2048x128) o7 S128x128.size i7).toLoadRect X2)
        (arg3.view.readAt (Elt F) (Rect.unit (s := S1x9216) ow S1x128.size iw).toLoadRect X3)
        (stg.view.readAt (Elt F) (Rect.unit (s := S2x128x9216) o8 S1x128x128.size i8).toLoadRect (landedS c XA (Ring.sl 2 k) (Ring.bk 16 k) f))⟩ :: L) := by
  have f9 := C9.eq.trans e9
  refine ⟨fun p hp => ?_, fun y h0 h1 h2 => ?_⟩
  · rcases List.mem_cons.mp hp with rfl | hp
    · refine fun x => ⟨head_ok c XA arg2 arg3 X2 X3 k hk n hn (head_slices n hn) f e7 i7 ew iw (C8.eq.trans e8) i8 f9 i9 x, ?_⟩
      rw [Rect.emb_apply]
      show 128 * k ≤ o9 0 + 1 * _
      have f0 : o9 0 = 128 * k := congrFun f9 0
      omega
    · exact hL.1 p hp
  · by_cases hy : (y 1).val < 128 * n
    · obtain ⟨p, hp, hm⟩ := hL.2 y h0 h1 hy
      exact ⟨p, List.mem_cons_of_mem _ hp, hm⟩
    · refine ⟨_, List.mem_cons_self, (Rect.mem_set_unit (inb := i9)).2 ?_⟩
      have f0 : o9 0 = 128 * k := congrFun f9 0
      have f1 : o9 1 = 128 * n := congrFun f9 1
      intro a; fin_cases a
      · show o9 0 ≤ (y 0).val ∧ (y 0).val < o9 0 + 128; omega
      · show o9 1 ≤ (y 1).val ∧ (y 1).val < o9 1 + 128; omega

/-- A trip's writes extend the filled rows by one chunk. -/
theorem heads_done (k : ℕ) {L : List (View.Piece (Elt F) S2048x9216 .bf16)} (hL : HeadsOK c XA arg2 arg3 X2 X3 k 72 L)
    (fd : Buf (Elt F) ((Memref.whole (sig := sig) cc0_scratch0).view.loc (c : Thread nD τ)))
    (hd : ∀ y : S2048x9216.Idx, (y 0).val < 128 * k → (Memref.whole (sig := sig) cc0_scratch0).view.read (Elt F) fd y = DQv c XA arg2 arg3 X2 X3 y)
    (y : S2048x9216.Idx) (hy : (y 0).val < 128 * (k + 1)) :
    (Memref.whole (sig := sig) cc0_scratch0).view.read (Elt F) ((Memref.whole (sig := sig) cc0_scratch0).view.writes (Elt F) fd L) y = DQv c XA arg2 arg3 X2 X3 y := by
  by_cases h : 128 * k ≤ (y 0).val
  · exact View.read_writes_apply_of_pieces _ _ _ L (fun p hp x => (hL.1 p hp x).1) y (hL.2 y h (by omega) (by have h : (y 1).val < 9216 := (y 1).isLt; omega))
  · rw [View.read_writes_apply_of_forall_not_mem _ _ y L fun p hp hm => ?_]
    · exact hd y (by omega)
    · obtain ⟨x, rfl⟩ := p.1.exists_idx_of_mem hm
      exact h (hL.1 p hp x).2

end Heads

end Cert.Kernel.Own
end
-- ==== Proof.Run.Kernel.TripDefs.lean ====
module

public import proofs.«01_k».proof.Proof.Run.Kernel.Heads

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem cond2_iff : ∀ k : Fin k0_t1_loop.trips, k0_cond2 k = 1#1 ↔ k.val + 1 < 16 := by decide +kernel

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

/-- The dequantised output gradient's scratch, whole. -/
abbrev dqm : Memref sig .tc .vmem S2048x9216 .bf16 := Memref.whole cc0_scratch0
abbrev xsm : Memref sig .tc .vmem S2048x128 .f32 := Memref.whole cc0_scratch2
abbrev rsm : Memref sig .tc .vmem S2048x128 .f32 := Memref.whole cc0_scratch3

abbrev trip (k : Fin k0_t1_loop.trips) : Prog (TpuEff nD τ sig (Elt F) Λ₀ .tc) Unit :=
  k0_t1_body (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 h1 k ()

abbrev P2 (X2 : Buf (Elt F) (arg2.view.loc (c : Thread nD τ))) : sProp 𝕄 := arg2.view.loc (c : Thread nD τ) ↦[arg2.view.set]{fullShare} X2
abbrev P3 (X3 : Buf (Elt F) (arg3.view.loc (c : Thread nD τ))) : sProp 𝕄 := arg3.view.loc (c : Thread nD τ) ↦[arg3.view.set]{fullShare} X3
abbrev dqP (f : Buf (Elt F) (dqm.view.loc (c : Thread nD τ))) : sProp 𝕄 := dqm.view.loc (c : Thread nD τ) ↦[dqm.view.set]{fullShare} f

end Trip

end Cert.Kernel.Own

end
-- ==== Proof.Run.Kernel.Mm.lean ====
module

public import proofs.«01_k».proof.Proof.Run.Kernel.TripDefs

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Mm

/-- The product with one block of the weight codes, computed 512 rows at a time. -/
def MM (D : FVec F S2048x9216 .bf16) (w : Vec F S256x9216 .fp8e4m3) : FVec F S2048x256 .f32 := fun y =>
  k0_pay127 (fun z : S512x9216.Idx => D (ix2 ⟨512 * ((y 0).val / 512) + (z 0).val, by
    have h : (y 0).val < 2048 := (y 0).isLt; have h' : (z 0).val < 512 := (z 0).isLt; omega⟩ (z 1))) w
    (ix2 ⟨(y 0).val % 512, Nat.mod_lt _ (by decide)⟩ (y 1))

variable (c : Dev nD)
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)

theorem mm_done (X4 : Buf (Elt F) (arg4.view.loc (c : Thread nD τ))) (fd : Buf (Elt F) (dqm.view.loc (c : Thread nD τ))) (f : Buf (Elt F) (arg9.view.loc (c : Thread nD τ)))
    (k : ℕ) (hk : k < 4) {o : Fin 2 → ℕ} [C : ClosedOff o] (e : C.form = ![512 * k, 0]) (i1 : ∀ a, o a + S512x256.size a ≤ S2048x256.size a)
    {p : Fin 2 → ℕ} [C' : ClosedOff p] (e' : C'.form = ![512 * k, 0]) (i2 : ∀ a, p a + S512x9216.size a ≤ S2048x9216.size a)
    (i3 : ∀ a, (![0, 0] : Fin 2 → ℕ) a + S256x9216.size a ≤ S256x9216.size a)
    (hf : ∀ y : S2048x256.Idx, (y 0).val < 512 * k → arg9.view.read (Elt F) f y = MM (dqm.view.read (Elt F) fd) (arg4.view.read (Elt F) X4) y)
    (y : S2048x256.Idx) (hy : (y 0).val < 512 * (k + 1)) :
    arg9.view.read (Elt F) (arg9.view.writes (Elt F) f [⟨Rect.unit (s := S2048x256) o S512x256.size i1,
      k0_pay127 (dqm.view.readAt (Elt F) (Rect.unit (s := S2048x9216) p S512x9216.size i2).toLoadRect fd)
        (arg4.view.readAt (Elt F) (Rect.unit (s := S256x9216) ![0, 0] S256x9216.size i3).toLoadRect X4)⟩]) y
      = MM (dqm.view.read (Elt F) fd) (arg4.view.read (Elt F) X4) y := by
  have f9 := C.eq.trans e
  have f8 := C'.eq.trans e'
  have f0 : o 0 = 512 * k := congrFun f9 0
  have f1 : o 1 = 0 := congrFun f9 1
  have g0 : p 0 = 512 * k := congrFun f8 0
  have g1 : p 1 = 0 := congrFun f8 1
  by_cases h : 512 * k ≤ (y 0).val
  · refine View.read_writes_apply_of_pieces _ _ _ _ (fun q hq x => ?_) y ⟨_, List.mem_cons_self, (Rect.mem_set_unit (inb := i1)).2 ?_⟩
    · obtain rfl := List.mem_singleton.mp hq
      have hx : (x 0).val < 512 := (x 0).isLt
      have e0 : ((Rect.unit (s := S2048x256) o S512x256.size i1).emb x 0).val = 512 * k + (x 0).val := by
        rw [Rect.emb_apply]; show o 0 + 1 * (x 0).val = _; omega
      have e1 : ((Rect.unit (s := S2048x256) o S512x256.size i1).emb x 1).val = (x 1).val := by
        rw [Rect.emb_apply]; show o 1 + 1 * (x 1).val = _; omega
      show k0_pay127 _ _ x = MM _ _ _
      unfold MM
      refine congr (congr (congrArg k0_pay127 ?_) ?_) ?_
      · funext z
        rw [View.readAt_apply]; congr 1; funext a; refine Fin.ext ?_; fin_cases a
        · show p 0 + 1 * (z 0).val = 512 * (_ / 512) + (z 0).val; rw [e0]; omega
        · show p 1 + 1 * (z 1).val = (z 1).val; omega
      · funext z
        rw [View.readAt_apply]; congr 1; funext a; refine Fin.ext ?_; fin_cases a
        · show 0 + 1 * (z 0).val = (z 0).val; omega
        · show 0 + 1 * (z 1).val = (z 1).val; omega
      · funext a; refine Fin.ext ?_; fin_cases a
        · show (x 0).val = _ % 512; rw [e0]; omega
        · exact e1.symm
    · have h1 : (y 1).val < 256 := (y 1).isLt
      intro a; fin_cases a
      · show o 0 ≤ (y 0).val ∧ (y 0).val < o 0 + 512; omega
      · show o 1 ≤ (y 1).val ∧ (y 1).val < o 1 + 256; omega
  · rw [View.read_writes_apply_of_forall_not_mem _ _ y _ fun q hq hm => ?_]
    · exact hf y (by omega)
    · obtain rfl := List.mem_singleton.mp hq
      have := (Rect.mem_set_unit (inb := i1)).1 hm 0
      have t : o 0 ≤ (y 0).val := this.1
      omega

/-- The second loop's invariant: rows below `512 k` hold the product. -/
def inv2 (X4 : Buf (Elt F) (arg4.view.loc (c : Thread nD τ))) (fd : Buf (Elt F) (dqm.view.loc (c : Thread nD τ))) (k : ℕ) : sProp 𝕄 :=
  iprop((arg4.view.loc (c : Thread nD τ) ↦[arg4.view.set]{fullShare} X4) ∗ dqP c fd ∗
    ∃ f, (arg9.view.loc (c : Thread nD τ) ↦[arg9.view.set]{fullShare} f) ∗
      ⌜∀ y : S2048x256.Idx, (y 0).val < 512 * k → arg9.view.read (Elt F) f y = MM (dqm.view.read (Elt F) fd) (arg4.view.read (Elt F) X4) y⌝)

set_option warn.classDefReducibility false in
/-- The second loop. -/
def loop2 (X4 : Buf (Elt F) (arg4.view.loc (c : Thread nD τ))) (fd : Buf (Elt F) (dqm.view.loc (c : Thread nD τ))) :
    LoopInvTy_k0_t2 (F := F) Unit ℕ (UU nD τ) ℕ 𝒱₀ c none Set.univ i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 where
  inv k _ := inv2 c arg4 arg9 X4 fd k
  step k _ := by
    have hk : k.val < 4 := Nat.lt_of_lt_of_le k.isLt k0_t2_abs.2.1
    unfold inv2 k0_t2_body
    iintro ⟨H4, HD, %f, H9, %hf⟩
    sl_exec
    sl_step
    isplitl [H4]; · iexact H4
    isplitl [HD]; · iexact HD
    iexists _
    isplitl [H9]; · iexact H9
    ipureintro
    intro y hy
    exact mm_done c arg4 arg9 X4 fd f k.val hk rfl _ rfl _ _ hf y hy

theorem loop2_entry (X4 : Buf (Elt F) (arg4.view.loc (c : Thread nD τ))) (fd : Buf (Elt F) (dqm.view.loc (c : Thread nD τ))) (f : Buf (Elt F) (arg9.view.loc (c : Thread nD τ))) (a : Unit) :
    iprop((arg4.view.loc (c : Thread nD τ) ↦[arg4.view.set]{fullShare} X4) ∗ dqP c fd ∗ (arg9.view.loc (c : Thread nD τ) ↦[arg9.view.set]{fullShare} f))
      ⊢ (loop2 c i arg2 harg2 arg3 harg3 arg4 harg4 arg5 harg5 arg6 harg6 arg7 harg7 arg8 harg8 arg9 harg9 arg10 harg10 arg11 harg11 arg12 harg12 X4 fd).inv 0 a := by
  refine .trans ?_ (entails_of_eq (show inv2 c arg4 arg9 X4 fd 0 = _ from rfl))
  unfold inv2
  iintro ⟨H4, HD, H9⟩
  isplitl [H4]; · iexact H4
  isplitl [HD]; · iexact HD
  iexists _
  isplitl [H9]; · iexact H9
  ipureintro
  intro y hy; omega

theorem loop2_exit (X4 : Buf (Elt F) (arg4.view.loc (c : Thread nD τ))) (fd : Buf (Elt F) (dqm.view.loc (c : Thread nD τ))) (a : Unit) :
    (loop2 c i arg2 harg2 arg3 harg3 arg4 harg4 arg5 harg5 arg6 harg6 arg7 harg7 arg8 harg8 arg9 harg9 arg10 harg10 arg11 harg11 arg12 harg12 X4 fd).inv (Scf.trips k0_t2_loop.lb k0_t2_loop.ub k0_t2_loop.st) a
      ⊢ iprop((arg4.view.loc (c : Thread nD τ) ↦[arg4.view.set]{fullShare} X4) ∗ dqP c fd ∗
        ∃ f, (arg9.view.loc (c : Thread nD τ) ↦[arg9.view.set]{fullShare} f) ∗ ⌜arg9.view.read (Elt F) f = MM (dqm.view.read (Elt F) fd) (arg4.view.read (Elt F) X4)⌝) := by
  have ht : Scf.trips k0_t2_loop.lb k0_t2_loop.ub k0_t2_loop.st = 4 := by decide +kernel
  rw [ht]
  refine (entails_of_eq (show _ = inv2 c arg4 arg9 X4 fd 4 from rfl)).trans ?_
  unfold inv2
  iintro ⟨H4, HD, %f, H9, %hf⟩
  isplitl [H4]; · iexact H4
  isplitl [HD]; · iexact HD
  iexists f
  isplitl [H9]; · iexact H9
  ipureintro
  exact funext fun y => hf y (y 0).isLt

end Mm

end Cert.Kernel.Own

end
-- ==== Proof.Run.Kernel.Blocks.lean ====
module

public import proofs.«01_k».proof.Proof.Run.Kernel.Mm

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Blocks

theorem inb_blk (b : Fin 8) : ∀ a, (![256 * b.val, 0] : Fin 2 → ℕ) a + S256x128.size a ≤ S2048x128.size a := by
  intro a; fin_cases a
  · show 256 * b.val + 256 ≤ 2048; omega
  · show 0 + 128 ≤ 128; omega
theorem inb_hblk (b : Fin 8) (h : Fin 2) : ∀ a, (![256 * b.val, 128 * h.val] : Fin 2 → ℕ) a + S256x128.size a ≤ S2048x256.size a := by
  intro a; fin_cases a
  · show 256 * b.val + 256 ≤ 2048; omega
  · show 128 * h.val + 128 ≤ 256; omega
theorem inb_gblk (h : Fin 2) : ∀ a, (![0, 128 * h.val] : Fin 2 → ℕ) a + S1x128.size a ≤ S1x256.size a := by
  intro a; fin_cases a
  · show 0 + 1 ≤ 1; omega
  · show 128 * h.val + 128 ≤ 256; omega

/-- Rows `256 b …` of a column buffer; -/
def blk (v : FVec F S2048x128 .f32) (b : Fin 8) : FVec F S256x128 .f32 := fun z =>
  v ((Rect.unit (s := S2048x128) ![256 * b.val, 0] S256x128.size (inb_blk b)).toLoadRect.idx z)
/-- one half of those rows of a block of two halves; -/
def hblk {e : EltTy} (v : Vec F S2048x256 e) (b : Fin 8) (h : Fin 2) : Vec F S256x128 e := fun z =>
  v ((Rect.unit (s := S2048x256) ![256 * b.val, 128 * h.val] S256x128.size (inb_hblk b h)).toLoadRect.idx z)
/-- one half of the gains. -/
def gblk (g : FVec F S1x256 .f32) (h : Fin 2) : FVec F S1x128 .f32 := fun z =>
  g ((Rect.unit (s := S1x256) ![0, 128 * h.val] S1x128.size (inb_gblk h)).toLoadRect.idx z)

variable (xs rs : FVec F S2048x128 .f32) (g : FVec F S1x256 .f32) (x : Vec F S2048x256 .fp8e4m3) (d : FVec F S2048x256 .f32) (gn : FVec F S2048x128 .f32)

def xhtPay (b : Fin 8) (h : Fin 2) : FVec F S128x256 .bf16 := k0_pay131 (blk xs b) (blk rs b) (gblk g h) (hblk x b h)
def gnPay (b : Fin 8) : FVec F S256x128 .f32 :=
  k0_pay139 (blk xs b) (blk rs b) (k0_pay134 (blk xs b) (blk rs b) (blk gn b) (gblk g 0) (hblk x b 0) (hblk d b 0)) (k0_pay135 (gblk g 1)) (hblk x b 1) (hblk d b 1)
def dgStep (acc : FVec F S1x256 .f32) (b : Fin 8) : FVec F S1x256 .f32 :=
  k0_pay140 acc (blk xs b) (blk rs b) (k0_pay133 (blk xs b) (blk rs b) (hblk x b 0) (hblk d b 0)) (hblk x b 1) (hblk d b 1)

/-- The transposed normalised block; -/
def XHT : FVec F S256x2048 .bf16 := fun y =>
  xhtPay xs rs g x ⟨(y 1).val / 256, by have h : (y 1).val < 2048 := (y 1).isLt; omega⟩ ⟨(y 0).val / 128, by have h : (y 0).val < 256 := (y 0).isLt; omega⟩
    (ix2 ⟨(y 0).val % 128, Nat.mod_lt _ (by decide)⟩ ⟨(y 1).val % 256, Nat.mod_lt _ (by decide)⟩)
/-- the row sums with this block's terms added; -/
def GN : FVec F S2048x128 .f32 := fun y =>
  gnPay xs rs g x d gn ⟨(y 0).val / 256, by have h : (y 0).val < 2048 := (y 0).isLt; omega⟩ (ix2 ⟨(y 0).val % 256, Nat.mod_lt _ (by decide)⟩ (y 1))
/-- the gains' gradient over this block. -/
def DG : FVec F S1x256 .f32 :=
  dgStep xs rs x d (dgStep xs rs x d (dgStep xs rs x d (dgStep xs rs x d (dgStep xs rs x d (dgStep xs rs x d (dgStep xs rs x d (dgStep xs rs x d k0_pay128 0) 1) 2) 3) 4) 5) 6) 7

/-- A list of pieces holding `XHT` on the first `n` half blocks. -/
def XOk (n : ℕ) (L : List (View.Piece (Elt F) S256x2048 .bf16)) : Prop :=
  (∀ p ∈ L, ∀ z, p.2 z = XHT xs rs g x (p.1.emb z)) ∧ ∀ y : S256x2048.Idx, (y 1).val / 256 * 2 + (y 0).val / 128 < n → ∃ p ∈ L, y ∈ p.1.set

theorem xok_nil : XOk xs rs g x 0 ([] : List (View.Piece (Elt F) S256x2048 .bf16)) :=
  ⟨fun _ h => absurd h List.not_mem_nil, fun y h => absurd h (Nat.not_lt_zero _)⟩

theorem xok_cons (n : ℕ) (b : Fin 8) (h : Fin 2) (hn : n = b.val * 2 + h.val) {o : Fin 2 → ℕ} (e : o = ![128 * h.val, 256 * b.val]) (i : ∀ a, o a + S128x256.size a ≤ S256x2048.size a)
    {v : FVec F S128x256 .bf16} (hv : v = xhtPay xs rs g x b h) {L : List (View.Piece (Elt F) S256x2048 .bf16)} (hL : XOk xs rs g x n L) :
    XOk xs rs g x (n + 1) (⟨Rect.unit (s := S256x2048) o S128x256.size i, v⟩ :: L) := by
  have f0 : o 0 = 128 * h.val := congrFun e 0
  have f1 : o 1 = 256 * b.val := congrFun e 1
  refine ⟨fun p hp => ?_, fun y hy => ?_⟩
  · rcases List.mem_cons.mp hp with rfl | hp
    · intro z
      have hz0 : (z 0).val < 128 := (z 0).isLt
      have hz1 : (z 1).val < 256 := (z 1).isLt
      have e0 : ((Rect.unit (s := S256x2048) o S128x256.size i).emb z 0).val = 128 * h.val + (z 0).val := by
        rw [Rect.emb_apply]; show o 0 + 1 * (z 0).val = _; omega
      have e1 : ((Rect.unit (s := S256x2048) o S128x256.size i).emb z 1).val = 256 * b.val + (z 1).val := by
        rw [Rect.emb_apply]; show o 1 + 1 * (z 1).val = _; omega
      show v z = XHT xs rs g x _
      rw [hv]
      unfold XHT
      refine congr (congr (congrArg (xhtPay xs rs g x) (Fin.ext ?_)) (Fin.ext ?_)) ?_
      · show b.val = _ / 256; rw [e1]; omega
      · show h.val = _ / 128; rw [e0]; omega
      · funext a; refine Fin.ext ?_; fin_cases a
        · show (z 0).val = _ % 128; rw [e0]; omega
        · show (z 1).val = _ % 256; rw [e1]; omega
    · exact hL.1 p hp
  · by_cases hy' : (y 1).val / 256 * 2 + (y 0).val / 128 < n
    · obtain ⟨p, hp, hm⟩ := hL.2 y hy'
      exact ⟨p, List.mem_cons_of_mem _ hp, hm⟩
    · refine ⟨_, List.mem_cons_self, (Rect.mem_set_unit (inb := i)).2 ?_⟩
      have h0 : (y 0).val < 256 := (y 0).isLt
      have hh := h.isLt
      intro a; fin_cases a
      · show o 0 ≤ (y 0).val ∧ (y 0).val < o 0 + 128; omega
      · show o 1 ≤ (y 1).val ∧ (y 1).val < o 1 + 256; omega

theorem xok_read {s : View sig .tc .vmem S256x2048 .bf16} (f : BufTy.Contents (Elt F) s.ty) {L : List (View.Piece (Elt F) S256x2048 .bf16)} (hL : XOk xs rs g x 16 L) :
    s.read (Elt F) (s.writes (Elt F) f L) = XHT xs rs g x := by
  funext y
  exact View.read_writes_apply_of_pieces _ _ _ L hL.1 y (hL.2 y (by have h0 : (y 0).val < 256 := (y 0).isLt; have h1 : (y 1).val < 2048 := (y 1).isLt; omega))

/-- A list of pieces holding `GN` on the first `n` blocks of rows. -/
def GOk (n : ℕ) (L : List (View.Piece (Elt F) S2048x128 .f32)) : Prop :=
  (∀ p ∈ L, ∀ z, p.2 z = GN xs rs g x d gn (p.1.emb z)) ∧ ∀ y : S2048x128.Idx, (y 0).val / 256 < n → ∃ p ∈ L, y ∈ p.1.set

theorem gok_nil : GOk xs rs g x d gn 0 ([] : List (View.Piece (Elt F) S2048x128 .f32)) :=
  ⟨fun _ h => absurd h List.not_mem_nil, fun y h => absurd h (Nat.not_lt_zero _)⟩

theorem gok_cons (b : Fin 8) {o : Fin 2 → ℕ} (e : o = ![256 * b.val, 0]) (i : ∀ a, o a + S256x128.size a ≤ S2048x128.size a)
    {v : FVec F S256x128 .f32} (hv : v = gnPay xs rs g x d gn b) {L : List (View.Piece (Elt F) S2048x128 .f32)} (hL : GOk xs rs g x d gn b.val L) :
    GOk xs rs g x d gn (b.val + 1) (⟨Rect.unit (s := S2048x128) o S256x128.size i, v⟩ :: L) := by
  have f0 : o 0 = 256 * b.val := congrFun e 0
  have f1 : o 1 = 0 := congrFun e 1
  refine ⟨fun p hp => ?_, fun y hy => ?_⟩
  · rcases List.mem_cons.mp hp with rfl | hp
    · intro z
      have hz0 : (z 0).val < 256 := (z 0).isLt
      have e0 : ((Rect.unit (s := S2048x128) o S256x128.size i).emb z 0).val = 256 * b.val + (z 0).val := by
        rw [Rect.emb_apply]; show o 0 + 1 * (z 0).val = _; omega
      have e1 : ((Rect.unit (s := S2048x128) o S256x128.size i).emb z 1).val = (z 1).val := by
        rw [Rect.emb_apply]; show o 1 + 1 * (z 1).val = _; omega
      show v z = GN xs rs g x d gn _
      rw [hv]
      unfold GN
      refine congr (congrArg (gnPay xs rs g x d gn) (Fin.ext ?_)) ?_
      · show b.val = _ / 256; rw [e0]; omega
      · funext a; refine Fin.ext ?_; fin_cases a
        · show (z 0).val = _ % 256; rw [e0]; omega
        · exact e1.symm
    · exact hL.1 p hp
  · by_cases hy' : (y 0).val / 256 < b.val
    · obtain ⟨p, hp, hm⟩ := hL.2 y hy'
      exact ⟨p, List.mem_cons_of_mem _ hp, hm⟩
    · refine ⟨_, List.mem_cons_self, (Rect.mem_set_unit (inb := i)).2 ?_⟩
      have h1 : (y 1).val < 128 := (y 1).isLt
      intro a; fin_cases a
      · show o 0 ≤ (y 0).val ∧ (y 0).val < o 0 + 256; omega
      · show o 1 ≤ (y 1).val ∧ (y 1).val < o 1 + 128; omega

theorem gok_read {s : View sig .tc .vmem S2048x128 .f32} (f : BufTy.Contents (Elt F) s.ty) {L : List (View.Piece (Elt F) S2048x128 .f32)} (hL : GOk xs rs g x d gn 8 L) :
    s.read (Elt F) (s.writes (Elt F) f L) = GN xs rs g x d gn := by
  funext y
  exact View.read_writes_apply_of_pieces _ _ _ L hL.1 y (hL.2 y (by have h0 : (y 0).val < 2048 := (y 0).isLt; omega))

theorem dg_read {s : View sig .tc .vmem S1x256 .f32} (f : BufTy.Contents (Elt F) s.ty) (i : ∀ a, (![0, 0] : Fin 2 → ℕ) a + S1x256.size a ≤ S1x256.size a)
    {v : FVec F S1x256 .f32} (hv : v = DG xs rs x d) :
    s.read (Elt F) (s.writes (Elt F) f [⟨Rect.unit (s := S1x256) ![0, 0] S1x256.size i, v⟩]) = DG xs rs x d := by
  funext y
  have hid : ∀ z, (Rect.unit (s := S1x256) ![0, 0] S1x256.size i).emb z = z := fun z => by
    funext a; refine Fin.ext ?_; rw [Rect.emb_apply]; fin_cases a
    · show 0 + 1 * (z 0).val = _; exact (by omega : 0 + 1 * (z 0).val = (z 0).val)
    · show 0 + 1 * (z 1).val = _; exact (by omega : 0 + 1 * (z 1).val = (z 1).val)
  refine View.read_writes_apply_of_pieces _ _ _ _ (fun p hp z => ?_) y ⟨_, List.mem_cons_self, ?_⟩
  · obtain rfl := List.mem_singleton.mp hp
    show v z = _
    rw [hid, hv]
  · refine (Rect.mem_set_unit (inb := i)).2 ?_
    have h0 : (y 0).val < 1 := (y 0).isLt
    have h1 : (y 1).val < 256 := (y 1).isLt
    intro a; fin_cases a
    · show 0 ≤ (y 0).val ∧ (y 0).val < 0 + 1; omega
    · show 0 ≤ (y 1).val ∧ (y 1).val < 0 + 256; omega

/-- What one block leaves in the four output windows. -/
def OutOk (D : FVec F S2048x9216 .bf16) (w : Vec F S256x9216 .fp8e4m3) (d' : FVec F S2048x256 .f32) (t' : FVec F S256x2048 .bf16) (gn' : FVec F S2048x128 .f32) (dg' : FVec F S1x256 .f32) : Prop :=
  d' = MM D w ∧ t' = XHT xs rs g x ∧ gn' = GN xs rs g x (MM D w) gn ∧ dg' = DG xs rs x (MM D w)

end Blocks

end Cert.Kernel.Own

end
-- ==== Proof.Run.Kernel.Later.lean ====
module

public import proofs.«01_k».proof.Proof.Run.Kernel.Blocks

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Later

variable (c : Dev nD)
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : ¬ k0_cond1 i = 1#1)

include h1 in
/-- The body at a point after the first. -/
theorem later (X4 : Buf (Elt F) (arg4.view.loc (c : Thread nD τ))) (X5 : Buf (Elt F) (arg5.view.loc (c : Thread nD τ))) (X8 : Buf (Elt F) (arg8.view.loc (c : Thread nD τ)))
    (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (fd : Buf (Elt F) (dqm.view.loc (c : Thread nD τ))) (fx : Buf (Elt F) (xsm.view.loc (c : Thread nD τ))) (fr : Buf (Elt F) (rsm.view.loc (c : Thread nD τ))) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ dqP c fd ∗ (xsm.view.loc (c : Thread nD τ) ↦[xsm.view.set]{fullShare} fx) ∗ (rsm.view.loc (c : Thread nD τ) ↦[rsm.view.set]{fullShare} fr))
    ⊢ wp frame (wpE (defs₀ (F := F)) 𝒱₀ (c : Thread nD τ) none) Set.univ
        (cc0_dx_matmul (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4)
        (fun _ => iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
          ∗ dqP c fd ∗ (xsm.view.loc (c : Thread nD τ) ↦[xsm.view.set]{fullShare} fx) ∗ (rsm.view.loc (c : Thread nD τ) ↦[rsm.view.set]{fullShare} fr)
          ∗ ∃ g9 g10 g11 g12, (arg9.view.loc (c : Thread nD τ) ↦[arg9.view.set]{fullShare} g9) ∗ (arg10.view.loc (c : Thread nD τ) ↦[arg10.view.set]{fullShare} g10)
            ∗ (arg11.view.loc (c : Thread nD τ) ↦[arg11.view.set]{fullShare} g11) ∗ (arg12.view.loc (c : Thread nD τ) ↦[arg12.view.set]{fullShare} g12)
            ∗ ⌜OutOk (xsm.view.read (Elt F) fx) (rsm.view.read (Elt F) fr) (arg8.view.read (Elt F) X8) (arg5.view.read (Elt F) X5) (arg11.view.read (Elt F) f11)
                (dqm.view.read (Elt F) fd) (arg4.view.read (Elt F) X4) (arg9.view.read (Elt F) g9) (arg10.view.read (Elt F) g10) (arg11.view.read (Elt F) g11) (arg12.view.read (Elt F) g12)⌝)) := by
  have ht : Scf.trips k0_t2_loop.lb k0_t2_loop.ub k0_t2_loop.st = 4 := by decide +kernel
  iintro ⟨H4, H5, H8, H9, H10, H11, H12, HD, Hx, Hr⟩
  rw [cc0_dx_matmul_eq_skeleton]
  unfold cc0_dx_matmul_skel
  rw [k0_part30_eq_skeleton]
  unfold k0_part30_skel
  sl_exec
  iapply (entails_of_eq (Idealize.SL.Sem.wp_bind _ _ _ _ _ _).symm)
  ihave HI := (loop2_entry c i arg2 harg2 arg3 harg3 arg4 harg4 arg5 harg5 arg6 harg6 arg7 harg7 arg8 harg8 arg9 harg9 arg10 harg10 arg11 harg11 arg12 harg12 X4 fd f9 ()) $$ [H4 HD H9]
  · isplitl [H4]; · iexact H4
    isplitl [HD]; · iexact HD
    iexact H9
  iapply (exec_loop _ _ _ _ _ _ _ _ _ (loop2 c i arg2 harg2 arg3 harg3 arg4 harg4 arg5 harg5 arg6 harg6 arg7 harg7 arg8 harg8 arg9 harg9 arg10 harg10 arg11 harg11 arg12 harg12 X4 fd)) $$ [HI]
  · iexact HI
  iintro %acc HI
  ihave HI := (loop2_exit c i arg2 harg2 arg3 harg3 arg4 harg4 arg5 harg5 arg6 harg6 arg7 harg7 arg8 harg8 arg9 harg9 arg10 harg10 arg11 harg11 arg12 harg12 X4 fd acc) $$ HI
  icases HI with ⟨H4, HD, %g9, H9, %hg⟩
  sl_exec
  sl_step
  isplitl [H4]; · iexact H4
  isplitl [H5]; · iexact H5
  isplitl [H8]; · iexact H8
  isplitl [HD]; · iexact HD
  isplitl [Hx]; · iexact Hx
  isplitl [Hr]; · iexact Hr
  iexists _; iexists _; iexists _; iexists _
  isplitl [H9]; · iexact H9
  isplitl [H10]; · iexact H10
  isplitl [H11]; · iexact H11
  isplitl [H12]; · iexact H12
  ipureintro
  unfold OutOk
  rw [← hg]
  refine ⟨rfl, xok_read _ _ _ _ _ ?_, gok_read _ _ _ _ _ _ _ ?_, dg_read _ _ _ _ _ _ ?_⟩
  · exact xok_cons _ _ _ _ 15 7 1 rfl rfl _ rfl (xok_cons _ _ _ _ 14 7 0 rfl rfl _ rfl (xok_cons _ _ _ _ 13 6 1 rfl rfl _ rfl (xok_cons _ _ _ _ 12 6 0 rfl rfl _ rfl (xok_cons _ _ _ _ 11 5 1 rfl rfl _ rfl (xok_cons _ _ _ _ 10 5 0 rfl rfl _ rfl (xok_cons _ _ _ _ 9 4 1 rfl rfl _ rfl (xok_cons _ _ _ _ 8 4 0 rfl rfl _ rfl (xok_cons _ _ _ _ 7 3 1 rfl rfl _ rfl (xok_cons _ _ _ _ 6 3 0 rfl rfl _ rfl (xok_cons _ _ _ _ 5 2 1 rfl rfl _ rfl (xok_cons _ _ _ _ 4 2 0 rfl rfl _ rfl (xok_cons _ _ _ _ 3 1 1 rfl rfl _ rfl (xok_cons _ _ _ _ 2 1 0 rfl rfl _ rfl (xok_cons _ _ _ _ 1 0 1 rfl rfl _ rfl (xok_cons _ _ _ _ 0 0 0 rfl rfl _ rfl (xok_nil _ _ _ _))))))))))))))))
  · exact gok_cons _ _ _ _ _ _ 7 rfl _ rfl (gok_cons _ _ _ _ _ _ 6 rfl _ rfl (gok_cons _ _ _ _ _ _ 5 rfl _ rfl (gok_cons _ _ _ _ _ _ 4 rfl _ rfl (gok_cons _ _ _ _ _ _ 3 rfl _ rfl (gok_cons _ _ _ _ _ _ 2 rfl _ rfl (gok_cons _ _ _ _ _ _ 1 rfl _ rfl (gok_cons _ _ _ _ _ _ 0 rfl _ rfl (gok_nil _ _ _ _ _ _))))))))
  · rfl

end Later

end Cert.Kernel.Own

end
-- ==== Proof.Run.Kernel.Trip.lean ====
module

public import proofs.«01_k».proof.Proof.Run.Kernel.TripDefs

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

set_option backward.proofsInPublic true in
/-- A trip that sends the next chunk: what it leaves, with the stores it made to the scratch. -/
def tripRun (k : Fin k0_t1_loop.trips) (hk : k.val + 1 < 16) (X2 : Buf (Elt F) (arg2.view.loc (c : Thread nD τ))) (X3 : Buf (Elt F) (arg3.view.loc (c : Thread nD τ)))
    (fd : Buf (Elt F) (dqm.view.loc (c : Thread nD τ))) (W : Waits sig Unit) (f0) (f1) :
    { L : List (View.Piece (Elt F) S2048x9216 .bf16) //
      iprop(P2 c arg2 X2 ∗ P3 c arg3 X3 ∗ dqP c fd ∗ owes (c : Thread nD τ) 0 W ∗ homeP c XA (Ring.bk 16 (k.val + 1))
          ∗ flightP c XA (Ring.sl 2 k.val) (Ring.bk 16 k.val) f0 ∗ slotP c (Ring.sl 2 (k.val + 1)) f1 ∗ cellP c (Ring.sl 2 (k.val + 1)))
        ⊢ wp frame (wpE (defs₀ (F := F)) 𝒱₀ (c : Thread nD τ) none) Set.univ
          (trip i arg2 harg2 arg3 harg3 arg4 harg4 arg5 harg5 arg6 harg6 arg7 harg7 arg8 harg8 arg9 harg9 arg10 harg10 arg11 harg11 arg12 harg12 h1 k)
          (fun _ => iprop(P2 c arg2 X2 ∗ P3 c arg3 X3 ∗ dqP c (dqm.view.writes (Elt F) fd L) ∗ (∃ W, owes (c : Thread nD τ) 0 W) ∗ homeP c XA (Ring.bk 16 k.val)
            ∗ flightP c XA (Ring.sl 2 (k.val + 1)) (Ring.bk 16 (k.val + 1)) f1 ∗ (∃ f, slotP c (Ring.sl 2 k.val) f) ∗ cellP c (Ring.sl 2 k.val))) } := by
  refine ⟨?_, ?run⟩
  case run =>
    have hk6 : k.val < 16 := by omega
    have hc : k0_cond2 k = 1#1 := (cond2_iff k).2 hk
    have hsv : (Ring.sl 2 k.val).val = k.val % 2 := rfl
    iintro ⟨H2, H3, HD, HW, Hh, HF, Hs, Hc⟩
    dsimp only [trip]
    sl_unfold [k0_t1_body]
    sl_exec
    sl_step
    isplitl [H2]; · iexact H2
    isplitl [H3]; · iexact H3
    isplitl [HD]; · iexact HD
    isplitl [HW]; · iexists _; iexact HW
    isplitl [HF_src]; · iexact HF_src
    isplitl [Hc]; · iexact Hc
    isplitl [HF_dst]; · iexists _; iexact HF_dst
    iexact HF

end Trip

end Cert.Kernel.Own

end
-- ==== Proof.Run.Kernel.TripB.lean ====
module

public import proofs.«01_k».proof.Proof.Run.Kernel.TripDefs

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

set_option backward.proofsInPublic true in
/-- The last trip, which sends no further chunk. -/
def lastRun (k : Fin k0_t1_loop.trips) (hk : k.val + 1 = 16) (X2 : Buf (Elt F) (arg2.view.loc (c : Thread nD τ))) (X3 : Buf (Elt F) (arg3.view.loc (c : Thread nD τ)))
    (fd : Buf (Elt F) (dqm.view.loc (c : Thread nD τ))) (W : Waits sig Unit) (f0) :
    { L : List (View.Piece (Elt F) S2048x9216 .bf16) //
      iprop(P2 c arg2 X2 ∗ P3 c arg3 X3 ∗ dqP c fd ∗ owes (c : Thread nD τ) 0 W
          ∗ flightP c XA (Ring.sl 2 k.val) (Ring.bk 16 k.val) f0)
        ⊢ wp frame (wpE (defs₀ (F := F)) 𝒱₀ (c : Thread nD τ) none) Set.univ
          (trip i arg2 harg2 arg3 harg3 arg4 harg4 arg5 harg5 arg6 harg6 arg7 harg7 arg8 harg8 arg9 harg9 arg10 harg10 arg11 harg11 arg12 harg12 h1 k)
          (fun _ => iprop(P2 c arg2 X2 ∗ P3 c arg3 X3 ∗ dqP c (dqm.view.writes (Elt F) fd L) ∗ (∃ W, owes (c : Thread nD τ) 0 W) ∗ homeP c XA (Ring.bk 16 k.val)
            ∗ (∃ f, slotP c (Ring.sl 2 k.val) f) ∗ cellP c (Ring.sl 2 k.val))) } := by
  refine ⟨?_, ?run⟩
  case run =>
    have hk6 : k.val < 16 := by omega
    have hc : ¬ k0_cond2 k = 1#1 := fun h => by have := (cond2_iff k).1 h; omega
    have hsv : (Ring.sl 2 k.val).val = k.val % 2 := rfl
    iintro ⟨H2, H3, HD, HW, HF⟩
    dsimp only [trip]
    sl_unfold [k0_t1_body]
    sl_exec
    sl_step
    isplitl [H2]; · iexact H2
    isplitl [H3]; · iexact H3
    isplitl [HD]; · iexact HD
    isplitl [HW]; · iexists _; iexact HW
    isplitl [HF_src]; · iexact HF_src
    isplitl [HF_dst]; · iexists _; iexact HF_dst
    iexact HF

end Trip

end Cert.Kernel.Own

end
-- ==== Proof.Run.Kernel.TripOk.lean ====
module

public import proofs.«01_k».proof.Proof.Run.Kernel.Trip
public import proofs.«01_k».proof.Proof.Run.Kernel.TripB

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

theorem tripRun_ok (k : Fin k0_t1_loop.trips) (hk : k.val + 1 < 16) (X2) (X3) (fd) (W) (f0) (f1) :
    HeadsOK c XA arg2 arg3 X2 X3 k.val 72 (tripRun c XA i arg2 harg2 arg3 harg3 arg4 harg4 arg5 harg5 arg6 harg6 arg7 harg7 arg8 harg8 arg9 harg9 arg10 harg10 arg11 harg11 arg12 harg12 h1 k hk X2 X3 fd W f0 f1).1 := by
  have hk6 : k.val < 16 := by omega
  unfold tripRun
  dsimp only
  repeat' first
    | exact heads_nil c XA arg2 arg3 X2 X3 k.val
    | refine heads_cons c XA arg2 arg3 X2 X3 k.val hk6 _ (by decide) _ (k0_off7_eq k) _ rfl _ rfl _ rfl _ ?_

theorem lastRun_ok (k : Fin k0_t1_loop.trips) (hk : k.val + 1 = 16) (X2) (X3) (fd) (W) (f0) :
    HeadsOK c XA arg2 arg3 X2 X3 k.val 72 (lastRun c XA i arg2 harg2 arg3 harg3 arg4 harg4 arg5 harg5 arg6 harg6 arg7 harg7 arg8 harg8 arg9 harg9 arg10 harg10 arg11 harg11 arg12 harg12 h1 k hk X2 X3 fd W f0).1 := by
  have hk6 : k.val < 16 := by omega
  unfold lastRun
  dsimp only
  repeat' first
    | exact heads_nil c XA arg2 arg3 X2 X3 k.val
    | refine heads_cons c XA arg2 arg3 X2 X3 k.val hk6 _ (by decide) _ (k0_off7_eq k) _ rfl _ rfl _ rfl _ ?_

end Trip

end Cert.Kernel.Own

end
-- ==== Proof.Run.Kernel.Loop.lean ====
module

public import proofs.«01_k».proof.Proof.Run.Kernel.TripOk

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

/-- The ring before trip `k`: chunk `k` in flight, the others home, the other slot free; after the last trip everything home. -/
def ring (k : ℕ) : sProp 𝕄 :=
  if k < 16 then
    iprop(bigSep ((Finset.univ : Finset (Fin 16)).erase (Ring.bk 16 k)) (homeP c XA) ∗ (∃ f, flightP c XA (Ring.sl 2 k) (Ring.bk 16 k) f)
      ∗ (∃ f, slotP c (Ring.sl 2 (k + 1)) f) ∗ cellP c (Ring.sl 2 (k + 1)))
  else
    iprop(bigSep (Finset.univ : Finset (Fin 16)) (homeP c XA) ∗ (∃ f, slotP c 0 f) ∗ (∃ f, slotP c 1 f) ∗ cellP c 0 ∗ cellP c 1)

theorem ring_lt {k : ℕ} (h : k < 16) : ring c XA k = iprop(bigSep ((Finset.univ : Finset (Fin 16)).erase (Ring.bk 16 k)) (homeP c XA) ∗ (∃ f, flightP c XA (Ring.sl 2 k) (Ring.bk 16 k) f)
      ∗ (∃ f, slotP c (Ring.sl 2 (k + 1)) f) ∗ cellP c (Ring.sl 2 (k + 1))) := if_pos h
theorem ring_end : ring c XA 16 = iprop(bigSep (Finset.univ : Finset (Fin 16)) (homeP c XA) ∗ (∃ f, slotP c 0 f) ∗ (∃ f, slotP c 1 f) ∗ cellP c 0 ∗ cellP c 1) := if_neg (by decide)

theorem bk_ne {a b : ℕ} (ha : a < 16) (hb : b < 16) (h : a ≠ b) : Ring.bk 16 a ≠ Ring.bk 16 b := fun e => h (by
  have := congrArg Fin.val e; rwa [Ring.bk_val ha, Ring.bk_val hb] at this)

/-- Trip `k`'s homes: chunk `k + 1`, about to go out, beside the rest; -/
theorem homes_here (k : ℕ) (hk : k + 1 < 16) :
    bigSep ((Finset.univ : Finset (Fin 16)).erase (Ring.bk 16 k)) (homeP c XA)
      = iprop(homeP c XA (Ring.bk 16 (k + 1)) ∗ bigSep (((Finset.univ : Finset (Fin 16)).erase (Ring.bk 16 k)).erase (Ring.bk 16 (k + 1))) (homeP c XA)) := by
  conv_lhs => rw [← Finset.insert_erase (Finset.mem_erase.2 ⟨bk_ne hk (by omega : k < 16) (by omega), Finset.mem_univ (Ring.bk 16 (k + 1))⟩), bigSep_insert (Finset.notMem_erase _ _)]
  rfl
/-- trip `k + 1`'s: chunk `k`, just back, beside that rest; -/
theorem homes_next (k : ℕ) (hk : k + 1 < 16) :
    bigSep ((Finset.univ : Finset (Fin 16)).erase (Ring.bk 16 (k + 1))) (homeP c XA)
      = iprop(homeP c XA (Ring.bk 16 k) ∗ bigSep (((Finset.univ : Finset (Fin 16)).erase (Ring.bk 16 k)).erase (Ring.bk 16 (k + 1))) (homeP c XA)) := by
  conv_lhs => rw [← Finset.insert_erase (Finset.mem_erase.2 ⟨bk_ne (by omega : k < 16) hk (by omega), Finset.mem_univ (Ring.bk 16 k)⟩), bigSep_insert (Finset.notMem_erase _ _), Finset.erase_right_comm]
  rfl
/-- and all of them: any one beside the others. -/
theorem homes_all (b : Fin 16) : bigSep (Finset.univ : Finset (Fin 16)) (homeP c XA) = iprop(homeP c XA b ∗ bigSep ((Finset.univ : Finset (Fin 16)).erase b) (homeP c XA)) := by
  conv_lhs => rw [← Finset.insert_erase (Finset.mem_univ b), bigSep_insert (Finset.notMem_erase _ _)]
  rfl

/-- The first loop's invariant: rows below `128 k` of the scratch hold `DQ`. -/
def inv1 (X2 : Buf (Elt F) (arg2.view.loc (c : Thread nD τ))) (X3 : Buf (Elt F) (arg3.view.loc (c : Thread nD τ))) (k : ℕ) : sProp 𝕄 :=
  iprop(∃ fd, dqP c fd ∗ ⌜∀ y : S2048x9216.Idx, (y 0).val < 128 * k → dqm.view.read (Elt F) fd y = DQv c XA arg2 arg3 X2 X3 y⌝
    ∗ P2 c arg2 X2 ∗ P3 c arg3 X3 ∗ (∃ W, owes (c : Thread nD τ) 0 W) ∗ ring c XA k)

set_option warn.classDefReducibility false in
/-- The first loop. -/
def loop1 (X2 : Buf (Elt F) (arg2.view.loc (c : Thread nD τ))) (X3 : Buf (Elt F) (arg3.view.loc (c : Thread nD τ))) :
    LoopInvTy_k0_t1 (F := F) Unit ℕ (UU nD τ) ℕ 𝒱₀ c none Set.univ i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 h1 where
  inv k _ := inv1 c XA arg2 arg3 X2 X3 k
  step k _ := by
    have hk16 : k.val < 16 := trips_eq ▸ k.isLt
    unfold inv1
    by_cases hk : k.val + 1 < 16
    · rw [ring_lt c XA hk16, homes_here c XA k.val hk, ring_lt c XA hk, homes_next c XA k.val hk,
        show Ring.sl 2 (k.val + 1 + 1) = Ring.sl 2 k.val from by rw [show k.val + 1 + 1 = k.val + 2 from rfl, Ring.sl_add]]
      iintro ⟨%fd, HD, %hd, H2, H3, ⟨%W, HW⟩, ⟨Hh, Hrest⟩, ⟨%f0, HF⟩, ⟨%f1, Hs⟩, Hc⟩
      have hok := tripRun_ok c XA i arg2 harg2 arg3 harg3 arg4 harg4 arg5 harg5 arg6 harg6 arg7 harg7 arg8 harg8 arg9 harg9 arg10 harg10 arg11 harg11 arg12 harg12 h1 k hk X2 X3 fd W f0 f1
      iapply (wp_wand_r Idealize.ShloMosaic.frame (wpE (defs₀ (F := F)) 𝒱₀ (c : Thread nD τ) none) Set.univ)
      isplitl [H2 H3 HD HW Hh HF Hs Hc]
      · iapply (tripRun c XA i arg2 harg2 arg3 harg3 arg4 harg4 arg5 harg5 arg6 harg6 arg7 harg7 arg8 harg8 arg9 harg9 arg10 harg10 arg11 harg11 arg12 harg12 h1 k hk X2 X3 fd W f0 f1).2
        isplitl [H2]; · iexact H2
        isplitl [H3]; · iexact H3
        isplitl [HD]; · iexact HD
        isplitl [HW]; · iexact HW
        isplitl [Hh]; · iexact Hh
        isplitl [HF]; · iexact HF
        isplitl [Hs]; · iexact Hs
        iexact Hc
      · iintro %_ ⟨H2, H3, HD, HW, Hh, HF, Hs, Hc⟩
        iexists _
        isplitl [HD]; · iexact HD
        isplitr; · ipureintro; exact fun y hy => heads_done c XA arg2 arg3 X2 X3 k.val hok fd hd y (by omega)
        isplitl [H2]; · iexact H2
        isplitl [H3]; · iexact H3
        isplitl [HW]; · iexact HW
        isplitl [Hh Hrest]
        · isplitl [Hh]; · iexact Hh
          iexact Hrest
        isplitl [HF]; · iexists _; iexact HF
        isplitl [Hs]; · iexact Hs
        iexact Hc
    · have hk' : k.val + 1 = 16 := by omega
      have e0 : Ring.sl 2 (k.val + 1) = 0 := by rw [hk']; rfl
      have e1 : Ring.sl 2 k.val = 1 := by rw [show k.val = 15 from by omega]; rfl
      rw [ring_lt c XA hk16, hk', ring_end c XA, homes_all c XA (Ring.bk 16 k.val), show Ring.sl 2 16 = 0 from rfl]
      iintro ⟨%fd, HD, %hd, H2, H3, ⟨%W, HW⟩, Hrest, ⟨%f0, HF⟩, Hs1, Hc1⟩
      have hok := lastRun_ok c XA i arg2 harg2 arg3 harg3 arg4 harg4 arg5 harg5 arg6 harg6 arg7 harg7 arg8 harg8 arg9 harg9 arg10 harg10 arg11 harg11 arg12 harg12 h1 k hk' X2 X3 fd W f0
      iapply (wp_wand_r Idealize.ShloMosaic.frame (wpE (defs₀ (F := F)) 𝒱₀ (c : Thread nD τ) none) Set.univ)
      isplitl [H2 H3 HD HW HF]
      · iapply (lastRun c XA i arg2 harg2 arg3 harg3 arg4 harg4 arg5 harg5 arg6 harg6 arg7 harg7 arg8 harg8 arg9 harg9 arg10 harg10 arg11 harg11 arg12 harg12 h1 k hk' X2 X3 fd W f0).2
        isplitl [H2]; · iexact H2
        isplitl [H3]; · iexact H3
        isplitl [HD]; · iexact HD
        isplitl [HW]; · iexact HW
        iexact HF
      · iintro %_ ⟨H2, H3, HD, HW, Hh, Hs, Hc⟩
        iexists _
        isplitl [HD]; · iexact HD
        isplitr; · ipureintro; exact fun y hy => heads_done c XA arg2 arg3 X2 X3 k.val hok fd hd y (by omega)
        isplitl [H2]; · iexact H2
        isplitl [H3]; · iexact H3
        isplitl [HW]; · iexact HW
        isplitl [Hh Hrest]
        · isplitl [Hh]; · iexact Hh
          iexact Hrest
        isplitl [Hs1]; · iexact Hs1
        isplitl [Hs]; · iapply (entails_of_eq (show iprop(∃ f, slotP c (Ring.sl 2 k.val) f) = iprop(∃ f, slotP (F := F) c 1 f) from by rw [e1])); iexact Hs
        isplitl [Hc1]; · iexact Hc1
        iapply (entails_of_eq (show cellP (F := F) c (Ring.sl 2 k.val) = cellP c 1 from by rw [e1])); iexact Hc

theorem loop1_entry (X2 : Buf (Elt F) (arg2.view.loc (c : Thread nD τ))) (X3 : Buf (Elt F) (arg3.view.loc (c : Thread nD τ))) (fd : Buf (Elt F) (dqm.view.loc (c : Thread nD τ))) (W : Waits sig Unit) (f0 f1) (a : Unit) :
    iprop(P2 c arg2 X2 ∗ P3 c arg3 X3 ∗ dqP c fd ∗ owes (c : Thread nD τ) 0 W ∗ bigSep ((Finset.univ : Finset (Fin 16)).erase 0) (homeP c XA)
        ∗ flightP c XA 0 0 f0 ∗ slotP c 1 f1 ∗ cellP c 1)
      ⊢ (loop1 c XA i arg2 harg2 arg3 harg3 arg4 harg4 arg5 harg5 arg6 harg6 arg7 harg7 arg8 harg8 arg9 harg9 arg10 harg10 arg11 harg11 arg12 harg12 h1 X2 X3).inv 0 a := by
  refine .trans ?_ (entails_of_eq (show inv1 c XA arg2 arg3 X2 X3 0 = _ from rfl))
  unfold inv1
  rw [ring_lt c XA (show 0 < 16 by decide), show Ring.bk 16 0 = 0 from rfl, show Ring.sl 2 0 = 0 from rfl, show Ring.sl 2 (0 + 1) = 1 from rfl]
  iintro ⟨H2, H3, HD, HW, Hh, HF, Hs, Hc⟩
  iexists fd
  isplitl [HD]; · iexact HD
  isplitr; · ipureintro; exact fun y hy => absurd hy (Nat.not_lt_zero _)
  isplitl [H2]; · iexact H2
  isplitl [H3]; · iexact H3
  isplitl [HW]; · iexists W; iexact HW
  isplitl [Hh]; · iexact Hh
  isplitl [HF]; · iexists f0; iexact HF
  isplitl [Hs]; · iexists f1; iexact Hs
  iexact Hc

theorem loop1_exit (X2 : Buf (Elt F) (arg2.view.loc (c : Thread nD τ))) (X3 : Buf (Elt F) (arg3.view.loc (c : Thread nD τ))) (a : Unit) :
    (loop1 c XA i arg2 harg2 arg3 harg3 arg4 harg4 arg5 harg5 arg6 harg6 arg7 harg7 arg8 harg8 arg9 harg9 arg10 harg10 arg11 harg11 arg12 harg12 h1 X2 X3).inv (Scf.trips k0_t1_loop.lb k0_t1_loop.ub k0_t1_loop.st) a
      ⊢ iprop(∃ fd, dqP c fd ∗ ⌜dqm.view.read (Elt F) fd = DQv c XA arg2 arg3 X2 X3⌝ ∗ P2 c arg2 X2 ∗ P3 c arg3 X3 ∗ (∃ W, owes (c : Thread nD τ) 0 W)
        ∗ bigSep (Finset.univ : Finset (Fin 16)) (homeP c XA) ∗ (∃ f, slotP c 0 f) ∗ (∃ f, slotP c 1 f) ∗ cellP c 0 ∗ cellP c 1) := by
  have ht : Scf.trips k0_t1_loop.lb k0_t1_loop.ub k0_t1_loop.st = 16 := trips_eq
  rw [ht]
  refine (entails_of_eq (show _ = inv1 c XA arg2 arg3 X2 X3 16 from rfl)).trans ?_
  unfold inv1
  rw [ring_end]
  iintro ⟨%fd, HD, %hd, H2, H3, HW, HR⟩
  iexists fd
  isplitl [HD]; · iexact HD
  isplitr; · ipureintro; exact funext fun y => hd y (y 0).isLt
  isplitl [H2]; · iexact H2
  isplitl [H3]; · iexact H3
  isplitl [HW]; · iexact HW
  iexact HR

end Loop

end Cert.Kernel.Own

end
-- ==== Proof.Run.Kernel.First.lean ====
module

public import proofs.«01_k».proof.Proof.Run.Kernel.Blocks
public import proofs.«01_k».proof.Proof.Run.Kernel.Loop

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section First

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

omit [FloatOps F] in
/-- A resource's parameter forgotten but for a fact of it. -/
theorem hide {α : Type} (P : α → sProp 𝕄) (f : α) (Q : α → Prop) (h : Q f) : P f ⊢ iprop(∃ g, P g ∗ ⌜Q g⌝) := by
  iintro H
  iexists f
  isplitl [H]; · iexact H
  ipureintro; exact h

theorem whole_read {s : View sig .tc .vmem S2048x128 .f32} (f : BufTy.Contents (Elt F) s.ty) (i : ∀ a, (![0, 0] : Fin 2 → ℕ) a + S2048x128.size a ≤ S2048x128.size a)
    (v : FVec F S2048x128 .f32) :
    s.read (Elt F) (s.writes (Elt F) f [⟨Rect.unit (s := S2048x128) ![0, 0] S2048x128.size i, v⟩]) = v := by
  funext y
  have hid : ∀ z, (Rect.unit (s := S2048x128) ![0, 0] S2048x128.size i).emb z = z := fun z => by
    funext a; refine Fin.ext ?_; rw [Rect.emb_apply]; fin_cases a
    · show 0 + 1 * (z 0).val = _; exact (by omega : 0 + 1 * (z 0).val = (z 0).val)
    · show 0 + 1 * (z 1).val = _; exact (by omega : 0 + 1 * (z 1).val = (z 1).val)
  refine View.read_writes_apply_of_pieces _ _ _ _ (fun p hp z => ?_) y ⟨_, List.mem_cons_self, ?_⟩
  · obtain rfl := List.mem_singleton.mp hp
    show v z = _
    rw [hid]
  · refine (Rect.mem_set_unit (inb := i)).2 ?_
    have h0 : (y 0).val < 2048 := (y 0).isLt
    have h1 : (y 1).val < 128 := (y 1).isLt
    intro a; fin_cases a
    · show 0 ≤ (y 0).val ∧ (y 0).val < 0 + 2048; omega
    · show 0 ≤ (y 1).val ∧ (y 1).val < 0 + 128; omega

theorem row_read (m : Memref sig .tc .vmem S1x2048 .f32) (f : Buf (Elt F) (m.view.loc (c : Thread nD τ))) (i : ∀ a, (![0, 0] : Fin 2 → ℕ) a + S1x2048.size a ≤ S1x2048.size a) :
    m.view.readAt (Elt F) (Rect.unit (s := S1x2048) ![0, 0] S1x2048.size i).toLoadRect f = m.view.read (Elt F) f := by
  funext z
  rw [View.readAt_apply]; congr 1; funext a; refine Fin.ext ?_; fin_cases a
  · show 0 + 1 * (z 0).val = (z 0).val; omega
  · show 0 + 1 * (z 1).val = (z 1).val; omega

set_option maxHeartbeats 2000000 in
include h1 in
/-- The body at the first point. -/
theorem first (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ))) (X8 : Buf (Elt F) (arg8.view.loc (c : Thread nD τ)))
    (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (fd : Buf (Elt F) (dqm.view.loc (c : Thread nD τ))) (fx : Buf (Elt F) (xsm.view.loc (c : Thread nD τ))) (fr : Buf (Elt F) (rsm.view.loc (c : Thread nD τ))) (W : Waits sig Unit) (s0 s1) :
    iprop(P2 c arg2 X2 ∗ P3 c arg3 X3 ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ dqP c fd ∗ (xsm.view.loc (c : Thread nD τ) ↦[xsm.view.set]{fullShare} fx) ∗ (rsm.view.loc (c : Thread nD τ) ↦[rsm.view.set]{fullShare} fr)
      ∗ owes (c : Thread nD τ) 0 W ∗ (homeP c XA 0 ∗ bigSep ((Finset.univ : Finset (Fin 16)).erase 0) (homeP c XA)) ∗ slotP c 0 s0 ∗ slotP c 1 s1 ∗ cellP c 0 ∗ cellP c 1)
    ⊢ wp frame (wpE (defs₀ (F := F)) 𝒱₀ (c : Thread nD τ) none) Set.univ
        (cc0_dx_matmul (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4)
        (fun _ => iprop(P2 c arg2 X2 ∗ P3 c arg3 X3 ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
          ∗ (∃ W, owes (c : Thread nD τ) 0 W) ∗ bigSep (Finset.univ : Finset (Fin 16)) (homeP c XA) ∗ (∃ f, slotP c 0 f) ∗ (∃ f, slotP c 1 f) ∗ cellP c 0 ∗ cellP c 1
          ∗ ∃ gd gx gr g9 g10 g11 g12, dqP c gd ∗ (xsm.view.loc (c : Thread nD τ) ↦[xsm.view.set]{fullShare} gx) ∗ (rsm.view.loc (c : Thread nD τ) ↦[rsm.view.set]{fullShare} gr)
            ∗ (arg9.view.loc (c : Thread nD τ) ↦[arg9.view.set]{fullShare} g9) ∗ (arg10.view.loc (c : Thread nD τ) ↦[arg10.view.set]{fullShare} g10)
            ∗ (arg11.view.loc (c : Thread nD τ) ↦[arg11.view.set]{fullShare} g11) ∗ (arg12.view.loc (c : Thread nD τ) ↦[arg12.view.set]{fullShare} g12)
            ∗ ⌜dqm.view.read (Elt F) gd = DQv c XA arg2 arg3 X2 X3 ∧ xsm.view.read (Elt F) gx = k0_pay123 (arg6.view.read (Elt F) X6) ∧ rsm.view.read (Elt F) gr = k0_pay124 (arg7.view.read (Elt F) X7)
              ∧ OutOk (k0_pay123 (arg6.view.read (Elt F) X6)) (k0_pay124 (arg7.view.read (Elt F) X7)) (arg8.view.read (Elt F) X8) (arg5.view.read (Elt F) X5) k0_pay125
                (DQv c XA arg2 arg3 X2 X3) (arg4.view.read (Elt F) X4) (arg9.view.read (Elt F) g9) (arg10.view.read (Elt F) g10) (arg11.view.read (Elt F) g11) (arg12.view.read (Elt F) g12)⌝)) := by
  iintro ⟨H2, H3, H4, H5, H6, H7, H8, H9, H10, H11, H12, HD, Hx, Hr, HW, ⟨Hh0, Hh⟩, Hs0, Hs1, Hc0, Hc1⟩
  rw [cc0_dx_matmul_eq_skeleton]
  unfold cc0_dx_matmul_skel
  rw [k0_part30_eq_skeleton]
  unfold k0_part30_skel
  sl_exec
  ihave HI := (loop1_entry c XA i arg2 harg2 arg3 harg3 arg4 harg4 arg5 harg5 arg6 harg6 arg7 harg7 arg8 harg8 arg9 harg9 arg10 harg10 arg11 harg11 arg12 harg12 h1 X2 X3 fd W s0 s1 ()) $$ [H2 H3 HD HW Hh Hs1 Hc0 Hc1]
  · isplitl [H2]; · iexact H2
    isplitl [H3]; · iexact H3
    isplitl [HD]; · iexact HD
    isplitl [HW]; · iexact HW
    isplitl [Hh]; · iexact Hh
    isplitl [Hc0]; · iexact Hc0
    isplitl [Hs1]; · iexact Hs1
    iexact Hc1
  iapply (entails_of_eq (Idealize.SL.Sem.wp_bind _ _ _ _ _ _).symm)
  iapply (entails_of_eq (Idealize.SL.Sem.wp_bind _ _ _ _ _ _).symm)
  iapply (exec_loop_last _ _ _ _ _ _ _ _ _ (loop1 c XA i arg2 harg2 arg3 harg3 arg4 harg4 arg5 harg5 arg6 harg6 arg7 harg7 arg8 harg8 arg9 harg9 arg10 harg10 arg11 harg11 arg12 harg12 h1 X2 X3)) $$ [HI]
  · iexact HI
  iintro %acc HI
  ihave HI := (loop1_exit c XA i arg2 harg2 arg3 harg3 arg4 harg4 arg5 harg5 arg6 harg6 arg7 harg7 arg8 harg8 arg9 harg9 arg10 harg10 arg11 harg11 arg12 harg12 h1 X2 X3 acc) $$ HI
  icases HI with ⟨%gd, HD, %hgd, H2, H3, HW, Hh, Hs0, Hs1, Hc0, Hc1⟩
  ihave Hx := (hide (fun g => (xsm.view.loc (c : Thread nD τ) ↦[xsm.view.set]{fullShare} g)) _ (fun g => xsm.view.read (Elt F) g = k0_pay123 (arg6.view.read (Elt F) X6)) ((whole_read _ _ _).trans (congrArg k0_pay123 (row_read c arg6 X6 _)))) $$ Hx
  icases Hx with ⟨%gx, Hx, %hgx⟩
  ihave Hr := (hide (fun g => (rsm.view.loc (c : Thread nD τ) ↦[rsm.view.set]{fullShare} g)) _ (fun g => rsm.view.read (Elt F) g = k0_pay124 (arg7.view.read (Elt F) X7)) ((whole_read _ _ _).trans (congrArg k0_pay124 (row_read c arg7 X7 _)))) $$ Hr
  icases Hr with ⟨%gr, Hr, %hgr⟩
  ihave H11 := (hide (fun g => (arg11.view.loc (c : Thread nD τ) ↦[arg11.view.set]{fullShare} g)) _ (fun g => arg11.view.read (Elt F) g = k0_pay125) (whole_read _ _ _)) $$ H11
  icases H11 with ⟨%g11, H11, %hg11⟩
  iapply (entails_of_eq (Idealize.SL.Sem.wp_bind _ _ _ _ _ _).symm)
  ihave HI := (loop2_entry c i arg2 harg2 arg3 harg3 arg4 harg4 arg5 harg5 arg6 harg6 arg7 harg7 arg8 harg8 arg9 harg9 arg10 harg10 arg11 harg11 arg12 harg12 X4 gd f9 ()) $$ [H4 HD H9]
  · isplitl [H4]; · iexact H4
    isplitl [HD]; · iexact HD
    iexact H9
  iapply (exec_loop_last _ _ _ _ _ _ _ _ _ (loop2 c i arg2 harg2 arg3 harg3 arg4 harg4 arg5 harg5 arg6 harg6 arg7 harg7 arg8 harg8 arg9 harg9 arg10 harg10 arg11 harg11 arg12 harg12 X4 gd)) $$ [HI]
  · iexact HI
  iintro %acc HI
  ihave HI := (loop2_exit c i arg2 harg2 arg3 harg3 arg4 harg4 arg5 harg5 arg6 harg6 arg7 harg7 arg8 harg8 arg9 harg9 arg10 harg10 arg11 harg11 arg12 harg12 X4 gd acc) $$ HI
  icases HI with ⟨H4, HD, %g9, H9, %hg⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  isplitl [Hh]; · iexact Hh
  isplitl [Hs0]; · iexact Hs0
  isplitl [Hs1]; · iexact Hs1
  isplitl [Hc0]; · iexact Hc0
  isplitl [Hc1]; · iexact Hc1
  iexists gd; iexists gx; iexists gr; iexists _; iexists _; iexists _; iexists _
  isplitl [HD]; · iexact HD
  isplitl [Hx]; · iexact Hx
  isplitl [Hr]; · iexact Hr
  isplitl [H9]; · iexact H9
  isplitl [H10]; · iexact H10
  isplitl [H11]; · iexact H11
  isplitl [H12]; · iexact H12
  ipureintro
  refine ⟨hgd, hgx, hgr, ?_⟩
  rw [← hgd, ← hgx, ← hgr, ← hg11]
  unfold OutOk
  rw [← hg]
  refine ⟨rfl, xok_read _ _ _ _ _ ?_, gok_read _ _ _ _ _ _ _ ?_, dg_read _ _ _ _ _ _ ?_⟩
  · exact xok_cons _ _ _ _ 15 7 1 rfl rfl _ rfl (xok_cons _ _ _ _ 14 7 0 rfl rfl _ rfl (xok_cons _ _ _ _ 13 6 1 rfl rfl _ rfl (xok_cons _ _ _ _ 12 6 0 rfl rfl _ rfl (xok_cons _ _ _ _ 11 5 1 rfl rfl _ rfl (xok_cons _ _ _ _ 10 5 0 rfl rfl _ rfl (xok_cons _ _ _ _ 9 4 1 rfl rfl _ rfl (xok_cons _ _ _ _ 8 4 0 rfl rfl _ rfl (xok_cons _ _ _ _ 7 3 1 rfl rfl _ rfl (xok_cons _ _ _ _ 6 3 0 rfl rfl _ rfl (xok_cons _ _ _ _ 5 2 1 rfl rfl _ rfl (xok_cons _ _ _ _ 4 2 0 rfl rfl _ rfl (xok_cons _ _ _ _ 3 1 1 rfl rfl _ rfl (xok_cons _ _ _ _ 2 1 0 rfl rfl _ rfl (xok_cons _ _ _ _ 1 0 1 rfl rfl _ rfl (xok_cons _ _ _ _ 0 0 0 rfl rfl _ rfl (xok_nil _ _ _ _))))))))))))))))
  · exact gok_cons _ _ _ _ _ _ 7 rfl _ rfl (gok_cons _ _ _ _ _ _ 6 rfl _ rfl (gok_cons _ _ _ _ _ _ 5 rfl _ rfl (gok_cons _ _ _ _ _ _ 4 rfl _ rfl (gok_cons _ _ _ _ _ _ 3 rfl _ rfl (gok_cons _ _ _ _ _ _ 2 rfl _ rfl (gok_cons _ _ _ _ _ _ 1 rfl _ rfl (gok_cons _ _ _ _ _ _ 0 rfl _ rfl (gok_nil _ _ _ _ _ _))))))))
  · rfl

end First

end Cert.Kernel.Own

end
-- ==== Proof.Run.Kernel.Parts.lean ====
/-
  The first call's buffers in their pieces: the quantised output gradient is its sixteen chunks, the staging buffer
  its two slots, and the kernel's own two semaphores are the slots' cells.
-/
module

public import proofs.«01_k».proof.Proof.Run.Kernel.Later
public import proofs.«01_k».proof.Proof.Run.Kernel.First
public import proofs.«01_k».proof.Proof.Gen.Kernel.Regions
public import Idealize.ShloMosaic.Lib.Pipeline.FrameBody
public import Idealize.ShloMosaic.Lib.Pipeline.FrameTail

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The kernel's own semaphores. -/
abbrev osem : Fin 2 → SemLoc sig := fun s => .dma (csm s).sem
theorem ownSemFacts : Pipeline.OwnSemFacts spec0 osem := by decide

/-! ## Element sets -/

abbrev GG (b : Fin 16) : Finset S2048x9216.Idx := (Rect.unit (s := S2048x9216) (chOff b) S128x9216.size (chOff_inb b)).set
abbrev SS (s : Fin 2) : Finset S2x128x9216.Idx := (Rect.unit (s := S2x128x9216) (slotOff s) S1x128x9216.size (slotOff_inb s)).set

theorem chunk_set (b : Fin 16) : (chunk b).view.set = GG b := View.set_slice_whole _ _
theorem slot_set (s : Fin 2) : (slot s).view.set = SS s := (View.set_reshape _ _).trans (View.set_slice_whole _ _)

theorem mem_GG (b : Fin 16) (y : S2048x9216.Idx) : y ∈ GG b ↔ (y 0).val / 128 = b.val := by
  rw [Rect.mem_set_unit]
  have h1 : (y 1).val < 9216 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 9216; omega
theorem mem_SS (s : Fin 2) (y : S2x128x9216.Idx) : y ∈ SS s ↔ (y 0).val = s.val := by
  rw [Rect.mem_set_unit]
  have h1 : (y 1).val < 128 := (y 1).isLt
  have h2 : (y 2).val < 9216 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 9216; omega
theorem GG_disjoint : ∀ b b' : Fin 16, b ≠ b' → Disjoint (GG b) (GG b') := by
  intro b b' hne; rw [Finset.disjoint_left]; intro y hy hy'; rw [mem_GG] at hy hy'; exact hne (Fin.ext (hy.symm.trans hy'))
theorem GG_cover : (Finset.univ : Finset (Fin 16)).biUnion GG = Finset.univ := by
  ext y; simp only [Finset.mem_biUnion, Finset.mem_univ, true_and, iff_true]
  have h0 : (y 0).val < 2048 := (y 0).isLt
  exact ⟨⟨(y 0).val / 128, by omega⟩, by rw [mem_GG]⟩
theorem SS_disjoint : ∀ s s' : Fin 2, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 2)).biUnion SS = Finset.univ := by
  ext y; simp only [Finset.mem_biUnion, Finset.mem_univ, true_and, iff_true]
  have h0 : (y 0).val < 2 := (y 0).isLt
  exact ⟨⟨(y 0).val, h0⟩, by rw [mem_SS]⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- The array in HBM whole is its sixteen chunks home. -/
theorem v1_eq (c : Dev nD) (XA : Buf (Elt F) (hbm.view.loc (c : Thread nD τ))) :
    (((c : Thread nD τ).loc main_v1) ↦{fullShare} XA : sProp 𝕄) = bigSep Finset.univ (homeP c XA) := by
  rw [Ring.pointsTo_blocks (ℓ := (c : Thread nD τ).loc main_v1) GG GG_disjoint GG_cover]
  exact bigSep_congr fun b _ => by rw [← chunk_set]; rfl

omit [FloatOps F] in
/-- All chunks home: the first apart from the rest. -/
theorem homes_zero (c : Dev nD) (XA : Buf (Elt F) (hbm.view.loc (c : Thread nD τ))) :
    bigSep (Finset.univ : Finset (Fin 16)) (homeP c XA) = iprop(homeP c XA 0 ∗ bigSep ((Finset.univ : Finset (Fin 16)).erase 0) (homeP c XA)) := by
  conv_lhs => rw [← Finset.insert_erase (Finset.mem_univ (0 : Fin 16))]
  rw [bigSep_insert (by simp)]; rfl

omit [FloatOps F] in
theorem slotP_eq (c : Dev nD) (s : Fin 2) (f) : slotP c s f = (((c : Thread nD τ).loc cc0_scratch1) ↦[SS s]{fullShare} f : sProp 𝕄) :=
  congrArg (fun S => (_ ↦[S]{fullShare} f : sProp 𝕄)) (slot_set s)
/-- The staging buffer whole is its two slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) SS SS_disjoint SS_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SS SS_disjoint SS_cover f0)
  irw [bigSep_fin2]
  isplitl [H0]
  · iexists f0; iapply (entails_of_eq (slotP_eq c 0 f0)); iexact H0
  · iexists f1; iapply (entails_of_eq (slotP_eq c 1 f1)); iexact H1

omit [FloatOps F] in
/-- The kernel's own cells at zero are the two slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]

/-! ## The other scoped buffers -/

/-- A scoped buffer whole at some contents. -/
abbrev anyP (c : Dev nD) (r : Ref sig .tc) : sProp 𝕄 := iprop(∃ f : Buf (Elt F) ((c : Thread nD τ).loc r), ((c : Thread nD τ).loc r) ↦{fullShare} f)

/-- The scoped buffers of the second call. -/
def rest0 (c : Dev nD) : sProp 𝕄 := iprop(anyP c cc1_stg0_0 ∗ anyP c cc1_stg1_0 ∗ anyP c cc1_stg1_1 ∗ anyP c cc1_stg2_0 ∗ anyP c cc1_stg3_0 ∗ anyP c cc1_stg3_1 ∗ anyP c cc1_stg4_0 ∗ anyP c cc1_stg4_1 ∗ anyP c cc1_stg5_0 ∗ anyP c cc1_stg5_1 ∗ anyP c cc1_stg6_0 ∗ anyP c cc1_stg6_1 ∗ anyP c cc1_stg7_0 ∗ anyP c cc1_stg8_0 ∗ anyP c cc1_stg8_1 ∗ anyP c cc1_stg9_0 ∗ anyP c cc1_stg9_1 ∗ anyP c cc1_stg10_0 ∗ anyP c cc1_stg10_1 ∗ anyP c cc1_scratch0)
omit [FloatOps F] in
theorem scoped0_eq (c : Dev nD) : (Pipeline.scopedRest (Ix := Unit) (Name := ℕ) (U := UU nD τ) (Lvl := ℕ) (Val := Elt F) spec0 c : sProp 𝕄)
    = iprop(anyP c cc0_scratch0 ∗ anyP c cc0_scratch1 ∗ anyP c cc0_scratch2 ∗ anyP c cc0_scratch3 ∗ rest0 c) := by
  rw [scopedRest0_eq]; rfl

end Cert.Kernel.Own

end
-- ==== Proof.Run.Kernel.Dat0.lean ====
/-
  The first call as a pipeline: what each window's buffer holds after each of the 28 grid points, what the
  kernel's own buffers hold between points, and the body's triple at every point.
-/
module

public import proofs.«01_k».proof.Proof.Run.Kernel.Parts

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point `n` of the grid (past the end, some point). -/
def pt (n : ℕ) : Fin cfg0.N := ⟨n % 28, by rw [show cfg0.N = 28 from N_0]; omega⟩
theorem pt_val (t : Fin cfg0.N) : pt t.val = t := Fin.ext (Nat.mod_eq_of_lt (lt_of_lt_of_eq t.isLt N_0))

/-- The array the kernel keeps in HBM. -/
abbrev XA (c : Dev nD) : Buf (Elt F) (hbm.view.loc (c : Thread nD τ)) := V c main_v1

/-- The dequantised gradient, `x`'s scales and `rstd` as the kernel's scratch keeps them after the first point. -/
def dq0 (c : Dev nD) : FVec F S2048x9216 .bf16 := DQ (blk0 V c 0 (pt 0)) (blk0 V c 1 (pt 0)) (hbm.view.read (Elt F) (XA V c))
def xs0 (c : Dev nD) : FVec F S2048x128 .f32 := k0_pay123 (blk0 V c 4 (pt 0))
def rs0 (c : Dev nD) : FVec F S2048x128 .f32 := k0_pay124 (blk0 V c 5 (pt 0))

/-- The point's stretch of the gradient of the normalised input, before the norm's own correction. -/
def mm0 (c : Dev nD) (t : Fin cfg0.N) : FVec F S2048x256 .f32 := MM (dq0 V c) (blk0 V c 2 t)
/-- The correction's running sum before point `n`. -/
def gn0 (c : Dev nD) : ℕ → FVec F S2048x128 .f32
  | 0 => k0_pay125
  | n + 1 => GN (xs0 V c) (rs0 V c) (blk0 V c 6 (pt n)) (blk0 V c 3 (pt n)) (mm0 V c (pt n)) (gn0 c n)

/-- What the kernel's own buffers hold between points. -/
def Φ0 (c : Dev nD) (t : Fin (cfg0.N + 1)) : sProp 𝕄 :=
  iprop(bigSep Finset.univ (homeP c (XA V c)) ∗ (∃ f, slotP c 0 f) ∗ (∃ f, slotP c 1 f) ∗ cellP c 0 ∗ cellP c 1
    ∗ (∃ gd gx gr, dqP c gd ∗ (xsm.view.loc (c : Thread nD τ) ↦[xsm.view.set]{fullShare} gx) ∗ (rsm.view.loc (c : Thread nD τ) ↦[rsm.view.set]{fullShare} gr)
        ∗ ⌜t.val ≠ 0 → dqm.view.read (Elt F) gd = dq0 V c ∧ xsm.view.read (Elt F) gx = xs0 V c ∧ rsm.view.read (Elt F) gr = rs0 V c⌝)
    ∗ rest0 c)

/-- The pipeline's proof data. -/
def dat0 (c : Dev nD) : Dat τ (Elt F) Unit ℕ (UU nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => mm0 V c t
    | ⟨8, _⟩ => XHT (xs0 V c) (rs0 V c) (blk0 V c 6 t) (blk0 V c 3 t)
    | ⟨9, _⟩ => gn0 V c (t.val + 1)
    | ⟨10, _⟩ => DG (xs0 V c) (rs0 V c) (blk0 V c 3 t) (mm0 V c t)
  Φ t := Φ0 V c t
  q _ := fullShare
  owed _ := 0

theorem A0_eq (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = mm0 V c t := by dsimp only [dat0]
theorem after0_8 (c : Dev nD) (t : Fin cfg0.N) : (dat0 V c).after 8 t = XHT (xs0 V c) (rs0 V c) (blk0 V c 6 t) (blk0 V c 3 t) := by dsimp only [dat0]
theorem after0_9 (c : Dev nD) (t : Fin cfg0.N) : (dat0 V c).after 9 t = gn0 V c (t.val + 1) := by dsimp only [dat0]
theorem after0_10 (c : Dev nD) (t : Fin cfg0.N) : (dat0 V c).after 10 t = DG (xs0 V c) (rs0 V c) (blk0 V c 3 t) (mm0 V c t) := by dsimp only [dat0]

/-- Each input's buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
/-- The correction's buffer holds the running sum: the point before left it there. -/
theorem before0_9 (c : Dev nD) (t : Fin cfg0.N) (ht : t.val ≠ 0) (d) : (dat0 V c).before 9 t d = gn0 V c t.val := by
  have hN : t.val < 28 := lt_of_lt_of_eq t.isLt N_0
  rw [(dat0 V c).before_of_pos 9 t ht ((cfg0.win 9).fetch_out rfl _), if_neg]
  · show (dat0 V c).kept 9 _ d = _
    unfold Dat.kept
    show (dat0 V c).after 9 _ = _
    rw [after0_9]
    show gn0 V c (t.val - 1 + 1) = _
    rw [Nat.sub_add_cancel (by omega)]
  · intro h
    have := (flush0_9 _).mp h
    have h' : (t.val - 1) % 28 = 27 := this
    omega

theorem hcond0 : ∀ t : Fin cfg0.N, k0_cond1 (grid0.coords t) = 1#1 ↔ t.val = 0 :=
  (by decide +kernel : ∀ t : Fin grid0.N, k0_cond1 (grid0.coords t) = 1#1 ↔ t.val = 0)

theorem defs0_row (t : Fin cfg0.N) : defs₀ (F := F) .tc cfg0.body (cfg0.bodyArgs t (cfg0.slots t)) = bodyAt0 t := by
  unfold defs₀; rw [Defs.onTc_tc]

end Cert.Kernel.Own

end
-- ==== Proof.Run.Kernel.Body0.lean ====
/-
  The first call's body at every grid point: the first point's run and the later points' run, restated over the
  pipeline's windows.
-/
module

public import proofs.«01_k».proof.Proof.Run.Kernel.Dat0

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d)))
/-- and what it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t))

theorem Φ0_eq (c : Dev nD) (t : Fin (cfg0.N + 1)) : (dat0 V c).Φ t = Φ0 V c t := by dsimp only [dat0]
theorem owed0_eq (c : Dev nD) (t : Fin (cfg0.N + 1)) : (dat0 V c).owed t = 0 := by dsimp only [dat0]

set_option maxHeartbeats 2000000 in
/-- The first point. -/
theorem sound_first (c : Dev nD) (t : Fin cfg0.N) (ht : t.val = 0) :
    bodyPre0 V c t ⊢ wp frame (wpE (defs₀ (F := F)) 𝒱₀ c none) Set.univ (bodyAt0 t) (fun _ => bodyPost0 V c t) := by
  obtain rfl : t = pt 0 := Fin.ext ht
  unfold bodyPre0 bodyPost0 bodyAt0
  simp only [before0_0, before0_1, before0_2, before0_3, before0_4, before0_5, before0_6, after0_0, after0_1, after0_2, after0_3, after0_4, after0_5, after0_6, after0_7, after0_8, after0_9, after0_10]
  rw [Φ0_eq, Φ0_eq]
  unfold Dat.owesAt Pipeline.owesWithin
  rw [owed0_eq, owed0_eq]
  unfold owns Φ0
  iintro ⟨⟨Hh, ⟨%s0, Hs0⟩, ⟨%s1, Hs1⟩, Hc0, Hc1, ⟨%fd, %fx, %fr, HD, Hx, Hr, %hs⟩, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  ihave Hh := (entails_of_eq (homes_zero c (XA V c))) $$ Hh
  iapply wp_wand_r
  isplitl [H0 H1 H2 H3 H4 H5 H6 H7 H8 H9 H10 HD Hx Hr HW Hh Hs0 Hs1 Hc0 Hc1]
  · iapply (first c (XA V c) (grid0.coords (pt 0)) (win0_0.stage (cfg0.slots (pt 0) 0)) (hstage0_0 ((cfg0.slots (pt 0) 0).cast nbuf0_0)) (win0_1.stage (cfg0.slots (pt 0) 1)) (hstage0_1 ((cfg0.slots (pt 0) 1).cast nbuf0_1)) (win0_2.stage (cfg0.slots (pt 0) 2)) (hstage0_2 ((cfg0.slots (pt 0) 2).cast nbuf0_2)) (win0_3.stage (cfg0.slots (pt 0) 3)) (hstage0_3 ((cfg0.slots (pt 0) 3).cast nbuf0_3)) (win0_4.stage (cfg0.slots (pt 0) 4)) (hstage0_4 ((cfg0.slots (pt 0) 4).cast nbuf0_4)) (win0_5.stage (cfg0.slots (pt 0) 5)) (hstage0_5 ((cfg0.slots (pt 0) 5).cast nbuf0_5)) (win0_6.stage (cfg0.slots (pt 0) 6)) (hstage0_6 ((cfg0.slots (pt 0) 6).cast nbuf0_6)) (win0_7.stage (cfg0.slots (pt 0) 7)) (hstage0_7 ((cfg0.slots (pt 0) 7).cast nbuf0_7)) (win0_8.stage (cfg0.slots (pt 0) 8)) (hstage0_8 ((cfg0.slots (pt 0) 8).cast nbuf0_8)) (win0_9.stage (cfg0.slots (pt 0) 9)) (hstage0_9 ((cfg0.slots (pt 0) 9).cast nbuf0_9)) (win0_10.stage (cfg0.slots (pt 0) 10)) (hstage0_10 ((cfg0.slots (pt 0) 10).cast nbuf0_10))
      ((hcond0 (pt 0)).mpr rfl) f0 f1 f2 f3 f4 f5 f6 f7 f8 f9 f10 fd fx fr W s0 s1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HD]; · iexact HD
    isplitl [Hx]; · iexact Hx
    isplitl [Hr]; · iexact Hr
    isplitl [HW]; · iexact HW
    isplitl [Hh]; · iexact Hh
    isplitl [Hs0]; · iexact Hs0
    isplitl [Hs1]; · iexact Hs1
    isplitl [Hc0]; · iexact Hc0
    iexact Hc1
  iintro %a ⟨H0, H1, H2, H3, H4, H5, H6, ⟨%W', HW⟩, Hh, ⟨%s0', Hs0⟩, ⟨%s1', Hs1⟩, Hc0, Hc1, %gd, %gx, %gr, %g7, %g8, %g9, %g10, HD, Hx, Hr, H7, H8, H9, H10, %hpost⟩
  obtain ⟨hd, hx, hr, o7, o8, o9, o10⟩ := hpost
  have hD : dqm.view.read (Elt F) gd = dq0 V c := hd.trans (by show DQ _ _ _ = DQ _ _ _; rw [h0, h1])
  have hX : xsm.view.read (Elt F) gx = xs0 V c := hx.trans (by rw [h4]; rfl)
  have hR : rsm.view.read (Elt F) gr = rs0 V c := hr.trans (by rw [h5]; rfl)
  rw [← hd, hD, h2] at o7
  rw [← hx, ← hr, hX, hR, h6, h3] at o8
  rw [← hd, ← hx, ← hr, hX, hR, hD, h6, h3, h2] at o9
  rw [← hd, ← hx, ← hr, hX, hR, hD, h3, h2] at o10
  isplitl [Hh Hs0 Hs1 Hc0 Hc1 HD Hx Hr HR]
  · isplitl [Hh]; · iexact Hh
    isplitl [Hs0]; · iexists _; iexact Hs0
    isplitl [Hs1]; · iexists _; iexact Hs1
    isplitl [Hc0]; · iexact Hc0
    isplitl [Hc1]; · iexact Hc1
    isplitl [HD Hx Hr]
    · iexists gd; iexists gx; iexists gr
      isplitl [HD]; · iexact HD
      isplitl [Hx]; · iexact Hx
      isplitl [Hr]; · iexact Hr
      ipureintro; exact fun _ => ⟨hD, hX, hR⟩
    iexact HR
  isplitl [HW]
  · iexists W'; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact o7
    iexact H7
  isplitl [H8]
  · iexists _; isplitr; · ipureintro; exact o8
    iexact H8
  isplitl [H9]
  · iexists _; isplitr; · ipureintro; exact o9
    iexact H9
  iexists _; isplitr
  · ipureintro; exact o10
  iexact H10

set_option maxHeartbeats 2000000 in
/-- A later point. -/
theorem sound_later (c : Dev nD) (t : Fin cfg0.N) (ht : t.val ≠ 0) :
    bodyPre0 V c t ⊢ wp frame (wpE (defs₀ (F := F)) 𝒱₀ c none) Set.univ (bodyAt0 t) (fun _ => bodyPost0 V c t) := by
  unfold bodyPre0 bodyPost0 bodyAt0
  simp only [before0_9 V c t ht, before0_0, before0_1, before0_2, before0_3, before0_4, before0_5, before0_6, after0_0, after0_1, after0_2, after0_3, after0_4, after0_5, after0_6, after0_7, after0_8, after0_9, after0_10]
  rw [Φ0_eq, Φ0_eq]
  unfold Dat.owesAt Pipeline.owesWithin
  rw [owed0_eq, owed0_eq]
  unfold owns Φ0
  iintro ⟨⟨Hh, ⟨%s0, Hs0⟩, ⟨%s1, Hs1⟩, Hc0, Hc1, ⟨%fd, %fx, %fr, HD, Hx, Hr, %hs⟩, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  iapply wp_wand_r
  obtain ⟨hD, hX, hR⟩ := hs ht
  isplitl [H2 H3 H6 H7 H8 H9 H10 HD Hx Hr]
  · iapply (later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
      (fun h => ht ((hcond0 t).mp h)) f2 f3 f6 f7 f8 f9 f10 fd fx fr)
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [HD]; · iexact HD
    isplitl [Hx]; · iexact Hx
    iexact Hr
  iintro %a ⟨H2, H3, H6, HD, Hx, Hr, %g7, %g8, %g9, %g10, H7, H8, H9, H10, %hpost⟩
  obtain ⟨o7, o8, o9, o10⟩ := hpost
  rw [hD, h2] at o7
  rw [hX, hR, h6, h3] at o8
  rw [hX, hR, hD, h6, h3, h2, h9] at o9
  rw [hX, hR, hD, h3, h2] at o10
  have o9' : (win0_9.stage (cfg0.slots t 9)).view.read (Elt F) g9 = gn0 V c (t.val + 1) := by
    rw [o9]; show _ = GN _ _ (blk0 V c 6 (pt t.val)) (blk0 V c 3 (pt t.val)) (mm0 V c (pt t.val)) _; rw [pt_val]; rfl
  isplitl [Hh Hs0 Hs1 Hc0 Hc1 HD Hx Hr HR]
  · isplitl [Hh]; · iexact Hh
    isplitl [Hs0]; · iexists _; iexact Hs0
    isplitl [Hs1]; · iexists _; iexact Hs1
    isplitl [Hc0]; · iexact Hc0
    isplitl [Hc1]; · iexact Hc1
    isplitl [HD Hx Hr]
    · iexists fd; iexists fx; iexists fr
      isplitl [HD]; · iexact HD
      isplitl [Hx]; · iexact Hx
      isplitl [Hr]; · iexact Hr
      ipureintro; exact fun _ => ⟨hD, hX, hR⟩
    iexact HR
  isplitl [HW]
  · iexists W; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact o7
    iexact H7
  isplitl [H8]
  · iexists _; isplitr; · ipureintro; exact o8
    iexact H8
  isplitl [H9]
  · iexists _; isplitr; · ipureintro; exact o9'
    iexact H9
  iexists _; isplitr
  · ipureintro; exact o10
  iexact H10

/-- The body at any point. -/
theorem sound0 (c : Dev nD) (t : Fin cfg0.N) :
    bodyPre0 V c t ⊢ wp frame (wpE (defs₀ (F := F)) 𝒱₀ c none) Set.univ (bodyAt0 t) (fun _ => bodyPost0 V c t) := by
  by_cases ht : t.val = 0
  · exact sound_first V c t ht
  · exact sound_later V c t ht

/-- The library's body obligation, at every point. -/
theorem body_obligation0 (c : Dev nD) : BodyObligation (dat0 (F := F) V c) (defs₀ (F := F)) 𝒱₀ () Set.univ := fun t => by
  rw [bigSep_W0, bigSep_W0, defs0_row]
  exact triple_restated (sound0 V c t) rfl .rfl fun _ => .rfl

end Cert.Kernel.Own

end
-- ==== Proof.Run.Kernel.Run1.lean ====
/-
  The second call's body at one grid point: at the first of a column's four points it dequantises the column's
  gradient into its scratch; at every point it multiplies a slab by that scratch; at the first sixty-four points it
  also writes thirty-two rows of the gradient of the input.
-/
module

public import proofs.«01_k».proof.Proof.Run.Kernel.Heads

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section General

variable {c : Dev nD} {ms : Space} {s : Shape} {e : EltTy}

omit [FloatOps F] in
/-- A load of a whole view reads it; -/
theorem full_readAt (v : View sig .tc ms s e) (o : Fin s.rank → ℕ) (ho : ∀ a, o a = 0) (i : ∀ a, o a + s.size a ≤ s.size a) (f : BufTy.Contents (Elt F) v.ty) :
    v.readAt (Elt F) (Rect.unit (s := s) o s.size i).toLoadRect f = v.read (Elt F) f := by
  funext z
  rw [View.readAt_apply]; congr 1; funext a; refine Fin.ext ?_
  show o a + 1 * (z a).val = (z a).val
  rw [ho a]; omega

omit [FloatOps F] in
/-- a store over a whole view leaves what it stored. -/
theorem full_write (v : View sig .tc ms s e) (o : Fin s.rank → ℕ) (ho : ∀ a, o a = 0) (i : ∀ a, o a + s.size a ≤ s.size a) (f : BufTy.Contents (Elt F) v.ty) (p : s.Idx → Elt F e) :
    v.read (Elt F) (v.writes (Elt F) f [⟨Rect.unit (s := s) o s.size i, p⟩]) = p := by
  funext y
  refine View.read_writes_apply_of_pieces _ _ _ _ (fun q hq z => ?_) y ⟨_, List.mem_cons_self, ?_⟩
  · obtain rfl := List.mem_singleton.mp hq
    show p z = p _
    congr 1; funext a; refine Fin.ext ?_
    rw [Rect.emb_apply]
    show (z a).val = o a + 1 * (z a).val
    rw [ho a]; omega
  · refine (Rect.mem_set_unit (inb := i)).2 fun a => ?_
    rw [ho a]; exact ⟨Nat.zero_le _, by have := (y a).isLt; omega⟩

end General

theorem off00 : ∀ a, (![0, 0] : Fin 2 → ℕ) a = 0 := by decide

/-- Columns `128 J` to `128 J + 127` of a column block of the gradient's codes. -/
def cblk (d : Vec F S2048x512 .fp8e5m2) (J : Fin 4) : Vec F S2048x128 .fp8e5m2 := fun z =>
  d (ix2 (z 0) ⟨128 * J.val + (z 1).val, by have h : (z 1).val < 128 := (z 1).isLt; have := J.isLt; omega⟩)

/-- What a column's first point stores in columns `128 J` of the scratch. -/
def dwPay (i : grid1.Coords) (sc : Vec F S2048x128 .f32) (d : Vec F S2048x512 .fp8e5m2) (J : Fin 4) : FVec F S2048x128 .bf16 :=
  match J with
  | 0 => k1_pay5 (BitVec.ofNat 32 (i 0).val) sc (cblk d 0)
  | 1 => k1_pay6 (BitVec.ofNat 32 (i 0).val) sc (cblk d 1)
  | 2 => k1_pay7 (BitVec.ofNat 32 (i 0).val) sc (cblk d 2)
  | 3 => k1_pay1 (k1_pay8 (BitVec.ofNat 32 (i 0).val) sc) (cblk d 3)
/-- The scratch after a column's first point. -/
def DW (i : grid1.Coords) (sc : Vec F S2048x128 .f32) (d : Vec F S2048x512 .fp8e5m2) : FVec F S2048x512 .bf16 := fun y =>
  dwPay i sc d ⟨(y 1).val / 128, by have h : (y 1).val < 512 := (y 1).isLt; omega⟩ (ix2 (y 0) ⟨(y 1).val % 128, Nat.mod_lt _ (by decide)⟩)

theorem cblk_read (m : Memref sig .tc .vmem S2048x512 .fp8e5m2) (f : BufTy.Contents (Elt F) m.view.ty) (J : Fin 4) (o : Fin 2 → ℕ) (e : o = ![0, 128 * J.val]) (i : ∀ a, o a + S2048x128.size a ≤ S2048x512.size a) :
    m.view.readAt (Elt F) (Rect.unit (s := S2048x512) o S2048x128.size i).toLoadRect f = cblk (m.view.read (Elt F) f) J := by
  subst e
  funext z
  rw [View.readAt_apply]; show m.view.read (Elt F) f _ = m.view.read (Elt F) f _
  congr 1; funext a; refine Fin.ext ?_; fin_cases a
  · show 0 + 1 * (z 0).val = (z 0).val; omega
  · show 128 * J.val + 1 * (z 1).val = 128 * J.val + (z 1).val; omega

section Cols

variable (i : grid1.Coords) (sc : Vec F S2048x128 .f32) (d : Vec F S2048x512 .fp8e5m2)

/-- A list of pieces holding `DW` on the first `n` blocks of columns. -/
def DOk (n : ℕ) (L : List (View.Piece (Elt F) S2048x512 .bf16)) : Prop :=
  (∀ p ∈ L, ∀ z, p.2 z = DW i sc d (p.1.emb z)) ∧ ∀ y : S2048x512.Idx, (y 1).val / 128 < n → ∃ p ∈ L, y ∈ p.1.set

theorem dok_nil : DOk i sc d 0 ([] : List (View.Piece (Elt F) S2048x512 .bf16)) :=
  ⟨fun _ h => absurd h List.not_mem_nil, fun y h => absurd h (Nat.not_lt_zero _)⟩

theorem dok_cons (n : ℕ) (J : Fin 4) (hn : n = J.val) {o : Fin 2 → ℕ} (e : o = ![0, 128 * J.val]) (ib : ∀ a, o a + S2048x128.size a ≤ S2048x512.size a)
    {v : FVec F S2048x128 .bf16} (hv : v = dwPay i sc d J) {L : List (View.Piece (Elt F) S2048x512 .bf16)} (hL : DOk i sc d n L) :
    DOk i sc d (n + 1) (⟨Rect.unit (s := S2048x512) o S2048x128.size ib, v⟩ :: L) := by
  have f0 : o 0 = 0 := congrFun e 0
  have f1 : o 1 = 128 * J.val := congrFun e 1
  refine ⟨fun p hp => ?_, fun y hy => ?_⟩
  · rcases List.mem_cons.mp hp with rfl | hp
    · intro z
      have hz1 : (z 1).val < 128 := (z 1).isLt
      have e0 : ((Rect.unit (s := S2048x512) o S2048x128.size ib).emb z 0).val = (z 0).val := by
        rw [Rect.emb_apply]; show o 0 + 1 * (z 0).val = _; omega
      have e1 : ((Rect.unit (s := S2048x512) o S2048x128.size ib).emb z 1).val = 128 * J.val + (z 1).val := by
        rw [Rect.emb_apply]; show o 1 + 1 * (z 1).val = _; omega
      show v z = DW i sc d _
      rw [hv]
      unfold DW
      congr 1
      · congr 1; refine Fin.ext ?_; show J.val = _ / 128; rw [e1]; omega
      · funext a; refine Fin.ext ?_; fin_cases a
        · exact e0.symm
        · show (z 1).val = _ % 128; rw [e1]; omega
    · exact hL.1 p hp
  · by_cases h : (y 1).val / 128 < n
    · obtain ⟨p, hp, hm⟩ := hL.2 y h
      exact ⟨p, List.mem_cons_of_mem _ hp, hm⟩
    · refine ⟨_, List.mem_cons_self, (Rect.mem_set_unit (inb := ib)).2 fun a => ?_⟩
      have h0 : (y 0).val < 2048 := (y 0).isLt
      fin_cases a
      · show o 0 ≤ (y 0).val ∧ (y 0).val < o 0 + 2048; omega
      · show o 1 ≤ (y 1).val ∧ (y 1).val < o 1 + 128; omega

theorem dok_read {s : View sig .tc .vmem S2048x512 .bf16} (f : BufTy.Contents (Elt F) s.ty) {L : List (View.Piece (Elt F) S2048x512 .bf16)} (hL : DOk i sc d 4 L) :
    s.read (Elt F) (s.writes (Elt F) f L) = DW i sc d := by
  funext y
  exact View.read_writes_apply_of_pieces _ _ _ L hL.1 y (hL.2 y (by have h1 : (y 1).val < 512 := (y 1).isLt; omega))

theorem dok_cov {s : View sig .tc .vmem S2048x512 .bf16} {L : List (View.Piece (Elt F) S2048x512 .bf16)} (hL : DOk i sc d 4 L) (ib : ∀ a, (![0, 0] : Fin 2 → ℕ) a + S2048x512.size a ≤ S2048x512.size a) :
    s.readCov L (Rect.unit (s := S2048x512) ![0, 0] S2048x512.size ib).toLoadRect = DW i sc d := by
  rw [View.readCov_eq_canon']
  funext x
  have h1 : (x 1).val < 512 := (x 1).isLt
  have e : (Rect.unit (s := S2048x512) ![0, 0] S2048x512.size ib).toLoadRect.idx x = x := by
    funext a; refine Fin.ext ?_; fin_cases a
    · show 0 + 1 * (x 0).val = (x 0).val; omega
    · show 0 + 1 * (x 1).val = (x 1).val; omega
  have e' : ∀ y : S2048x512.Idx, ∃ q ∈ L, y ∈ q.1.set := fun y => hL.2 y (by have h1 : (y 1).val < 512 := (y 1).isLt; omega)
  rw [View.canon_apply_of_pieces (DW i sc d) L hL.1 _ (e' _), e]

end Cols

/-- Rows `1792 k` to `1792 k + 1791` of the transposed normalised input, `k` the point's second coordinate. -/
def slab (i : grid1.Coords) (x : Vec F S7168x2048 .bf16) : Vec F S1792x2048 .bf16 := fun z =>
  x ((Rect.unit (s := S7168x2048) (k1_off1 i) S1792x2048.size (k1_off1_inb i)).toLoadRect.idx z)

theorem slab_read (i : grid1.Coords) (m : Memref sig .tc .vmem S7168x2048 .bf16) (f : BufTy.Contents (Elt F) m.view.ty) (ib : ∀ a, k1_off1 i a + S1792x2048.size a ≤ S7168x2048.size a) :
    m.view.readAt (Elt F) (Rect.unit (s := S7168x2048) (k1_off1 i) S1792x2048.size ib).toLoadRect f = slab i (m.view.read (Elt F) f) := by
  funext z; exact View.readAt_apply ..

/-- Whether the point is a column's first. -/
abbrev cond1 (i : grid1.Coords) : Prop := (Scalar.cmpi .ne (Scalar.extui (Scalar.cmpi .eq (BitVec.ofNat 32 (i 1).val) 0#32)) 0#32) = 1#1

section Run

variable (c : Dev nD) (i : grid1.Coords)
  (arg2 : Memref sig .tc .vmem S7168x2048 .bf16) (harg2 : arg2.IsWhole) (arg3 : Memref sig .tc .vmem S2048x512 .fp8e5m2) (harg3 : arg3.IsWhole) (arg4 : Memref sig .tc .vmem S2048x128 .f32) (harg4 : arg4.IsWhole) (arg5 : Memref sig .tc .vmem S32x7168 .f32) (harg5 : arg5.IsWhole) (arg6 : Memref sig .tc .vmem S32x7168 .fp8e4m3) (harg6 : arg6.IsWhole) (arg7 : Memref sig .tc .vmem S32x1 .f32) (harg7 : arg7.IsWhole) (arg8 : Memref sig .tc .vmem S32x1 .f32) (harg8 : arg8.IsWhole) (arg9 : Memref sig .tc .vmem S1x7168 .f32) (harg9 : arg9.IsWhole) (arg10 : Memref sig .tc .vmem S32x128 .f32) (harg10 : arg10.IsWhole) (arg11 : Memref sig .tc .vmem S1792x512 .f32) (harg11 : arg11.IsWhole) (arg12 : Memref sig .tc .vmem S32x7168 .bf16) (harg12 : arg12.IsWhole) (arg13 : Memref sig .tc .vmem S2048x512 .bf16) (harg13 : arg13.IsWhole)

set_option maxHeartbeats 2000000 in
/-- The body's run at one grid point, whichever of its two conditions hold. -/
theorem run1 (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ))) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
    ⊢ wp frame (wpE (defs₀ (F := F)) 𝒱₀ (c : Thread nD τ) none) Set.univ (cc1_dw_matmul (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ ∃ g11 g12 g13, (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13)
          ∗ ⌜(cond1 i → (arg13.view.read (Elt F) g13) = DW i (arg4.view.read (Elt F) X4) (arg3.view.read (Elt F) X3)) ∧ (¬ cond1 i → g13 = f13)
            ∧ (arg11.view.read (Elt F) g11) = k1_pay2 (slab i (arg2.view.read (Elt F) X2)) (arg13.view.read (Elt F) g13)
            ∧ (k1_cond2 i = 1#1 → (arg12.view.read (Elt F) g12) = k1_pay3 (arg10.view.read (Elt F) X10) (arg8.view.read (Elt F) X8) (arg6.view.read (Elt F) X6) (arg7.view.read (Elt F) X7) (arg5.view.read (Elt F) X5) (arg9.view.read (Elt F) X9)) ∧ (¬ k1_cond2 i = 1#1 → g12 = f12)⌝)) := by
  by_cases hc0 : cond1 i <;> by_cases hc1 : k1_cond2 i = 1#1
  all_goals
    rw [cc1_dw_matmul_eq_skeleton]
    unfold cc1_dw_matmul_skel
    iintro ⟨H2, H3, H4, H5, H6, H7, H8, H9, H10, H11, H12, H13⟩
    try rw [k1_part1_eq_skeleton]
    try unfold k1_part1_skel
    sl_exec (disch := first | sl_exact hc0 | sl_exact hc1)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _
    isplitl [H11]; · iexact H11
    isplitl [H12]; · iexact H12
    isplitl [H13]; · iexact H13
    ipureintro
  · have hd : DOk i (arg4.view.read (Elt F) X4) (arg3.view.read (Elt F) X3) 4 (run1.sl.H13_4 c i arg3 arg4 X3 X4) :=
      dok_cons i _ _ 3 3 rfl rfl _ (by rw [full_readAt _ _ off00, cblk_read _ _ 3 ![0, 384] rfl]; rfl) (dok_cons i _ _ 2 2 rfl rfl _ (by rw [full_readAt _ _ off00, cblk_read _ _ 2 ![0, 256] rfl]; rfl)
        (dok_cons i _ _ 1 1 rfl rfl _ (by rw [full_readAt _ _ off00, cblk_read _ _ 1 ![0, 128] rfl]; rfl) (dok_cons i _ _ 0 0 rfl rfl _ (by rw [full_readAt _ _ off00, cblk_read _ _ 0 ![0, 0] rfl]; rfl) (dok_nil i _ _))))
    refine ⟨fun _ => dok_read i _ _ f13 hd, fun h => absurd hc0 h, ?_, fun _ => ?_, fun h => absurd hc1 h⟩
    · rw [full_write _ _ off00, slab_read, dok_read i _ _ f13 hd]
      exact congrArg _ (dok_cov i _ _ hd _)
    · rw [full_write _ _ off00]
      rw [full_readAt _ _ off00, full_readAt _ _ off00, full_readAt _ _ off00, full_readAt _ _ off00, full_readAt _ _ off00, full_readAt _ _ off00]
  · have hd : DOk i (arg4.view.read (Elt F) X4) (arg3.view.read (Elt F) X3) 4 (run1.sl.H13_4_1 c i arg3 arg4 X3 X4) :=
      dok_cons i _ _ 3 3 rfl rfl _ (by rw [full_readAt _ _ off00, cblk_read _ _ 3 ![0, 384] rfl]; rfl) (dok_cons i _ _ 2 2 rfl rfl _ (by rw [full_readAt _ _ off00, cblk_read _ _ 2 ![0, 256] rfl]; rfl)
        (dok_cons i _ _ 1 1 rfl rfl _ (by rw [full_readAt _ _ off00, cblk_read _ _ 1 ![0, 128] rfl]; rfl) (dok_cons i _ _ 0 0 rfl rfl _ (by rw [full_readAt _ _ off00, cblk_read _ _ 0 ![0, 0] rfl]; rfl) (dok_nil i _ _))))
    refine ⟨fun _ => dok_read i _ _ f13 hd, fun h => absurd hc0 h, ?_, fun h => absurd h hc1, fun _ => rfl⟩
    · rw [full_write _ _ off00, slab_read, dok_read i _ _ f13 hd]
      exact congrArg _ (dok_cov i _ _ hd _)
  · refine ⟨fun h => absurd h hc0, fun _ => rfl, ?_, fun _ => ?_, fun h => absurd hc1 h⟩
    · rw [full_write _ _ off00, slab_read, full_readAt _ _ off00]
    · rw [full_write _ _ off00]
      rw [full_readAt _ _ off00, full_readAt _ _ off00, full_readAt _ _ off00, full_readAt _ _ off00, full_readAt _ _ off00, full_readAt _ _ off00]
  · refine ⟨fun h => absurd h hc0, fun _ => rfl, ?_, fun h => absurd h hc1, fun _ => rfl⟩
    · rw [full_write _ _ off00, slab_read, full_readAt _ _ off00]

end Run

end Cert.Kernel.Own

end
-- ==== Proof.Run.Kernel.Body1.lean ====
/-
  The second call's proof data and its body at every point: what each window's buffer holds, and the dequantised
  column the scratch keeps over a column's four points.
-/
module

public import proofs.«01_k».proof.Proof.Run.Kernel.Dat0
public import proofs.«01_k».proof.Proof.Run.Kernel.Run1
public import Idealize.ShloMosaic.Lib.Pipeline.TableIdle

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The scoped buffers of the first call. -/
def rest1 (c : Dev nD) : sProp 𝕄 := iprop(anyP c cc0_stg0_0 ∗ anyP c cc0_stg1_0 ∗ anyP c cc0_stg2_0 ∗ anyP c cc0_stg2_1 ∗ anyP c cc0_stg3_0 ∗ anyP c cc0_stg3_1 ∗ anyP c cc0_stg4_0 ∗ anyP c cc0_stg5_0 ∗ anyP c cc0_stg6_0 ∗ anyP c cc0_stg6_1 ∗ anyP c cc0_stg7_0 ∗ anyP c cc0_stg7_1 ∗ anyP c cc0_stg8_0 ∗ anyP c cc0_stg8_1 ∗ anyP c cc0_stg9_0 ∗ anyP c cc0_stg10_0 ∗ anyP c cc0_stg10_1 ∗ anyP c cc0_scratch0 ∗ anyP c cc0_scratch1 ∗ anyP c cc0_scratch2 ∗ anyP c cc0_scratch3)
omit [FloatOps F] in
theorem scoped1_split (c : Dev nD) : (Pipeline.scopedRest (Ix := Unit) (Name := ℕ) (U := UU nD τ) (Lvl := ℕ) (Val := Elt F) spec1 c : sProp 𝕄)
    ⊢ iprop(rest1 c ∗ anyP c cc1_scratch0) := by
  rw [scopedRest1_eq]; unfold rest1
  iintro ⟨H0, H1, H2, H3, H4, H5, H6, H7, H8, H9, H10, H11, H12, H13, H14, H15, H16, H17, H18, H19, H20, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact HS
omit [FloatOps F] in
theorem scoped1_join (c : Dev nD) : iprop(rest1 c ∗ anyP c cc1_scratch0)
    ⊢ (Pipeline.scopedRest (Ix := Unit) (Name := ℕ) (U := UU nD τ) (Lvl := ℕ) (Val := Elt F) spec1 c : sProp 𝕄) := by
  rw [scopedRest1_eq]; unfold rest1
  iintro ⟨⟨H0, H1, H2, H3, H4, H5, H6, H7, H8, H9, H10, H11, H12, H13, H14, H15, H16, H17, H18, H19, H20⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact HS

variable (V : Dev nD → Valuation τ sig (Elt F))

/-- Window `w`'s block at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point `n` of the grid (past the end, some point). -/
def pt1 (n : ℕ) : Fin cfg1.N := ⟨n % 72, by rw [show cfg1.N = 72 from N_1]; omega⟩
theorem pt1_val (t : Fin cfg1.N) : pt1 t.val = t := Fin.ext (Nat.mod_eq_of_lt (lt_of_lt_of_eq t.isLt N_1))

/-- The dequantised column of the points from `4 (n / 4)`. -/
def dw1 (c : Dev nD) (n : ℕ) : FVec F S2048x512 .bf16 :=
  DW (grid1.coords (pt1 (4 * (n / 4)))) (blk1 V c 2 (pt1 (4 * (n / 4)))) (blk1 V c 1 (pt1 (4 * (n / 4))))
/-- The rows of the gradient of the input of one point, -/
def dx1 (c : Dev nD) (t : Fin cfg1.N) : FVec F S32x7168 .bf16 :=
  k1_pay3 (blk1 V c 8 t) (blk1 V c 6 t) (blk1 V c 4 t) (blk1 V c 5 t) (blk1 V c 3 t) (blk1 V c 7 t)
/-- and the point that wrote what the buffer holds after point `t`. -/
def lastDx (t : Fin cfg1.N) : Fin cfg1.N := if t.val < 64 then t else pt1 63

/-- What the kernel's own buffers hold between points. -/
def Φ1 (c : Dev nD) (t : Fin (cfg1.N + 1)) : sProp 𝕄 :=
  iprop(rest1 c ∗ ∃ g : Buf (Elt F) ((Memref.whole cc1_scratch0).view.loc (c : Thread nD τ)), ((Memref.whole cc1_scratch0).view.loc (c : Thread nD τ) ↦[(Memref.whole cc1_scratch0).view.set]{fullShare} g)
      ∗ ⌜t.val % 4 ≠ 0 → (Memref.whole cc1_scratch0).view.read (Elt F) g = dw1 V c t.val⌝)

/-- The pipeline's proof data. -/
def dat1 (c : Dev nD) : Dat τ (Elt F) Unit ℕ (UU nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => k1_pay2 (slab (grid1.coords t) (blk1 V c 0 t)) (dw1 V c t.val)
    | ⟨10, _⟩ => dx1 V c (lastDx t)
  Φ t := Φ1 V c t
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = k1_pay2 (slab (grid1.coords t) (blk1 V c 0 t)) (dw1 V c t.val) := by dsimp only [dat1]
theorem after1_10 (c : Dev nD) (t : Fin cfg1.N) : (dat1 V c).after 10 t = dx1 V c (lastDx t) := by dsimp only [dat1]
theorem Φ1_eq (c : Dev nD) (t : Fin (cfg1.N + 1)) : (dat1 V c).Φ t = Φ1 V c t := by dsimp only [dat1]
theorem owed1_eq (c : Dev nD) (t : Fin (cfg1.N + 1)) : (dat1 V c).owed t = 0 := by dsimp only [dat1]

/-- Each input's buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A1_eq]; try rfl) t d).trans
    (by unfold Dat.fetched Dat.blockOf blk1; rw [A1_eq]; try rfl)
theorem before1_8 (c : Dev nD) (t : Fin cfg1.N) (d) : (dat1 V c).before 8 t d = blk1 V c 8 t :=
  ((dat1 V c).before_in_eq_fetched 8 rfl (fun _ => rfl) (fun _ _ _ => rfl) (fun t => by rw [after1_8]; unfold Dat.blockOf blk1; rw [A1_eq]; try rfl) t d).trans
    (by unfold Dat.fetched Dat.blockOf blk1; rw [A1_eq]; try rfl)

theorem hcond1 : ∀ t : Fin cfg1.N, cond1 (grid1.coords t) ↔ t.val % 4 = 0 :=
  (by decide +kernel : ∀ t : Fin grid1.N, cond1 (grid1.coords t) ↔ t.val % 4 = 0)
theorem hcond2 : ∀ t : Fin cfg1.N, k1_cond2 (grid1.coords t) = 1#1 ↔ t.val < 64 :=
  (by decide +kernel : ∀ t : Fin grid1.N, k1_cond2 (grid1.coords t) = 1#1 ↔ t.val < 64)

/-- Between its write-backs the last output's buffer is untouched exactly up to point 63. -/
theorem fresh1 (n : ℕ) (h : n ≤ cfg1.N) : cfg1.fresh 10 n = decide (n < 64 ∨ n = 72) :=
  cfg1.fresh_tab 10 (fun n => decide (n < 64 ∨ n = 72)) rfl
    (by decide +kernel : ∀ t : Fin grid1.N, decide (t.val + 1 < 64 ∨ t.val + 1 = 72) = ((cfg1.win 10).flush t || (cfg1.idle 10 (cfg1.grid.coords t) && decide (t.val < 64 ∨ t.val = 72)))) n h

theorem before1_10 (c : Dev nD) (t : Fin cfg1.N) (ht : 64 ≤ t.val) (d) : (dat1 V c).before 10 t d = dx1 V c (pt1 63) := by
  have hN : t.val < 72 := lt_of_lt_of_eq t.isLt N_1
  rw [(dat1 V c).before_out_traj 10 rfl (fun _ _ => rfl) (fun t h0 hi hf => ?_) t.val t rfl d, fresh1 _ t.isLt.le, decide_eq_false (by omega), if_neg Bool.false_ne_true, after1_10]
  · unfold lastDx
    split
    · next h => congr 1; refine Fin.ext ?_; have h : t.val - 1 < 64 := h; show t.val - 1 = 63; omega
    · rfl
  · have hN : t.val < 72 := lt_of_lt_of_eq t.isLt N_1
    rw [fresh1 _ t.isLt.le] at hf
    have hf := of_decide_eq_false hf
    rw [after1_10, after1_10]; unfold lastDx
    rw [if_neg (by omega)]
    split
    · next h => congr 1; refine Fin.ext ?_; have h : t.val - 1 < 64 := h; show 63 = t.val - 1; omega
    · rfl

/-- At a point that leaves the last output alone its buffer's contents stand for what the point leaves. -/
theorem leaves10 (c : Dev nD) (t : Fin cfg1.N) :
    owns (c : Thread nD τ) (win1_10.stage (cfg1.slots t 10)) fullShare (dx1 V c (lastDx t)) ⊢ ((dat1 V c).leavesExact 10 t : sProp 𝕄) := by
  have hi : cfg1.idle 10 (cfg1.grid.coords t) = true → 64 ≤ t.val :=
    (by decide +kernel : ∀ t : Fin grid1.N, cfg1.idle 10 (cfg1.grid.coords t) = true → 64 ≤ t.val) t
  unfold Dat.leavesExact
  rw [after1_10]
  cases h : cfg1.idle 10 (cfg1.grid.coords t)
  · exact .rfl
  · cases h' : (cfg1.win 10).flush t
    · have e := before1_10 V c t (hi h) (dx1 V c (lastDx t))
      have e2 : lastDx t = pt1 63 := by unfold lastDx; rw [if_neg (by have := hi h; omega)]
      show _ ⊢ iprop(∃ d, owns (c : Thread nD τ) (win1_10.stage (cfg1.slots t 10)) fullShare ((dat1 V c).before 10 t d))
      iintro H; iexists (dx1 V c (lastDx t)); rw [e, e2]; iexact H
    · exact .rfl

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d)))
/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ (dat1 V c).leavesExact 10 t)

set_option maxHeartbeats 2000000 in
/-- The body at any point. -/
theorem sound1 (c : Dev nD) (t : Fin cfg1.N) :
    bodyPre1 V c t ⊢ wp frame (wpE (defs₀ (F := F)) 𝒱₀ c none) Set.univ (bodyAt1 t) (fun _ => bodyPost1 V c t) := by
  have hN : t.val < 72 := lt_of_lt_of_eq t.isLt N_1
  unfold bodyPre1 bodyPost1 bodyAt1
  simp only [before1_0, before1_1, before1_2, before1_3, before1_4, before1_5, before1_6, before1_7, before1_8, after1_0, after1_1, after1_2, after1_3, after1_4, after1_5, after1_6, after1_7, after1_8, after1_9]
  rw [Φ1_eq, Φ1_eq]
  unfold Dat.owesAt Pipeline.owesWithin
  rw [owed1_eq, owed1_eq]
  unfold owns Φ1
  iintro ⟨⟨HR, %fs, HS, %hs⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  iapply wp_wand_r
  isplitl [H0 H1 H2 H3 H4 H5 H6 H7 H8 H9 H10 HS]
  · iapply (run1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _)
      f0 f1 f2 f3 f4 f5 f6 f7 f8 f9 f10 fs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro %a ⟨H0, H1, H2, H3, H4, H5, H6, H7, H8, %g9, %g10, %gs, H9, H10, HS, %hpost⟩
  obtain ⟨p1, p2, o9, p3, p4⟩ := hpost
  have hS : (Memref.whole cc1_scratch0).view.read (Elt F) gs = dw1 V c t.val := by
    by_cases h : t.val % 4 = 0
    · rw [p1 ((hcond1 t).mpr h), h2, h1]
      have e : pt1 (4 * (t.val / 4)) = t := by rw [show 4 * (t.val / 4) = t.val by omega]; exact pt1_val t
      unfold dw1; rw [e]
    · rw [p2 (fun hc => h ((hcond1 t).mp hc))]; exact hs h
  rw [hS, h0] at o9
  have o10 : (win1_10.stage (cfg1.slots t 10)).view.read (Elt F) g10 = dx1 V c (lastDx t) := by
    unfold lastDx
    by_cases h : t.val < 64
    · rw [p3 ((hcond2 t).mpr h), if_pos h, h8, h6, h4, h5, h3, h7]; rfl
    · rw [p4 (fun hc => h ((hcond2 t).mp hc)), if_neg h]
      exact h10.trans (before1_10 V c t (by omega) d10)
  isplitl [HR HS]
  · isplitl [HR]; · iexact HR
    iexists gs
    isplitl [HS]; · iexact HS
    ipureintro
    intro h
    have h : (t.val + 1) % 4 ≠ 0 := h
    rw [hS]; show dw1 V c t.val = dw1 V c (t.val + 1)
    unfold dw1; rw [show (t.val + 1) / 4 = t.val / 4 by omega]
  isplitl [HW]
  · iexists W; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H9]
  · iexists _; isplitr; · ipureintro; exact o9
    iexact H9
  iapply (leaves10 V c t)
  unfold owns
  iexists _; isplitr
  · ipureintro; exact o10
  iexact H10

theorem defs1_row (t : Fin cfg1.N) : defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) 𝒱₀ () Set.univ := fun t => by
  rw [bigSep_W1, bigSep_W1, defs1_row]
  exact triple_restated (sound1 V c t) rfl .rfl fun _ => .rfl

end Cert.Kernel.Own

end
-- ==== Proof.Run.Kernel.Regs.lean ====
/-
  The two calls as stretches of the program, each entered from and left at the unscoped buffers' contents, and the
  program's run: every argument ends as launched and each result is read off the last contents.
-/
module

public import proofs.«01_k».proof.Proof.Run.Kernel.Body0
public import proofs.«01_k».proof.Proof.Run.Kernel.Body1
public import Idealize.ShloMosaic.Lib.Pipeline.RegionArraysS

@[expose] public section

set_option maxRecDepth 16384

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg afterRegion arrRefs ucRefs)

variable {F : FTy → Type} [FloatOps F]

local notation "𝕄" => MT nD τ sig Unit (Elt F) ℕ (UU nD τ) ℕ

variable (m : (ℓ : Loc nD τ sig) → Buf (Elt F) ℓ)

/-! ## The contents between the calls -/

/-- What the first call leaves. -/
def outsA : Outs (F := F) := fun _ r c => afterRegion (dat0 (V3 m) c) (V3 m c) r
/-- The contents the second call starts from. -/
abbrev W5 : Dev nD → Valuation τ sig (Elt F) := V5 m (outsA m)
/-- What each call leaves. -/
def outs : Outs (F := F) := fun J r c => match J with
  | 4 => afterRegion (dat0 (V3 m) c) (V3 m c) r
  | _ => afterRegion (dat1 (W5 m) c) (W5 m c) r
theorem V5_outs : V5 m (outs m) = W5 m := rfl

/-- The two pipelines' proof data. -/
def pdats (p : Fin 2) (c : Dev nD) : Dat τ (Elt F) Unit ℕ (UU nD τ) ℕ (cfgs p) c := match p with
  | 0 => dat0 (V3 m) c
  | 1 => dat1 (W5 m) c

theorem arr_sub0 : arrRefs (τ := τ) spec0 ⊆ ucRefs τ sig := Pipeline.arrRefs_sub_ucRefs spec0 (by decide)
theorem arr_sub1 : arrRefs (τ := τ) spec1 ⊆ ucRefs τ sig := Pipeline.arrRefs_sub_ucRefs spec1 (by decide)

theorem V4_eq (c : Dev nD) (r : Ref sig .tc) : V4 m (outs m) c r = afterRegion (dat0 (V3 m) c) (V3 m c) r := by
  by_cases h : r ∈ ([main_v6_0, main_v6_1, main_v6_2, main_v6_3, main_v1] : List (Ref sig .tc))
  · simp only [List.mem_cons, List.not_mem_nil, or_false] at h
    rcases h with rfl | rfl | rfl | rfl | rfl
    · unfold V4
      rw [Function.update_of_ne (StableHlo.devRef_ne_of_ne (by decide)), Function.update_of_ne (StableHlo.devRef_ne_of_ne (by decide)),
        Function.update_of_ne (StableHlo.devRef_ne_of_ne (by decide)), Function.update_of_ne (StableHlo.devRef_ne_of_ne (by decide)), Function.update_self]; rfl
    · unfold V4
      rw [Function.update_of_ne (StableHlo.devRef_ne_of_ne (by decide)), Function.update_of_ne (StableHlo.devRef_ne_of_ne (by decide)),
        Function.update_of_ne (StableHlo.devRef_ne_of_ne (by decide)), Function.update_self]; rfl
    · unfold V4
      rw [Function.update_of_ne (StableHlo.devRef_ne_of_ne (by decide)), Function.update_of_ne (StableHlo.devRef_ne_of_ne (by decide)), Function.update_self]; rfl
    · unfold V4
      rw [Function.update_of_ne (StableHlo.devRef_ne_of_ne (by decide)), Function.update_self]; rfl
    · unfold V4
      rw [Function.update_self]; rfl
  · rw [V4_of m (outs m) c r h]
    refine (Pipeline.afterRegion_keeps (dat0 (V3 m) c) (V3 m c) winFacts0.arr_inj (A0_eq (V3 m) c) r (fun w e => ?_)).symm
    cases hw : (cfg0.win w).isOut
    · rfl
    · exact absurd (e ▸ (by decide : ∀ w : Fin 11, (cfg0.win w).isOut = true → Pipeline.arrRef spec0 w ∈ ([main_v6_0, main_v6_1, main_v6_2, main_v6_3, main_v1] : List (Ref sig .tc))) w hw) h

theorem V6_eq (c : Dev nD) (r : Ref sig .tc) : V6 m (outs m) c r = afterRegion (dat1 (W5 m) c) (W5 m c) r := by
  by_cases h : r ∈ ([main_v9_0, main_v9_1] : List (Ref sig .tc))
  · simp only [List.mem_cons, List.not_mem_nil, or_false] at h
    rcases h with rfl | rfl
    · unfold V6
      rw [Function.update_of_ne (StableHlo.devRef_ne_of_ne (by decide)), Function.update_self]; rfl
    · unfold V6
      rw [Function.update_self]; rfl
  · rw [V6_of m (outs m) c r h]
    refine (Pipeline.afterRegion_keeps (dat1 (W5 m) c) (W5 m c) winFacts1.arr_inj (A1_eq (W5 m) c) r (fun w e => ?_)).symm
    cases hw : (cfg1.win w).isOut
    · rfl
    · exact absurd (e ▸ (by decide : ∀ w : Fin 11, (cfg1.win w).isOut = true → Pipeline.arrRef spec1 w ∈ ([main_v9_0, main_v9_1] : List (Ref sig .tc))) w hw) h

omit [FloatOps F] in
/-- Contents agreeing at every reference of the core hold the same buffers. -/
theorem held_refs (c : Dev nD) {V V' : Valuation τ sig (Elt F)} (h : ∀ r : Ref sig .tc, V r = V' r) :
    (StableHlo.held (c : Thread nD τ) (ucRefs τ sig) V : sProp 𝕄) = StableHlo.held (c : Thread nD τ) (ucRefs τ sig) V' :=
  StableHlo.held_congr (c : Thread nD τ) fun b hb => by
    obtain ⟨r, -, rfl⟩ := Finset.mem_map.mp (Finset.mem_filter.mp hb).1
    exact h r

/-! ## Whole buffers -/

omit [FloatOps F] in
theorem whole_eq (c : Dev nD) (r : Ref sig .tc) (f : Buf (Elt F) ((c : Thread nD τ).loc r)) :
    ((((Memref.whole r).view.loc (c : Thread nD τ)) ↦[(Memref.whole r).view.set]{fullShare} f : sProp 𝕄)) = (((c : Thread nD τ).loc r) ↦{fullShare} f) :=
  congrArg (fun S => (_ ↦[S]{fullShare} f : sProp 𝕄)) (View.set_whole r)

/-! ## The first call -/

theorem in0 (V : Dev nD → Valuation τ sig (Elt F)) (c : Dev nD) :
    iprop(((((c : Thread nD τ).loc main_v1) ↦{fullShare} XA V c) ∗ cellP c 0 ∗ cellP c 1) ∗ Pipeline.scopedRest spec0 c) ⊢ ((dat0 V c).Φ 0 : sProp 𝕄) := by
  rw [Φ0_eq, scoped0_eq, v1_eq]
  unfold Φ0
  iintro ⟨⟨Hh, Hc0, Hc1⟩, ⟨%gd, HD⟩, Hb, ⟨%gx, Hx⟩, ⟨%gr, Hr⟩, HR⟩
  ihave Hb := (buf_split c) $$ Hb
  icases Hb with ⟨Hs0, Hs1⟩
  isplitl [Hh]; · iexact Hh
  isplitl [Hs0]; · iexact Hs0
  isplitl [Hs1]; · iexact Hs1
  isplitl [Hc0]; · iexact Hc0
  isplitl [Hc1]; · iexact Hc1
  isplitl [HD Hx Hr]
  · iexists gd; iexists gx; iexists gr
    isplitl [HD]; · iapply (entails_of_eq (whole_eq c cc0_scratch0 gd).symm); iexact HD
    isplitl [Hx]; · iapply (entails_of_eq (whole_eq c cc0_scratch2 gx).symm); iexact Hx
    isplitl [Hr]; · iapply (entails_of_eq (whole_eq c cc0_scratch3 gr).symm); iexact Hr
    ipureintro; exact fun h => absurd rfl h
  iexact HR

theorem out0 (V : Dev nD → Valuation τ sig (Elt F)) (c : Dev nD) :
    ((dat0 V c).Φ (Fin.last cfg0.N) : sProp 𝕄) ⊢ iprop((((c : Thread nD τ).loc main_v1) ↦{fullShare} XA V c) ∗ Pipeline.ownSems0 osem c ∗ Pipeline.scopedRest spec0 c) := by
  rw [Φ0_eq, scoped0_eq, v1_eq, ownSems0_eq]
  unfold Φ0
  iintro ⟨Hh, Hs0, Hs1, Hc0, Hc1, ⟨%gd, %gx, %gr, HD, Hx, Hr, %hp⟩, HR⟩
  isplitl [Hh]; · iexact Hh
  isplitl [Hc0 Hc1]
  · isplitl [Hc0]; · iexact Hc0
    iexact Hc1
  isplitl [HD]
  · iexists gd; iapply (entails_of_eq (whole_eq c cc0_scratch0 gd)); iexact HD
  isplitl [Hs0 Hs1]
  · iapply (buf_join c)
    isplitl [Hs0]; · iexact Hs0
    iexact Hs1
  isplitl [Hx]
  · iexists gx; iapply (entails_of_eq (whole_eq c cc0_scratch2 gx)); iexact Hx
  isplitl [Hr]
  · iexists gr; iapply (entails_of_eq (whole_eq c cc0_scratch3 gr)); iexact Hr
  iexact HR

/-- The second call's own buffers. -/
theorem in1 (V : Dev nD → Valuation τ sig (Elt F)) (c : Dev nD) :
    iprop(Pipeline.scopedRest spec1 c ∗ BI.emp) ⊢ ((dat1 V c).Φ 0 : sProp 𝕄) := by
  rw [Φ1_eq]
  unfold Φ1
  iintro ⟨H, -⟩
  ihave H := (scoped1_split c) $$ H
  icases H with ⟨HR, %g, HS⟩
  isplitl [HR]; · iexact HR
  iexists g
  isplitl [HS]; · iapply (entails_of_eq (whole_eq c cc1_scratch0 g).symm); iexact HS
  ipureintro; exact fun h => absurd rfl h
theorem out1 (V : Dev nD → Valuation τ sig (Elt F)) (c : Dev nD) :
    ((dat1 V c).Φ (Fin.last cfg1.N) : sProp 𝕄) ⊢ iprop(Pipeline.scopedRest spec1 c ∗ BI.emp) := by
  rw [Φ1_eq]
  unfold Φ1
  iintro ⟨HR, %g, HS, -⟩
  isplitl [HR HS]
  · iapply (scoped1_join c)
    isplitl [HR]; · iexact HR
    iexists g; iapply (entails_of_eq (whole_eq c cc1_scratch0 g)); iexact HS
  iempintro

/-! ## The levels: the core owes nothing, so one level does -/

abbrev LL : GSem nD τ sig → Finset Unit := fun g => if g.1.2 = .tc then {()} else ∅
abbrev lvl : GSem nD τ sig → Unit → ℕ := fun _ _ => 0
/-- What rides between the stretches: the core owes nothing. -/
abbrev EE (_ : Fin 3) (c : Dev nD) : sProp 𝕄 := iprop(∃ W, owes (c : Thread nD τ) (0 : CellTallies nD τ sig Unit) W)

abbrev v1set : Finset (DevRef τ sig) := {Proc.devRef .tc main_v1}
theorem v1_sub : v1set ⊆ ucRefs τ sig \ arrRefs spec0 := by
  intro b hb
  obtain rfl := Finset.mem_singleton.mp hb
  refine Finset.mem_sdiff.mpr ⟨Finset.mem_filter.mpr ⟨StableHlo.devRef_mem_tcRefs main_v1, by decide⟩, fun h => ?_⟩
  obtain ⟨r, hr, e⟩ := Finset.mem_map.mp h
  obtain ⟨w, -, rfl⟩ := Finset.mem_image.mp hr
  exact (by decide : ∀ w : Fin 11, Pipeline.arrRef spec0 w ≠ main_v1) w (Proc.devRef_injective _ e)

omit [FloatOps F] in
theorem held_v1 (c : Dev nD) (V : Valuation τ sig (Elt F)) :
    (StableHlo.held (c : Thread nD τ) v1set V : sProp 𝕄) = (((c : Thread nD τ).loc main_v1) ↦{fullShare} V main_v1) := by
  unfold StableHlo.held; rw [bigSep_singleton]

theorem share0 (c : Dev nD) (w : Fin cfg0.W) : (dat0 (V3 m) c).share w = fullShare := by
  unfold Dat.share; split <;> rfl
theorem share1 (c : Dev nD) (w : Fin cfg1.W) : (dat1 (W5 m) c).share w = fullShare := by
  unfold Dat.share; split <;> rfl

theorem kit0 : Pipeline.PLaunchFacts (nD := nD) (τ := τ) (pcfgs (F := F)) 0 := launch0.toP
theorem kit1 : Pipeline.PLaunchFacts (nD := nD) (τ := τ) (pcfgs (F := F)) 1 := launch1.toP

theorem arrays0 (c : Dev nD) : (((pdats m 0 c).arrays ((pdats m 0 c).arrAt · 0)) : sProp 𝕄) = StableHlo.held (c : Thread nD τ) (arrRefs spec0) (V3 m c) :=
  Pipeline.arrays_held (pcfgs (F := F)) adm (pdats m) 0 kit0 c (share0 m c) _ (V3 m c) (fun w => A0_eq (V3 m) c w)
theorem arraysN0 (c : Dev nD) : (((pdats m 0 c).arrays ((pdats m 0 c).arrAt · cfg0.N)) : sProp 𝕄)
    = StableHlo.held (c : Thread nD τ) (arrRefs spec0) (afterRegion (dat0 (V3 m) c) (V3 m c)) :=
  Pipeline.arrays_held (pcfgs (F := F)) adm (pdats m) 0 kit0 c (share0 m c) _ (afterRegion (dat0 (V3 m) c) (V3 m c))
    (fun w => (Pipeline.afterRegion_arr (dat0 (V3 m) c) (V3 m c) winFacts0.arr_inj w).symm)

set_option backward.isDefEq.respectTransparency.types false in
/-- The first call as a stretch of the program. -/
def R0 : RegionSeg (pcfgs (F := F)) adm (pdats m) () defs₀ 𝒱₀ LL lvl 0 where
  win := (kit0 (F := F)).to₀.win
  block_pos := (kit0 (F := F)).to₀.block_pos
  stage_whole := (kit0 (F := F)).to₀.stage_whole
  K := Fin 2
  osem := osem
  ho := ownSemFacts
  hbody := fun c => (body_obligation0 (V3 m) c).loose
  hwaits c := Pipeline.hwaits_of_owed_zero (pcfgs (F := F)) adm (pdats m) () LL lvl 0 (fun c t => owed0_eq (V3 m) c t) c
  pre c := iprop(StableHlo.held (c : Thread nD τ) (ucRefs τ sig) (V3 m c) ∗ EE 0 c)
  post c := iprop(StableHlo.held (c : Thread nD τ) (ucRefs τ sig) (afterRegion (dat0 (V3 m) c) (V3 m c)) ∗ EE 1 c)
  X c := iprop((((c : Thread nD τ).loc main_v1) ↦{fullShare} V3 m c main_v1) ∗ cellP c 0 ∗ cellP c 1)
  Y c := iprop((((c : Thread nD τ).loc main_v1) ↦{fullShare} V3 m c main_v1))
  Z c := iprop(StableHlo.held (c : Thread nD τ) ((ucRefs τ sig \ arrRefs spec0) \ v1set) (V3 m c))
  hentry c := by
    rw [ownSems0_eq, Pipeline.prefHeld_of_none _ rfl, arrays0]
    rw [StableHlo.held_sub_split (c : Thread nD τ) arr_sub0 (V3 m c), StableHlo.held_sub_split (c : Thread nD τ) v1_sub (V3 m c), held_v1]
    iintro ⟨⟨⟨Ha, Hv, HZ⟩, ⟨%W, HO⟩⟩, ⟨Hc0, Hc1⟩, -⟩
    imodintro
    isplitl [Ha]; · iexact Ha
    isplitr; · iempintro
    isplitl [HO]
    · unfold Dat.owesAt Pipeline.owesWithin Dat.bound
      iexists W
      isplitr; · ipureintro; exact fun _ _ => Or.inl trivial
      iexact HO
    isplitl [Hv Hc0 Hc1]
    · isplitl [Hv]; · iexact Hv
      isplitl [Hc0]; · iexact Hc0
      iexact Hc1
    iexact HZ
  hin c := (show _ ⊢ iprop(((((c : Thread nD τ).loc main_v1) ↦{fullShare} V3 m c main_v1) ∗ cellP c 0 ∗ cellP c 1) ∗ Pipeline.scopedRest spec0 c) from by
    iintro ⟨HX, -, Hr⟩
    isplitl [HX]; · iexact HX
    iexact Hr).trans (in0 (V3 m) c)
  hout c := out0 (V3 m) c
  hexit c := by
    rw [show (((pdats m 0 c).arrays ((pdats m 0 c).arrAt · (Pipeline.pin (pcfgs (F := F)) adm 0).N)) : sProp 𝕄) = _ from arraysN0 m c]
    rw [StableHlo.held_sub_split (c : Thread nD τ) arr_sub0 (afterRegion (dat0 (V3 m) c) (V3 m c)),
      StableHlo.held_congr (c : Thread nD τ) (S := ucRefs τ sig \ arrRefs spec0) (V := afterRegion (dat0 (V3 m) c) (V3 m c)) (V' := V3 m c) (Pipeline.afterRegion_off (dat0 (V3 m) c) (V3 m c) _),
      StableHlo.held_sub_split (c : Thread nD τ) v1_sub (V3 m c), held_v1]
    unfold Dat.owesAt Pipeline.owesWithin
    iintro ⟨Ha, ⟨%W, -, HO⟩, HY, HZ⟩
    imodintro
    isplitl [Ha HY HZ]
    · isplitl [Ha]; · iexact Ha
      isplitl [HY]; · iexact HY
      iexact HZ
    iexists W; iexact HO

/-- The second call as a stretch of the program. -/
def R1 : RegionSeg (pcfgs (F := F)) adm (pdats m) () defs₀ 𝒱₀ LL lvl 1 :=
  RegionSeg.ofHeldIn (pcfgs (F := F)) adm (pdats m) () defs₀ 𝒱₀ LL lvl 1 (fun _ => 0) (ucRefs τ sig) (fun _ => BI.emp) (fun _ => BI.emp) kit1 rfl
    (fun c => (body_obligation1 (W5 m) c).loose) (fun c t => owed1_eq (W5 m) c t) (fun c => rfl) (fun c w => share1 m c w)
    (fun c => in1 (W5 m) c) (fun c => out1 (W5 m) c) (fun _ => 0)
    ⟨fun c w s => by simp [LL], fun c w s => le_refl _, fun c g i h => absurd h (by simp)⟩ (fun _ => BI.emp) (W5 m) (fun c w => A1_eq (W5 m) c w)

theorem hpre0 (c : Dev nD) : iprop(StableHlo.held (c : Thread nD τ) (ucRefs τ sig) (V3 m c) ∗ EE 0 c) ⊢ ((R0 m).pre c : sProp 𝕄) := .rfl
theorem hpost0 (c : Dev nD) : ((R0 m).post c : sProp 𝕄) ⊢ iprop(StableHlo.held (c : Thread nD τ) (ucRefs τ sig) (V4 m (outs m) c) ∗ EE 1 c) := by
  rw [held_refs c (V4_eq m c)]; exact .rfl
theorem hpre1 (c : Dev nD) : iprop(StableHlo.held (c : Thread nD τ) (ucRefs τ sig) (V5 m (outs m) c) ∗ EE 1 c) ⊢ ((R1 m).pre c : sProp 𝕄) := by
  show iprop(StableHlo.held (c : Thread nD τ) (ucRefs τ sig) (W5 m c) ∗ iprop(∃ Wd, owes (c : Thread nD τ) 0 Wd))
    ⊢ iprop(StableHlo.held (c : Thread nD τ) (arrRefs spec1) (W5 m c) ∗ BI.emp ∗ (StableHlo.held (c : Thread nD τ) (ucRefs τ sig \ arrRefs spec1) (W5 m c) ∗ BI.emp) ∗ ∃ Wd, owes (c : Thread nD τ) 0 Wd)
  rw [StableHlo.held_sub_split (c : Thread nD τ) arr_sub1 (W5 m c)]
  iintro ⟨⟨Ha, Hu⟩, HO⟩
  isplitl [Ha]; · iexact Ha
  isplitr; · iempintro
  isplitl [Hu]
  · isplitl [Hu]; · iexact Hu
    iempintro
  iexact HO
theorem hpost1 (c : Dev nD) : ((R1 m).post c : sProp 𝕄) ⊢ iprop(StableHlo.held (c : Thread nD τ) (ucRefs τ sig) (V6 m (outs m) c) ∗ EE 2 c) := by
  rw [held_refs c (V6_eq m c)]
  show iprop(StableHlo.held (c : Thread nD τ) (arrRefs spec1) (afterRegion (dat1 (W5 m) c) (W5 m c)) ∗ BI.emp
      ∗ (StableHlo.held (c : Thread nD τ) (ucRefs τ sig \ arrRefs spec1) (W5 m c) ∗ BI.emp) ∗ ∃ Wd, owes (c : Thread nD τ) 0 Wd)
    ⊢ iprop(StableHlo.held (c : Thread nD τ) (ucRefs τ sig) (afterRegion (dat1 (W5 m) c) (W5 m c)) ∗ iprop(∃ Wd, owes (c : Thread nD τ) 0 Wd))
  rw [StableHlo.held_sub_split (c : Thread nD τ) arr_sub1 (afterRegion (dat1 (W5 m) c) (W5 m c)),
    StableHlo.held_congr (c : Thread nD τ) (S := ucRefs τ sig \ arrRefs spec1) (V := afterRegion (dat1 (W5 m) c) (W5 m c)) (V' := W5 m c) (Pipeline.afterRegion_off (dat1 (W5 m) c) (W5 m c) _)]
  iintro ⟨Ha, -, ⟨Hu, -⟩, HO⟩
  isplitl [Ha Hu]
  · isplitl [Ha]; · iexact Ha
    iexact Hu
  iexact HO

/-! ## The launch -/

/-- The launch's ghost element: the pipelines' cells. -/
def u₀ : UU nD τ := (initOf (Pipeline.cells cfgs cellOf_inj) (Pipeline.launchToks cfgs cellOf_inj), 1)
theorem hu₀ : (ownU u₀ : sProp 𝕄) ⊢ |={Set.univ}=> iprop(BI.own (EP (initOf (Pipeline.cells cfgs cellOf_inj) (Pipeline.launchToks cfgs cellOf_inj))) ∗ bigSep Finset.univ (fun _ : Dev nD => BI.emp)) := by
  unfold u₀
  iintro Hu
  ihave H := (ownU_pair _ _) $$ Hu
  icases H with ⟨HP, -⟩
  imodintro
  isplitl [HP]; · iexact HP
  iapply (show BI.emp ⊢ bigSep Finset.univ (fun _ : Dev nD => BI.emp) from by rw [BI.bigSep_emp_const])
  iempintro
theorem hE0 (ρ : Dev nD → PrngReg) : iprop((bigSep Finset.univ fun c : Dev nD => iprop(unscopedSems0 c ∗ owes (c : Thread nD τ) 0 ∅ ∗ Pipeline.launchCred (fun _ => 0) c ∗ prngReg c (ρ c) ∗ BI.emp)) ∗ levAts LL lvl)
    ⊢ (|={Set.univ}=> bigSep Finset.univ (EE 0) : sProp 𝕄) := by
  refine (show _ ⊢ (bigSep Finset.univ (EE 0) : sProp 𝕄) from ?_).trans (by iintro H; imodintro; iexact H)
  refine (show _ ⊢ (bigSep Finset.univ fun c : Dev nD => iprop(unscopedSems0 c ∗ owes (c : Thread nD τ) 0 ∅ ∗ Pipeline.launchCred (fun _ => 0) c ∗ prngReg c (ρ c) ∗ BI.emp) : sProp 𝕄) from by
    iintro ⟨H, -⟩; iexact H).trans (bigSep_mono fun c _ => ?_)
  show iprop(unscopedSems0 c ∗ owes (c : Thread nD τ) 0 ∅ ∗ Pipeline.launchCred (fun _ => 0) c ∗ prngReg c (ρ c) ∗ BI.emp) ⊢ (iprop(∃ Wd, owes (c : Thread nD τ) 0 Wd) : sProp 𝕄)
  iintro ⟨-, HO, -⟩
  iexists ∅; iexact HO

set_option backward.isDefEq.respectTransparency.types false in
/-- Every run ends, every argument as launched, each result at the last contents, every counter at zero. -/
theorem run (ρ : Dev nD → PrngReg) : θ_run defs (onTc (τ := τ) (main (F := F))) ⟨m, fun _ => 0, ρ⟩ (fun r => (∀ c : Dev nD, r.2.mem ((c.tc : Thread nD τ).loc main_v10) = V7 m (outs m) c main_v10 ∧ r.2.mem ((c.tc : Thread nD τ).loc main_v9_0) = V7 m (outs m) c main_v9_0 ∧ r.2.mem ((c.tc : Thread nD τ).loc main_v11) = V7 m (outs m) c main_v11 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) := by
  refine Pipeline.θ_run_regions_kit_dev_sems (pcfgs (F := F)) adm (pdats m) () cellOf_inj EP defs₀ 𝒱₀ LL lvl m ρ main
    (segs m (outs m) 𝒱₀ LL lvl EE () (pdats m) (R0 m) (R1 m))
    (fun c Q => by
      rewrite [main_chain c, Seg.run_eq_chain,
        show (segs m (outs m) 𝒱₀ LL lvl EE () (pdats m) (R0 m) (R1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => BI.emp) u₀ hu₀
    (T₀ := fun c => iprop(StableHlo.held (c : Thread nD τ) (Pipeline.ucRefs τ sig) (V0 m c) ∗ EE 0 c))
    (Tₙ := fun c => StableHlo.held (c : Thread nD τ) (Pipeline.ucRefs τ sig) (V7 m (outs m) c))
    (hch := fun c => ⟨.rfl, .rfl, .rfl, hpre0 m c, hpost0 m c, hpre1 m c, hpost1 m c, sep_mono .rfl .rfl⟩)
    (hinit := ?_) (QY := fun c s => s.mem ((c.tc : Thread nD τ).loc main_v10) = V7 m (outs m) c main_v10 ∧ s.mem ((c.tc : Thread nD τ).loc main_v9_0) = V7 m (outs m) c main_v9_0 ∧ s.mem ((c.tc : Thread nD τ).loc main_v11) = V7 m (outs m) c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UU nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        h (Proc.devRef .tc main_v9_0) (Finset.mem_filter.mpr ⟨StableHlo.devRef_mem_tcRefs main_v9_0, by decide⟩),
        h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c),
        (h (Proc.devRef .tc main_arg4) (Finset.mem_filter.mpr ⟨StableHlo.devRef_mem_tcRefs main_arg4, by decide⟩)).trans (V7_main_arg4 m (outs m) c),
        (h (Proc.devRef .tc main_arg5) (Finset.mem_filter.mpr ⟨StableHlo.devRef_mem_tcRefs main_arg5, by decide⟩)).trans (V7_main_arg5 m (outs m) c),
        (h (Proc.devRef .tc main_arg6) (Finset.mem_filter.mpr ⟨StableHlo.devRef_mem_tcRefs main_arg6, by decide⟩)).trans (V7_main_arg6 m (outs m) c),
        (h (Proc.devRef .tc main_arg7) (Finset.mem_filter.mpr ⟨StableHlo.devRef_mem_tcRefs main_arg7, by decide⟩)).trans (V7_main_arg7 m (outs m) c)⟩
    · iexact HSI

end Cert.Kernel.Own

end
-- ==== Proof.Run.KernelIdeal.Ring.lean ====
/-
  The first call's hand-made double buffer: the names of its pieces. The quantised output gradient stays in HBM; the
  body copies it in sixteen chunks of 128 rows into the two slots of a staging buffer, chunk `c` into slot `c % 2` on
  semaphore `c % 2`. Here: the chunks, slots and semaphores under one name each, the equations that restate the
  body's own slices by those names, and what "in flight", "home" and "free" say.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra: the pipeline library's, beside the counters the body's own copies ride on. -/
abbrev UU (nD : Nat) (τ : Topo) : Type := UR sig nD τ × Counters
local notation "𝕄" => MT nD τ sig Unit (Elt F) ℕ (UU nD τ) ℕ
/-- The pipeline library's part of it. -/
abbrev EP : Emb (UR sig nD τ) (MT nD τ sig Unit (Elt F) ℕ (UU nD τ) ℕ) := embL
/-- No loop of the program needs a variant. -/
abbrev 𝒱₀ : Variants := Variants.none

omit [FloatOps F] [Named F] in
theorem entails_of_eq {P Q : sProp 𝕄} (e : P = Q) : P ⊢ Q := e ▸ .rfl

/-! ## Chunks, slots, semaphores -/

/-- The quantised output gradient, whole, in HBM. -/
abbrev hbm : Memref sig .tc .hbm S2048x9216 .fp8e5m2 := Memref.whole main_v1
/-- The staging buffer of two slots, whole. -/
abbrev stg : Memref sig .tc .vmem S2x128x9216 .fp8e5m2 := Memref.whole cc0_scratch1

abbrev chOff (b : Fin 16) : Fin 2 → Nat := ![128 * b.val, 0]
theorem chOff_inb (b : Fin 16) : ∀ a, chOff b a + S128x9216.size a ≤ S2048x9216.size a := by
  have := b.isLt; intro a; fin_cases a
  · show 128 * b.val + 128 ≤ 2048; omega
  · show 0 + 9216 ≤ 9216; omega
abbrev slotOff (s : Fin 2) : Fin 3 → Nat := ![s.val, 0, 0]
theorem slotOff_inb (s : Fin 2) : ∀ a, slotOff s a + S1x128x9216.size a ≤ S2x128x9216.size a := by
  have := s.isLt; intro a; fin_cases a
  · show s.val + 1 ≤ 2; omega
  · show 0 + 128 ≤ 128; omega
  · show 0 + 9216 ≤ 9216; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b`: rows `128 b` to `128 b + 127`. -/
def chunk (b : Fin 16) : Memref sig .tc .hbm S128x9216 .fp8e5m2 :=
  hbm.slice (Rect.unit (s := S2048x9216) (chOff b) S128x9216.size (chOff_inb b)) (fun _ => rfl)
/-- Slot `s` of the staging buffer. -/
def slot (s : Fin 2) : Memref sig .tc .vmem S128x9216 .fp8e5m2 :=
  (stg.slice (Rect.unit (s := S2x128x9216) (slotOff s) S1x128x9216.size (slotOff_inb s)) (fun _ => rfl)).squeeze S128x9216 squeezes_S1x128x9216_S128x9216
/-- Slot `s`'s semaphore. -/
def csm (s : Fin 2) : DmaSems sig S_ := (cc0_scratch4.slice (Rect.unit (s := S2) (semOff s) S1.size (semOff_inb s))).squeeze S_ squeezes_S1_S_

instance (s : Fin 2) : ClosedOff (slotOff s) := ⟨slotOff s, rfl⟩
instance (b : Fin 16) : ClosedOff (chOff b) := ⟨chOff b, rfl⟩

theorem trips_eq : k0_t1_loop.trips = 16 := by decide

/-- The other slot than the trip's own. -/
theorem sl_succ_val (k : ℕ) : (Ring.sl 2 (k + 1)).val = 1 - k % 2 := by
  simp only [Ring.sl, Fin.ofNat]; omega
theorem sl_val (k : ℕ) : (Ring.sl 2 k).val = k % 2 := rfl

theorem off1_eq (k : Fin k0_t1_loop.trips) : k0_off1 k = semOff (Ring.sl 2 (k.val + 1)) := by
  rw [k0_off1_eq]; unfold semOff; rw [sl_succ_val]
theorem off2_eq (k : Fin k0_t1_loop.trips) : k0_off2 k = slotOff (Ring.sl 2 (k.val + 1)) := by
  rw [k0_off2_eq]; unfold slotOff; rw [sl_succ_val]
theorem off3_eq (k : Fin k0_t1_loop.trips) (hk : k.val + 1 < 16) : k0_off3 k = chOff (Ring.bk 16 (k.val + 1)) := by
  rw [k0_off3_eq]; unfold chOff; rw [Ring.bk_val hk]; rfl
theorem off4_eq (k : Fin k0_t1_loop.trips) : k0_off4 k = semOff (Ring.sl 2 k.val) := by
  rw [k0_off4_eq]; rfl
theorem off5_eq (k : Fin k0_t1_loop.trips) : k0_off5 k = slotOff (Ring.sl 2 k.val) := by
  rw [k0_off5_eq]; rfl
theorem off6_eq (k : Fin k0_t1_loop.trips) (hk : k.val < 16) : k0_off6 k = chOff (Ring.bk 16 k.val) := by
  rw [k0_off6_eq]; unfold chOff; rw [Ring.bk_val hk]

theorem csm_congr {off : Fin 1 → Nat} {s : Fin 2} (e : off = semOff s) (hh) :
    (cc0_scratch4.slice (Rect.unit (s := S2) off S1.size hh)).squeeze S_ squeezes_S1_S_ = csm s :=
  congrArg (fun A : DmaSems sig S1 => A.squeeze S_ squeezes_S1_S_) (SemArray.slice_unit_congr _ e _ _)
theorem slot_congr {off : Fin 3 → Nat} {s : Fin 2} (e : off = slotOff s) (hh hs) :
    (stg.slice (Rect.unit (s := S2x128x9216) off S1x128x9216.size hh) hs).squeeze S128x9216 squeezes_S1x128x9216_S128x9216 = slot s :=
  congrArg (fun M : Memref sig .tc .vmem S1x128x9216 .fp8e5m2 => M.squeeze S128x9216 squeezes_S1x128x9216_S128x9216) (Memref.slice_unit_congr _ e _ _ _ _)
theorem chunk_congr {off : Fin 2 → Nat} {b : Fin 16} (e : off = chOff b) (hh hs) :
    hbm.slice (Rect.unit (s := S2048x9216) off S128x9216.size hh) hs = chunk b :=
  Memref.slice_unit_congr _ e hh (chOff_inb b) hs (fun _ => rfl)

/-- Before the loop: semaphore, slot and chunk 0. -/
@[sl_canon] theorem semL0 (hh) : (cc0_scratch4.slice (Rect.unit (s := S2) ![0] S1.size hh)).squeeze S_ squeezes_S1_S_ = csm 0 := csm_congr (by decide) _
@[sl_canon] theorem slotL0 (hh hs) : (stg.slice (Rect.unit (s := S2x128x9216) ![0, 0, 0] S1x128x9216.size hh) hs).squeeze S128x9216 squeezes_S1x128x9216_S128x9216 = slot 0 := slot_congr (by decide) _ _
@[sl_canon] theorem chunkL0 (hh hs) : hbm.slice (Rect.unit (s := S2048x9216) ![0, 0] S128x9216.size hh) hs = chunk 0 := chunk_congr (by decide) _ _

/-- Trip `k`: chunk `k` waited for in slot `k % 2`, chunk `k + 1` sent into the other slot. -/
@[sl_canon] theorem semI (k : Fin k0_t1_loop.trips) (hh) :
    (cc0_scratch4.slice (Rect.unit (s := S2) (k0_off1 k) S1.size hh)).squeeze S_ squeezes_S1_S_ = csm (Ring.sl 2 (k.val + 1)) := csm_congr (off1_eq k) _
@[sl_canon] theorem semW (k : Fin k0_t1_loop.trips) (hh) :
    (cc0_scratch4.slice (Rect.unit (s := S2) (k0_off4 k) S1.size hh)).squeeze S_ squeezes_S1_S_ = csm (Ring.sl 2 k.val) := csm_congr (off4_eq k) _
@[sl_canon] theorem slotI (k : Fin k0_t1_loop.trips) (hh hs) :
    (stg.slice (Rect.unit (s := S2x128x9216) (k0_off2 k) S1x128x9216.size hh) hs).squeeze S128x9216 squeezes_S1x128x9216_S128x9216 = slot (Ring.sl 2 (k.val + 1)) := slot_congr (off2_eq k) _ _
@[sl_canon] theorem slotW (k : Fin k0_t1_loop.trips) (hh hs) :
    (stg.slice (Rect.unit (s := S2x128x9216) (k0_off5 k) S1x128x9216.size hh) hs).squeeze S128x9216 squeezes_S1x128x9216_S128x9216 = slot (Ring.sl 2 k.val) := slot_congr (off5_eq k) _ _
@[sl_canon] theorem chunkI (k : Fin k0_t1_loop.trips) (hk : k.val + 1 < 16) (hh hs) :
    hbm.slice (Rect.unit (s := S2048x9216) (k0_off3 k) S128x9216.size hh) hs = chunk (Ring.bk 16 (k.val + 1)) := chunk_congr (off3_eq k hk) _ _
@[sl_canon] theorem chunkW (k : Fin k0_t1_loop.trips) (hk : k.val < 16) (hh hs) :
    hbm.slice (Rect.unit (s := S2048x9216) (k0_off6 k) S128x9216.size hh) hs = chunk (Ring.bk 16 k.val) := chunk_congr (off6_eq k hk) _ _

/-! ## Home, free, in flight -/

section Pieces
variable (c : Dev nD) (XA : Buf (Elt F) (hbm.view.loc (c : Thread nD τ)))

abbrev cellP (s : Fin 2) : sProp 𝕄 := semVal ((c : Thread nD τ), SemLoc.dma (csm s).sem) 0
abbrev slotP (s : Fin 2) (f : Buf (Elt F) ((slot s).view.loc (c : Thread nD τ))) : sProp 𝕄 :=
  (slot s).view.loc (c : Thread nD τ) ↦[(slot s).view.set]{fullShare} f
/-- Chunk `b` HOME: held at the array's contents. -/
abbrev homeP (b : Fin 16) : sProp 𝕄 := (chunk b).view.loc (c : Thread nD τ) ↦[(chunk b).view.set]{fullShare} XA
/-- What chunk `b`'s copy leaves in slot `s` over prior contents `f`. -/
abbrev landed (s : Fin 2) (b : Fin 16) (f : Buf (Elt F) ((slot s).view.loc (c : Thread nD τ))) : Buf (Elt F) ((slot s).view.loc (c : Thread nD τ)) :=
  (slot s).view.writes (Elt F) f [⟨Rect.whole S128x9216, ReadAs.same.apply ((chunk b).view.read (Elt F) XA)⟩]
/-- The units a chunk's copy moves on its semaphore. -/
abbrev NN : ℕ := 36864
theorem amount_eq (s : Fin 2) : (slot s).view.amount (SemLoc.dma (csm s).sem) = NN := by rfl
/-- Slot `s` IN FLIGHT with chunk `b`, sent over `f`. -/
abbrev flightP (s : Fin 2) (b : Fin 16) (f : Buf (Elt F) ((slot s).view.loc (c : Thread nD τ))) : sProp 𝕄 :=
  Transfers.Flight countersEmb (c : Thread nD τ) (SemLoc.dma (csm s).sem) () NN iprop(slotP c s (landed c XA s b f) ∗ homeP c XA b)

end Pieces

end Cert.KernelIdeal.Own

end
-- ==== Proof.Run.KernelIdeal.Heads.lean ====
module

public import proofs.«01_k».proof.Proof.Run.KernelIdeal.Ring
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The dequantised output gradient: the codes, times the block scale of their row, times the weight's column scale. -/
def DQ (x2 : S2048x128.Idx → F .f32) (x3 : S1x9216.Idx → F .f32) (xa : S2048x9216.Idx → F .fp8e5m2) : FVec F S2048x9216 .bf16 :=
  mulf (mulf (extf .bf16 xa bitsLt_fp8e5m2_bf16)
      (truncf .bf16 (fun y : S2048x9216.Idx => x2 (ix2 (y 0) ⟨(y 1).val / 128, by have h : (y 1).val < 9216 := (y 1).isLt; omega⟩)) bitsLt_bf16_f32))
    (truncf .bf16 (fun y : S2048x9216.Idx => x3 (ix2 0 (y 1))) bitsLt_bf16_f32)

/-- One head's payload, as every one of the 72 stores spells it: the head's column of the scales, the head's
    stretch of the weight scales, the head's stretch of the codes. -/
def headPay (h : ℕ) (hs : S128x128.Slices ![0, h] S128x1) (S : Vec F S128x128 .f32) (w : Vec F S1x128 .f32) (d : Vec F S1x128x128 .fp8e5m2) : FVec F S128x128 .bf16 :=
  shapeCast S128x128 (mulf (mulf (extf .bf16 (shapeCast S128x128 d shapeCasts_S1x128x128_S128x128) bitsLt_fp8e5m2_bf16)
      (truncf .bf16 (broadcastTo S128x128 (shapeCast S128x1 (extractStridedSlice S128x1 ![0, h] (shapeCast S128x128 S shapeCasts_S128x128_S128x128) hs) shapeCasts_S128x1_S128x1) broadcasts_S128x1_S128x128) bitsLt_bf16_f32))
    (broadcastTo S128x128 (truncf .bf16 (shapeCast S1x128 w shapeCasts_S1x128_S1x128) bitsLt_bf16_f32) broadcasts_S1x128_S128x128)) shapeCasts_S128x128_S128x128

theorem headPay_apply (h : ℕ) (hh : h < 72) (hs) (S : Vec F S128x128 .f32) (w : Vec F S1x128 .f32) (d : Vec F S1x128x128 .fp8e5m2) (r l : Fin 128) :
    headPay h hs S w d (ix2 r l) =
      mulf (mulf (extf .bf16 (fun x : S128x128.Idx => d (ix3 0 (x 0) (x 1))) bitsLt_fp8e5m2_bf16) (truncf .bf16 (fun x : S128x128.Idx => S (ix2 (x 0) ⟨h, by omega⟩)) bitsLt_bf16_f32))
        (truncf .bf16 (fun x : S128x128.Idx => w (ix2 0 (x 1))) bitsLt_bf16_f32) (ix2 r l) := by
  unfold headPay
  pointwise

/-! ## The staged chunk -/

/-- Where the slot's row `r`, column `l` lies in the staging buffer; -/
theorem slot_idx (s : Fin 2) (r : Fin 128) (l : Fin 9216) :
    (Rect.unit (s := S2x128x9216) (slotOff s) S1x128x9216.size (slotOff_inb s)).emb (Shape.reshapeEquiv (squeezes_S1x128x9216_S128x9216).numel_eq (ix2 r l)) = (ix3 s r l : S2x128x9216.Idx) := by
  have e : Shape.reshapeEquiv (squeezes_S1x128x9216_S128x9216).numel_eq (ix2 r l : S128x9216.Idx) = (ix3 (0 : Fin 1) r l : S1x128x9216.Idx) :=
    Shape.reshapeEquiv_eq_of_rowMajor _ (by
      rw [Shape.rowMajor_val_three, Shape.rowMajor_val_two]
      show ((0 : ℕ) * 128 + r.val) * 9216 + l.val = r.val * 9216 + l.val
      omega)
  refine (congrArg (Rect.unit (s := S2x128x9216) (slotOff s) S1x128x9216.size (slotOff_inb s)).emb e).trans ?_
  funext a
  refine Fin.ext ?_
  rw [Rect.emb_apply]
  fin_cases a
  · show s.val + 1 * 0 = s.val; omega
  · show 0 + 1 * r.val = r.val; omega
  · show 0 + 1 * l.val = l.val; omega

/-- and the chunk's in the array. -/
theorem chunk_idx (b : Fin 16) (r : Fin 128) (l : Fin 9216) :
    (Rect.unit (s := S2048x9216) (chOff b) S128x9216.size (chOff_inb b)).emb (ix2 r l) = (ix2 ⟨128 * b.val + r.val, by omega⟩ l : S2048x9216.Idx) := by
  funext a
  refine Fin.ext ?_
  rw [Rect.emb_apply]
  fin_cases a
  · show 128 * b.val + 1 * r.val = 128 * b.val + r.val; omega
  · show 0 + 1 * l.val = l.val; omega

theorem whole_idx (x : S128x9216.Idx) : (Rect.whole S128x9216).emb x = x := by
  funext a; refine Fin.ext ?_; rw [Rect.emb_apply]; show 0 + 1 * _ = _; omega

omit [FloatOps F] [Named F] in
theorem landed_slot (c : Dev nD) (XA : Buf (Elt F) (hbm.view.loc (c : Thread nD τ))) (s : Fin 2) (b : Fin 16) (f) (x : S128x9216.Idx) :
    (slot s).view.read (Elt F) (landed c XA s b f) x = (chunk b).view.read (Elt F) XA x := by
  have h := View.read_writes_cons_emb (slot s).view f (Rect.whole S128x9216) (ReadAs.same.apply ((chunk b).view.read (Elt F) XA)) [] x
  exact (congrArg ((slot s).view.read (Elt F) (landed c XA s b f)) (whole_idx x)).symm.trans h

omit [FloatOps F] [Named F] in
/-- A landed chunk read through the staging buffer: slot `s`, row `r`, column `l` holds the array's row `128 b + r`. -/
theorem landed_read (c : Dev nD) (XA : Buf (Elt F) (hbm.view.loc (c : Thread nD τ))) (s : Fin 2) (b : Fin 16) (f) (r : Fin 128) (l : Fin 9216) :
    stg.view.read (Elt F) (landed c XA s b f) (ix3 s r l) = hbm.view.read (Elt F) XA (ix2 ⟨128 * b.val + r.val, by omega⟩ l) :=
  (congrArg (stg.view.read (Elt F) (landed c XA s b f)) (slot_idx s r l)).symm.trans
    ((landed_slot c XA s b f (ix2 r l)).trans (congrArg (hbm.view.read (Elt F) XA) (chunk_idx b r l)))

section Heads

variable (c : Dev nD) (XA : Buf (Elt F) (hbm.view.loc (c : Thread nD τ)))
  (arg2 : Memref sig .tc .vmem S2048x128 .f32) (arg3 : Memref sig .tc .vmem S1x9216 .f32)
  (X2 : Buf (Elt F) (arg2.view.loc (c : Thread nD τ))) (X3 : Buf (Elt F) (arg3.view.loc (c : Thread nD τ)))

/-- `DQ` of the three buffers' contents. -/
abbrev DQv : FVec F S2048x9216 .bf16 := DQ (arg2.view.read (Elt F) X2) (arg3.view.read (Elt F) X3) (hbm.view.read (Elt F) XA)

/-- A landed chunk, as contents of the whole staging buffer. -/
abbrev landedS (s : Fin 2) (b : Fin 16) (f : stg.view.ty.Contents (Elt F)) : stg.view.ty.Contents (Elt F) := landed c XA s b f

/-- The head's payload over any three vectors that read as the three buffers do there. -/
theorem head_of (k : ℕ) (hk : k < 16) (h : ℕ) (hh : h < 72) (hs) (x2 : S2048x128.Idx → F .f32) (x3 : S1x9216.Idx → F .f32) (xa : S2048x9216.Idx → F .fp8e5m2)
    (S : Vec F S128x128 .f32) (w : Vec F S1x128 .f32) (d : Vec F S1x128x128 .fp8e5m2)
    (hS : ∀ r : Fin 128, S (ix2 r ⟨h, by omega⟩) = x2 (ix2 ⟨128 * k + r.val, by omega⟩ ⟨h, by omega⟩))
    (hw : ∀ l : Fin 128, w (ix2 0 l) = x3 (ix2 0 ⟨128 * h + l.val, by omega⟩))
    (hd : ∀ r l : Fin 128, d (ix3 0 r l) = xa (ix2 ⟨128 * k + r.val, by omega⟩ ⟨128 * h + l.val, by omega⟩)) (r l : Fin 128) :
    headPay h hs S w d (ix2 r l) = DQ x2 x3 xa (ix2 ⟨128 * k + r.val, by omega⟩ ⟨128 * h + l.val, by omega⟩) := by
  rw [headPay_apply h hh]
  unfold DQ
  pointwise
  rw [hS, hw, hd]
  have hq : (⟨(128 * h + l.val) / 128, by omega⟩ : Fin 128) = ⟨h, by omega⟩ := Fin.ext (by show (128 * h + l.val) / 128 = h; omega)
  rw [hq]

theorem scales_read (k : ℕ) (hk : k < 16) {o7 : Fin 2 → ℕ} (e7 : o7 = ![128 * k, 0]) (i7 : ∀ a, o7 a + S128x128.size a ≤ S2048x128.size a) (r h : Fin 128) :
    arg2.view.readAt (Elt F) (Rect.unit (s := S2048x128) o7 S128x128.size i7).toLoadRect X2 (ix2 r h) = arg2.view.read (Elt F) X2 (ix2 ⟨128 * k + r.val, by omega⟩ h) := by
  subst e7
  rw [View.readAt_apply]; congr 1; funext a; refine Fin.ext ?_; fin_cases a
  · show 128 * k + 1 * r.val = 128 * k + r.val; omega
  · show 0 + 1 * h.val = h.val; omega

theorem weights_read (h : ℕ) (hh : h < 72) {ow : Fin 2 → ℕ} (ew : ow = ![0, 128 * h]) (iw : ∀ a, ow a + S1x128.size a ≤ S1x9216.size a) (l : Fin 128) :
    arg3.view.readAt (Elt F) (Rect.unit (s := S1x9216) ow S1x128.size iw).toLoadRect X3 (ix2 0 l) = arg3.view.read (Elt F) X3 (ix2 0 ⟨128 * h + l.val, by omega⟩) := by
  subst ew
  rw [View.readAt_apply]; congr 1; funext a; refine Fin.ext ?_; fin_cases a
  · show 0 + 1 * 0 = 0; omega
  · show 128 * h + 1 * l.val = 128 * h + l.val; omega

theorem codes_read (k : ℕ) (hk : k < 16) (h : ℕ) (hh : h < 72) (f) {o8 : Fin 3 → ℕ} (e8 : o8 = ![k % 2, 0, 128 * h]) (i8 : ∀ a, o8 a + S1x128x128.size a ≤ S2x128x9216.size a) (r l : Fin 128) :
    stg.view.readAt (Elt F) (Rect.unit (s := S2x128x9216) o8 S1x128x128.size i8).toLoadRect (landedS c XA (Ring.sl 2 k) (Ring.bk 16 k) f) (ix3 0 r l)
      = hbm.view.read (Elt F) XA (ix2 ⟨128 * k + r.val, by omega⟩ ⟨128 * h + l.val, by omega⟩) := by
  subst e8
  have e : (Rect.unit (s := S2x128x9216) ![k % 2, 0, 128 * h] S1x128x128.size i8).toLoadRect.idx (ix3 0 r l) = ix3 (Ring.sl 2 k) r ⟨128 * h + l.val, by omega⟩ := by
    funext a; refine Fin.ext ?_; fin_cases a
    · show k % 2 + 1 * 0 = k % 2; omega
    · show 0 + 1 * r.val = r.val; omega
    · show 128 * h + 1 * l.val = 128 * h + l.val; omega
  refine (congrArg (stg.view.read (Elt F) (landedS c XA (Ring.sl 2 k) (Ring.bk 16 k) f)) e).trans ?_
  refine (landed_read c XA (Ring.sl 2 k) (Ring.bk 16 k) f r ⟨128 * h + l.val, by omega⟩).trans ?_
  congr 2
  refine Fin.ext ?_
  show 128 * (Ring.bk 16 k).val + r.val = 128 * k + r.val
  rw [Ring.bk_val hk]

/-- One head of chunk `k`: its payload at `(r, l)` is `DQ` at row `128 k + r`, column `128 h + l`. -/
theorem head_ok (k : ℕ) (hk : k < 16) (h : ℕ) (hh : h < 72) (hs) (f)
    {o7 : Fin 2 → ℕ} (e7 : o7 = ![128 * k, 0]) (i7 : ∀ a, o7 a + S128x128.size a ≤ S2048x128.size a)
    {ow : Fin 2 → ℕ} (ew : ow = ![0, 128 * h]) (iw : ∀ a, ow a + S1x128.size a ≤ S1x9216.size a)
    {o8 : Fin 3 → ℕ} (e8 : o8 = ![k % 2, 0, 128 * h]) (i8 : ∀ a, o8 a + S1x128x128.size a ≤ S2x128x9216.size a)
    {o9 : Fin 2 → ℕ} (e9 : o9 = ![128 * k, 128 * h]) (i9 : ∀ a, o9 a + S128x128.size a ≤ S2048x9216.size a)
    (x : S128x128.Idx) :
    headPay h hs (arg2.view.readAt (Elt F) (Rect.unit (s := S2048x128) o7 S128x128.size i7).toLoadRect X2)
        (arg3.view.readAt (Elt F) (Rect.unit (s := S1x9216) ow S1x128.size iw).toLoadRect X3)
        (stg.view.readAt (Elt F) (Rect.unit (s := S2x128x9216) o8 S1x128x128.size i8).toLoadRect (landedS c XA (Ring.sl 2 k) (Ring.bk 16 k) f)) x
      = DQv c XA arg2 arg3 X2 X3 ((Rect.unit (s := S2048x9216) o9 S128x128.size i9).emb x) := by
  subst e9
  obtain ⟨r, l, rfl⟩ : ∃ (r l : Fin 128), x = ix2 r l := ⟨x 0, x 1, by rw [← eq_ix2 x]⟩
  have hy : (Rect.unit (s := S2048x9216) ![128 * k, 128 * h] S128x128.size i9).emb (ix2 r l) = ix2 ⟨128 * k + r.val, by omega⟩ ⟨128 * h + l.val, by omega⟩ := by
    funext a; refine Fin.ext ?_; rw [Rect.emb_apply]; fin_cases a
    · show 128 * k + 1 * r.val = 128 * k + r.val; omega
    · show 128 * h + 1 * l.val = 128 * h + l.val; omega
  refine Eq.trans ?_ (congrArg (DQv c XA arg2 arg3 X2 X3) hy.symm)
  exact head_of k hk h hh hs _ _ _ _ _ _ (fun r => scales_read c arg2 X2 k hk e7 i7 r ⟨h, by omega⟩) (fun l => weights_read c arg3 X3 h hh ew iw l)
    (fun r l => codes_read c XA k hk h hh f e8 i8 r l) r l

theorem head_slices (h : ℕ) (hh : h < 72) : S128x128.Slices ![0, h] S128x1 :=
  ⟨rfl, fun a => by
    fin_cases a
    · show 0 + 128 ≤ 128; omega
    · show h + 1 ≤ 128; omega⟩

/-- The pieces `L` hold `DQ` and fill columns below `128 n` of rows `128 k` to `128 k + 127`. -/
def HeadsOK (k n : ℕ) (L : List (View.Piece (Elt F) S2048x9216 .bf16)) : Prop :=
  (∀ p ∈ L, ∀ x, p.2 x = DQv c XA arg2 arg3 X2 X3 (p.1.emb x) ∧ 128 * k ≤ (p.1.emb x 0).val) ∧
    ∀ y : S2048x9216.Idx, 128 * k ≤ (y 0).val → (y 0).val < 128 * k + 128 → (y 1).val < 128 * n → ∃ p ∈ L, y ∈ p.1.set

theorem heads_nil (k : ℕ) : HeadsOK c XA arg2 arg3 X2 X3 k 0 [] :=
  ⟨fun p hp => absurd hp List.not_mem_nil, fun y _ _ h => absurd h (by omega)⟩

theorem heads_cons (k : ℕ) (hk : k < 16) (n : ℕ) (hn : n < 72) (f)
    {o7 : Fin 2 → ℕ} (e7 : o7 = ![128 * k, 0]) (i7 : ∀ a, o7 a + S128x128.size a ≤ S2048x128.size a)
    {ow : Fin 2 → ℕ} (ew : ow = ![0, 128 * n]) (iw : ∀ a, ow a + S1x128.size a ≤ S1x9216.size a)
    {o8 : Fin 3 → ℕ} [C8 : ClosedOff o8] (e8 : C8.form = ![k % 2, 0, 128 * n]) (i8 : ∀ a, o8 a + S1x128x128.size a ≤ S2x128x9216.size a)
    {o9 : Fin 2 → ℕ} [C9 : ClosedOff o9] (e9 : C9.form = ![128 * k, 128 * n]) (i9 : ∀ a, o9 a + S128x128.size a ≤ S2048x9216.size a)
    {L : List (View.Piece (Elt F) S2048x9216 .bf16)} (hL : HeadsOK c XA arg2 arg3 X2 X3 k n L) :
    HeadsOK c XA arg2 arg3 X2 X3 k (n + 1) (⟨Rect.unit (s := S2048x9216) o9 S128x128.size i9,
      headPay n (head_slices n hn) (arg2.view.readAt (Elt F) (Rect.unit (s := S2048x128) o7 S128x128.size i7).toLoadRect X2)
        (arg3.view.readAt (Elt F) (Rect.unit (s := S1x9216) ow S1x128.size iw).toLoadRect X3)
        (stg.view.readAt (Elt F) (Rect.unit (s := S2x128x9216) o8 S1x128x128.size i8).toLoadRect (landedS c XA (Ring.sl 2 k) (Ring.bk 16 k) f))⟩ :: L) := by
  have f9 := C9.eq.trans e9
  refine ⟨fun p hp => ?_, fun y h0 h1 h2 => ?_⟩
  · rcases List.mem_cons.mp hp with rfl | hp
    · refine fun x => ⟨head_ok c XA arg2 arg3 X2 X3 k hk n hn (head_slices n hn) f e7 i7 ew iw (C8.eq.trans e8) i8 f9 i9 x, ?_⟩
      rw [Rect.emb_apply]
      show 128 * k ≤ o9 0 + 1 * _
      have f0 : o9 0 = 128 * k := congrFun f9 0
      omega
    · exact hL.1 p hp
  · by_cases hy : (y 1).val < 128 * n
    · obtain ⟨p, hp, hm⟩ := hL.2 y h0 h1 hy
      exact ⟨p, List.mem_cons_of_mem _ hp, hm⟩
    · refine ⟨_, List.mem_cons_self, (Rect.mem_set_unit (inb := i9)).2 ?_⟩
      have f0 : o9 0 = 128 * k := congrFun f9 0
      have f1 : o9 1 = 128 * n := congrFun f9 1
      intro a; fin_cases a
      · show o9 0 ≤ (y 0).val ∧ (y 0).val < o9 0 + 128; omega
      · show o9 1 ≤ (y 1).val ∧ (y 1).val < o9 1 + 128; omega

/-- A trip's writes extend the filled rows by one chunk. -/
theorem heads_done (k : ℕ) {L : List (View.Piece (Elt F) S2048x9216 .bf16)} (hL : HeadsOK c XA arg2 arg3 X2 X3 k 72 L)
    (fd : Buf (Elt F) ((Memref.whole (sig := sig) cc0_scratch0).view.loc (c : Thread nD τ)))
    (hd : ∀ y : S2048x9216.Idx, (y 0).val < 128 * k → (Memref.whole (sig := sig) cc0_scratch0).view.read (Elt F) fd y = DQv c XA arg2 arg3 X2 X3 y)
    (y : S2048x9216.Idx) (hy : (y 0).val < 128 * (k + 1)) :
    (Memref.whole (sig := sig) cc0_scratch0).view.read (Elt F) ((Memref.whole (sig := sig) cc0_scratch0).view.writes (Elt F) fd L) y = DQv c XA arg2 arg3 X2 X3 y := by
  by_cases h : 128 * k ≤ (y 0).val
  · exact View.read_writes_apply_of_pieces _ _ _ L (fun p hp x => (hL.1 p hp x).1) y (hL.2 y h (by omega) (by have h : (y 1).val < 9216 := (y 1).isLt; omega))
  · rw [View.read_writes_apply_of_forall_not_mem _ _ y L fun p hp hm => ?_]
    · exact hd y (by omega)
    · obtain ⟨x, rfl⟩ := p.1.exists_idx_of_mem hm
      exact h (hL.1 p hp x).2

end Heads

end Cert.KernelIdeal.Own
end
-- ==== Proof.Run.KernelIdeal.TripDefs.lean ====
module

public import proofs.«01_k».proof.Proof.Run.KernelIdeal.Heads

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

theorem cond2_iff : ∀ k : Fin k0_t1_loop.trips, k0_cond2 k = 1#1 ↔ k.val + 1 < 16 := by decide +kernel

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

/-- The dequantised output gradient's scratch, whole. -/
abbrev dqm : Memref sig .tc .vmem S2048x9216 .bf16 := Memref.whole cc0_scratch0
abbrev xsm : Memref sig .tc .vmem S2048x128 .f32 := Memref.whole cc0_scratch2
abbrev rsm : Memref sig .tc .vmem S2048x128 .f32 := Memref.whole cc0_scratch3

abbrev trip (k : Fin k0_t1_loop.trips) : Prog (TpuEff nD τ sig (Elt F) Λ₀ .tc) Unit :=
  k0_t1_body (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 h1 k ()

abbrev P2 (X2 : Buf (Elt F) (arg2.view.loc (c : Thread nD τ))) : sProp 𝕄 := arg2.view.loc (c : Thread nD τ) ↦[arg2.view.set]{fullShare} X2
abbrev P3 (X3 : Buf (Elt F) (arg3.view.loc (c : Thread nD τ))) : sProp 𝕄 := arg3.view.loc (c : Thread nD τ) ↦[arg3.view.set]{fullShare} X3
abbrev dqP (f : Buf (Elt F) (dqm.view.loc (c : Thread nD τ))) : sProp 𝕄 := dqm.view.loc (c : Thread nD τ) ↦[dqm.view.set]{fullShare} f

end Trip

end Cert.KernelIdeal.Own

end
-- ==== Proof.Run.KernelIdeal.Mm.lean ====
module

public import proofs.«01_k».proof.Proof.Run.KernelIdeal.TripDefs

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Mm

/-- The product with one block of the weight codes, computed 512 rows at a time. -/
def MM (D : FVec F S2048x9216 .bf16) (w : Vec F S256x9216 .fp8e4m3) : FVec F S2048x256 .f32 := fun y =>
  k0_pay127 (fun z : S512x9216.Idx => D (ix2 ⟨512 * ((y 0).val / 512) + (z 0).val, by
    have h : (y 0).val < 2048 := (y 0).isLt; have h' : (z 0).val < 512 := (z 0).isLt; omega⟩ (z 1))) w
    (ix2 ⟨(y 0).val % 512, Nat.mod_lt _ (by decide)⟩ (y 1))

variable (c : Dev nD)
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)

theorem mm_done (X4 : Buf (Elt F) (arg4.view.loc (c : Thread nD τ))) (fd : Buf (Elt F) (dqm.view.loc (c : Thread nD τ))) (f : Buf (Elt F) (arg9.view.loc (c : Thread nD τ)))
    (k : ℕ) (hk : k < 4) {o : Fin 2 → ℕ} [C : ClosedOff o] (e : C.form = ![512 * k, 0]) (i1 : ∀ a, o a + S512x256.size a ≤ S2048x256.size a)
    {p : Fin 2 → ℕ} [C' : ClosedOff p] (e' : C'.form = ![512 * k, 0]) (i2 : ∀ a, p a + S512x9216.size a ≤ S2048x9216.size a)
    (i3 : ∀ a, (![0, 0] : Fin 2 → ℕ) a + S256x9216.size a ≤ S256x9216.size a)
    (hf : ∀ y : S2048x256.Idx, (y 0).val < 512 * k → arg9.view.read (Elt F) f y = MM (dqm.view.read (Elt F) fd) (arg4.view.read (Elt F) X4) y)
    (y : S2048x256.Idx) (hy : (y 0).val < 512 * (k + 1)) :
    arg9.view.read (Elt F) (arg9.view.writes (Elt F) f [⟨Rect.unit (s := S2048x256) o S512x256.size i1,
      k0_pay127 (dqm.view.readAt (Elt F) (Rect.unit (s := S2048x9216) p S512x9216.size i2).toLoadRect fd)
        (arg4.view.readAt (Elt F) (Rect.unit (s := S256x9216) ![0, 0] S256x9216.size i3).toLoadRect X4)⟩]) y
      = MM (dqm.view.read (Elt F) fd) (arg4.view.read (Elt F) X4) y := by
  have f9 := C.eq.trans e
  have f8 := C'.eq.trans e'
  have f0 : o 0 = 512 * k := congrFun f9 0
  have f1 : o 1 = 0 := congrFun f9 1
  have g0 : p 0 = 512 * k := congrFun f8 0
  have g1 : p 1 = 0 := congrFun f8 1
  by_cases h : 512 * k ≤ (y 0).val
  · refine View.read_writes_apply_of_pieces _ _ _ _ (fun q hq x => ?_) y ⟨_, List.mem_cons_self, (Rect.mem_set_unit (inb := i1)).2 ?_⟩
    · obtain rfl := List.mem_singleton.mp hq
      have hx : (x 0).val < 512 := (x 0).isLt
      have e0 : ((Rect.unit (s := S2048x256) o S512x256.size i1).emb x 0).val = 512 * k + (x 0).val := by
        rw [Rect.emb_apply]; show o 0 + 1 * (x 0).val = _; omega
      have e1 : ((Rect.unit (s := S2048x256) o S512x256.size i1).emb x 1).val = (x 1).val := by
        rw [Rect.emb_apply]; show o 1 + 1 * (x 1).val = _; omega
      show k0_pay127 _ _ x = MM _ _ _
      unfold MM
      refine congr (congr (congrArg k0_pay127 ?_) ?_) ?_
      · funext z
        rw [View.readAt_apply]; congr 1; funext a; refine Fin.ext ?_; fin_cases a
        · show p 0 + 1 * (z 0).val = 512 * (_ / 512) + (z 0).val; rw [e0]; omega
        · show p 1 + 1 * (z 1).val = (z 1).val; omega
      · funext z
        rw [View.readAt_apply]; congr 1; funext a; refine Fin.ext ?_; fin_cases a
        · show 0 + 1 * (z 0).val = (z 0).val; omega
        · show 0 + 1 * (z 1).val = (z 1).val; omega
      · funext a; refine Fin.ext ?_; fin_cases a
        · show (x 0).val = _ % 512; rw [e0]; omega
        · exact e1.symm
    · have h1 : (y 1).val < 256 := (y 1).isLt
      intro a; fin_cases a
      · show o 0 ≤ (y 0).val ∧ (y 0).val < o 0 + 512; omega
      · show o 1 ≤ (y 1).val ∧ (y 1).val < o 1 + 256; omega
  · rw [View.read_writes_apply_of_forall_not_mem _ _ y _ fun q hq hm => ?_]
    · exact hf y (by omega)
    · obtain rfl := List.mem_singleton.mp hq
      have := (Rect.mem_set_unit (inb := i1)).1 hm 0
      have t : o 0 ≤ (y 0).val := this.1
      omega

/-- The second loop's invariant: rows below `512 k` hold the product. -/
def inv2 (X4 : Buf (Elt F) (arg4.view.loc (c : Thread nD τ))) (fd : Buf (Elt F) (dqm.view.loc (c : Thread nD τ))) (k : ℕ) : sProp 𝕄 :=
  iprop((arg4.view.loc (c : Thread nD τ) ↦[arg4.view.set]{fullShare} X4) ∗ dqP c fd ∗
    ∃ f, (arg9.view.loc (c : Thread nD τ) ↦[arg9.view.set]{fullShare} f) ∗
      ⌜∀ y : S2048x256.Idx, (y 0).val < 512 * k → arg9.view.read (Elt F) f y = MM (dqm.view.read (Elt F) fd) (arg4.view.read (Elt F) X4) y⌝)

set_option warn.classDefReducibility false in
/-- The second loop. -/
def loop2 (X4 : Buf (Elt F) (arg4.view.loc (c : Thread nD τ))) (fd : Buf (Elt F) (dqm.view.loc (c : Thread nD τ))) :
    LoopInvTy_k0_t2 (F := F) Unit ℕ (UU nD τ) ℕ 𝒱₀ c none Set.univ i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 where
  inv k _ := inv2 c arg4 arg9 X4 fd k
  step k _ := by
    have hk : k.val < 4 := Nat.lt_of_lt_of_le k.isLt k0_t2_abs.2.1
    unfold inv2 k0_t2_body
    iintro ⟨H4, HD, %f, H9, %hf⟩
    sl_exec
    sl_step
    isplitl [H4]; · iexact H4
    isplitl [HD]; · iexact HD
    iexists _
    isplitl [H9]; · iexact H9
    ipureintro
    intro y hy
    exact mm_done c arg4 arg9 X4 fd f k.val hk rfl _ rfl _ _ hf y hy

theorem loop2_entry (X4 : Buf (Elt F) (arg4.view.loc (c : Thread nD τ))) (fd : Buf (Elt F) (dqm.view.loc (c : Thread nD τ))) (f : Buf (Elt F) (arg9.view.loc (c : Thread nD τ))) (a : Unit) :
    iprop((arg4.view.loc (c : Thread nD τ) ↦[arg4.view.set]{fullShare} X4) ∗ dqP c fd ∗ (arg9.view.loc (c : Thread nD τ) ↦[arg9.view.set]{fullShare} f))
      ⊢ (loop2 c i arg2 harg2 arg3 harg3 arg4 harg4 arg5 harg5 arg6 harg6 arg7 harg7 arg8 harg8 arg9 harg9 arg10 harg10 arg11 harg11 arg12 harg12 X4 fd).inv 0 a := by
  refine .trans ?_ (entails_of_eq (show inv2 c arg4 arg9 X4 fd 0 = _ from rfl))
  unfold inv2
  iintro ⟨H4, HD, H9⟩
  isplitl [H4]; · iexact H4
  isplitl [HD]; · iexact HD
  iexists _
  isplitl [H9]; · iexact H9
  ipureintro
  intro y hy; omega

theorem loop2_exit (X4 : Buf (Elt F) (arg4.view.loc (c : Thread nD τ))) (fd : Buf (Elt F) (dqm.view.loc (c : Thread nD τ))) (a : Unit) :
    (loop2 c i arg2 harg2 arg3 harg3 arg4 harg4 arg5 harg5 arg6 harg6 arg7 harg7 arg8 harg8 arg9 harg9 arg10 harg10 arg11 harg11 arg12 harg12 X4 fd).inv (Scf.trips k0_t2_loop.lb k0_t2_loop.ub k0_t2_loop.st) a
      ⊢ iprop((arg4.view.loc (c : Thread nD τ) ↦[arg4.view.set]{fullShare} X4) ∗ dqP c fd ∗
        ∃ f, (arg9.view.loc (c : Thread nD τ) ↦[arg9.view.set]{fullShare} f) ∗ ⌜arg9.view.read (Elt F) f = MM (dqm.view.read (Elt F) fd) (arg4.view.read (Elt F) X4)⌝) := by
  have ht : Scf.trips k0_t2_loop.lb k0_t2_loop.ub k0_t2_loop.st = 4 := by decide +kernel
  rw [ht]
  refine (entails_of_eq (show _ = inv2 c arg4 arg9 X4 fd 4 from rfl)).trans ?_
  unfold inv2
  iintro ⟨H4, HD, %f, H9, %hf⟩
  isplitl [H4]; · iexact H4
  isplitl [HD]; · iexact HD
  iexists f
  isplitl [H9]; · iexact H9
  ipureintro
  exact funext fun y => hf y (y 0).isLt

end Mm

end Cert.KernelIdeal.Own

end
-- ==== Proof.Run.KernelIdeal.Blocks.lean ====
module

public import proofs.«01_k».proof.Proof.Run.KernelIdeal.Mm

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Blocks

theorem inb_blk (b : Fin 8) : ∀ a, (![256 * b.val, 0] : Fin 2 → ℕ) a + S256x128.size a ≤ S2048x128.size a := by
  intro a; fin_cases a
  · show 256 * b.val + 256 ≤ 2048; omega
  · show 0 + 128 ≤ 128; omega
theorem inb_hblk (b : Fin 8) (h : Fin 2) : ∀ a, (![256 * b.val, 128 * h.val] : Fin 2 → ℕ) a + S256x128.size a ≤ S2048x256.size a := by
  intro a; fin_cases a
  · show 256 * b.val + 256 ≤ 2048; omega
  · show 128 * h.val + 128 ≤ 256; omega
theorem inb_gblk (h : Fin 2) : ∀ a, (![0, 128 * h.val] : Fin 2 → ℕ) a + S1x128.size a ≤ S1x256.size a := by
  intro a; fin_cases a
  · show 0 + 1 ≤ 1; omega
  · show 128 * h.val + 128 ≤ 256; omega

/-- Rows `256 b …` of a column buffer; -/
def blk (v : FVec F S2048x128 .f32) (b : Fin 8) : FVec F S256x128 .f32 := fun z =>
  v ((Rect.unit (s := S2048x128) ![256 * b.val, 0] S256x128.size (inb_blk b)).toLoadRect.idx z)
/-- one half of those rows of a block of two halves; -/
def hblk {e : EltTy} (v : Vec F S2048x256 e) (b : Fin 8) (h : Fin 2) : Vec F S256x128 e := fun z =>
  v ((Rect.unit (s := S2048x256) ![256 * b.val, 128 * h.val] S256x128.size (inb_hblk b h)).toLoadRect.idx z)
/-- one half of the gains. -/
def gblk (g : FVec F S1x256 .f32) (h : Fin 2) : FVec F S1x128 .f32 := fun z =>
  g ((Rect.unit (s := S1x256) ![0, 128 * h.val] S1x128.size (inb_gblk h)).toLoadRect.idx z)

variable (xs rs : FVec F S2048x128 .f32) (g : FVec F S1x256 .f32) (x : Vec F S2048x256 .fp8e4m3) (d : FVec F S2048x256 .f32) (gn : FVec F S2048x128 .f32)

def xhtPay (b : Fin 8) (h : Fin 2) : FVec F S128x256 .bf16 := k0_pay131 (blk xs b) (blk rs b) (gblk g h) (hblk x b h)
def gnPay (b : Fin 8) : FVec F S256x128 .f32 :=
  k0_pay139 (blk xs b) (blk rs b) (k0_pay134 (blk xs b) (blk rs b) (blk gn b) (gblk g 0) (hblk x b 0) (hblk d b 0)) (k0_pay135 (gblk g 1)) (hblk x b 1) (hblk d b 1)
def dgStep (acc : FVec F S1x256 .f32) (b : Fin 8) : FVec F S1x256 .f32 :=
  k0_pay140 acc (blk xs b) (blk rs b) (k0_pay133 (blk xs b) (blk rs b) (hblk x b 0) (hblk d b 0)) (hblk x b 1) (hblk d b 1)

/-- The transposed normalised block; -/
def XHT : FVec F S256x2048 .bf16 := fun y =>
  xhtPay xs rs g x ⟨(y 1).val / 256, by have h : (y 1).val < 2048 := (y 1).isLt; omega⟩ ⟨(y 0).val / 128, by have h : (y 0).val < 256 := (y 0).isLt; omega⟩
    (ix2 ⟨(y 0).val % 128, Nat.mod_lt _ (by decide)⟩ ⟨(y 1).val % 256, Nat.mod_lt _ (by decide)⟩)
/-- the row sums with this block's terms added; -/
def GN : FVec F S2048x128 .f32 := fun y =>
  gnPay xs rs g x d gn ⟨(y 0).val / 256, by have h : (y 0).val < 2048 := (y 0).isLt; omega⟩ (ix2 ⟨(y 0).val % 256, Nat.mod_lt _ (by decide)⟩ (y 1))
/-- the gains' gradient over this block. -/
def DG : FVec F S1x256 .f32 :=
  dgStep xs rs x d (dgStep xs rs x d (dgStep xs rs x d (dgStep xs rs x d (dgStep xs rs x d (dgStep xs rs x d (dgStep xs rs x d (dgStep xs rs x d k0_pay128 0) 1) 2) 3) 4) 5) 6) 7

/-- A list of pieces holding `XHT` on the first `n` half blocks. -/
def XOk (n : ℕ) (L : List (View.Piece (Elt F) S256x2048 .bf16)) : Prop :=
  (∀ p ∈ L, ∀ z, p.2 z = XHT xs rs g x (p.1.emb z)) ∧ ∀ y : S256x2048.Idx, (y 1).val / 256 * 2 + (y 0).val / 128 < n → ∃ p ∈ L, y ∈ p.1.set

theorem xok_nil : XOk xs rs g x 0 ([] : List (View.Piece (Elt F) S256x2048 .bf16)) :=
  ⟨fun _ h => absurd h List.not_mem_nil, fun y h => absurd h (Nat.not_lt_zero _)⟩

theorem xok_cons (n : ℕ) (b : Fin 8) (h : Fin 2) (hn : n = b.val * 2 + h.val) {o : Fin 2 → ℕ} (e : o = ![128 * h.val, 256 * b.val]) (i : ∀ a, o a + S128x256.size a ≤ S256x2048.size a)
    {v : FVec F S128x256 .bf16} (hv : v = xhtPay xs rs g x b h) {L : List (View.Piece (Elt F) S256x2048 .bf16)} (hL : XOk xs rs g x n L) :
    XOk xs rs g x (n + 1) (⟨Rect.unit (s := S256x2048) o S128x256.size i, v⟩ :: L) := by
  have f0 : o 0 = 128 * h.val := congrFun e 0
  have f1 : o 1 = 256 * b.val := congrFun e 1
  refine ⟨fun p hp => ?_, fun y hy => ?_⟩
  · rcases List.mem_cons.mp hp with rfl | hp
    · intro z
      have hz0 : (z 0).val < 128 := (z 0).isLt
      have hz1 : (z 1).val < 256 := (z 1).isLt
      have e0 : ((Rect.unit (s := S256x2048) o S128x256.size i).emb z 0).val = 128 * h.val + (z 0).val := by
        rw [Rect.emb_apply]; show o 0 + 1 * (z 0).val = _; omega
      have e1 : ((Rect.unit (s := S256x2048) o S128x256.size i).emb z 1).val = 256 * b.val + (z 1).val := by
        rw [Rect.emb_apply]; show o 1 + 1 * (z 1).val = _; omega
      show v z = XHT xs rs g x _
      rw [hv]
      unfold XHT
      refine congr (congr (congrArg (xhtPay xs rs g x) (Fin.ext ?_)) (Fin.ext ?_)) ?_
      · show b.val = _ / 256; rw [e1]; omega
      · show h.val = _ / 128; rw [e0]; omega
      · funext a; refine Fin.ext ?_; fin_cases a
        · show (z 0).val = _ % 128; rw [e0]; omega
        · show (z 1).val = _ % 256; rw [e1]; omega
    · exact hL.1 p hp
  · by_cases hy' : (y 1).val / 256 * 2 + (y 0).val / 128 < n
    · obtain ⟨p, hp, hm⟩ := hL.2 y hy'
      exact ⟨p, List.mem_cons_of_mem _ hp, hm⟩
    · refine ⟨_, List.mem_cons_self, (Rect.mem_set_unit (inb := i)).2 ?_⟩
      have h0 : (y 0).val < 256 := (y 0).isLt
      have hh := h.isLt
      intro a; fin_cases a
      · show o 0 ≤ (y 0).val ∧ (y 0).val < o 0 + 128; omega
      · show o 1 ≤ (y 1).val ∧ (y 1).val < o 1 + 256; omega

theorem xok_read {s : View sig .tc .vmem S256x2048 .bf16} (f : BufTy.Contents (Elt F) s.ty) {L : List (View.Piece (Elt F) S256x2048 .bf16)} (hL : XOk xs rs g x 16 L) :
    s.read (Elt F) (s.writes (Elt F) f L) = XHT xs rs g x := by
  funext y
  exact View.read_writes_apply_of_pieces _ _ _ L hL.1 y (hL.2 y (by have h0 : (y 0).val < 256 := (y 0).isLt; have h1 : (y 1).val < 2048 := (y 1).isLt; omega))

/-- A list of pieces holding `GN` on the first `n` blocks of rows. -/
def GOk (n : ℕ) (L : List (View.Piece (Elt F) S2048x128 .f32)) : Prop :=
  (∀ p ∈ L, ∀ z, p.2 z = GN xs rs g x d gn (p.1.emb z)) ∧ ∀ y : S2048x128.Idx, (y 0).val / 256 < n → ∃ p ∈ L, y ∈ p.1.set

theorem gok_nil : GOk xs rs g x d gn 0 ([] : List (View.Piece (Elt F) S2048x128 .f32)) :=
  ⟨fun _ h => absurd h List.not_mem_nil, fun y h => absurd h (Nat.not_lt_zero _)⟩

theorem gok_cons (b : Fin 8) {o : Fin 2 → ℕ} (e : o = ![256 * b.val, 0]) (i : ∀ a, o a + S256x128.size a ≤ S2048x128.size a)
    {v : FVec F S256x128 .f32} (hv : v = gnPay xs rs g x d gn b) {L : List (View.Piece (Elt F) S2048x128 .f32)} (hL : GOk xs rs g x d gn b.val L) :
    GOk xs rs g x d gn (b.val + 1) (⟨Rect.unit (s := S2048x128) o S256x128.size i, v⟩ :: L) := by
  have f0 : o 0 = 256 * b.val := congrFun e 0
  have f1 : o 1 = 0 := congrFun e 1
  refine ⟨fun p hp => ?_, fun y hy => ?_⟩
  · rcases List.mem_cons.mp hp with rfl | hp
    · intro z
      have hz0 : (z 0).val < 256 := (z 0).isLt
      have e0 : ((Rect.unit (s := S2048x128) o S256x128.size i).emb z 0).val = 256 * b.val + (z 0).val := by
        rw [Rect.emb_apply]; show o 0 + 1 * (z 0).val = _; omega
      have e1 : ((Rect.unit (s := S2048x128) o S256x128.size i).emb z 1).val = (z 1).val := by
        rw [Rect.emb_apply]; show o 1 + 1 * (z 1).val = _; omega
      show v z = GN xs rs g x d gn _
      rw [hv]
      unfold GN
      refine congr (congrArg (gnPay xs rs g x d gn) (Fin.ext ?_)) ?_
      · show b.val = _ / 256; rw [e0]; omega
      · funext a; refine Fin.ext ?_; fin_cases a
        · show (z 0).val = _ % 256; rw [e0]; omega
        · exact e1.symm
    · exact hL.1 p hp
  · by_cases hy' : (y 0).val / 256 < b.val
    · obtain ⟨p, hp, hm⟩ := hL.2 y hy'
      exact ⟨p, List.mem_cons_of_mem _ hp, hm⟩
    · refine ⟨_, List.mem_cons_self, (Rect.mem_set_unit (inb := i)).2 ?_⟩
      have h1 : (y 1).val < 128 := (y 1).isLt
      intro a; fin_cases a
      · show o 0 ≤ (y 0).val ∧ (y 0).val < o 0 + 256; omega
      · show o 1 ≤ (y 1).val ∧ (y 1).val < o 1 + 128; omega

theorem gok_read {s : View sig .tc .vmem S2048x128 .f32} (f : BufTy.Contents (Elt F) s.ty) {L : List (View.Piece (Elt F) S2048x128 .f32)} (hL : GOk xs rs g x d gn 8 L) :
    s.read (Elt F) (s.writes (Elt F) f L) = GN xs rs g x d gn := by
  funext y
  exact View.read_writes_apply_of_pieces _ _ _ L hL.1 y (hL.2 y (by have h0 : (y 0).val < 2048 := (y 0).isLt; omega))

theorem dg_read {s : View sig .tc .vmem S1x256 .f32} (f : BufTy.Contents (Elt F) s.ty) (i : ∀ a, (![0, 0] : Fin 2 → ℕ) a + S1x256.size a ≤ S1x256.size a)
    {v : FVec F S1x256 .f32} (hv : v = DG xs rs x d) :
    s.read (Elt F) (s.writes (Elt F) f [⟨Rect.unit (s := S1x256) ![0, 0] S1x256.size i, v⟩]) = DG xs rs x d := by
  funext y
  have hid : ∀ z, (Rect.unit (s := S1x256) ![0, 0] S1x256.size i).emb z = z := fun z => by
    funext a; refine Fin.ext ?_; rw [Rect.emb_apply]; fin_cases a
    · show 0 + 1 * (z 0).val = _; exact (by omega : 0 + 1 * (z 0).val = (z 0).val)
    · show 0 + 1 * (z 1).val = _; exact (by omega : 0 + 1 * (z 1).val = (z 1).val)
  refine View.read_writes_apply_of_pieces _ _ _ _ (fun p hp z => ?_) y ⟨_, List.mem_cons_self, ?_⟩
  · obtain rfl := List.mem_singleton.mp hp
    show v z = _
    rw [hid, hv]
  · refine (Rect.mem_set_unit (inb := i)).2 ?_
    have h0 : (y 0).val < 1 := (y 0).isLt
    have h1 : (y 1).val < 256 := (y 1).isLt
    intro a; fin_cases a
    · show 0 ≤ (y 0).val ∧ (y 0).val < 0 + 1; omega
    · show 0 ≤ (y 1).val ∧ (y 1).val < 0 + 256; omega

/-- What one block leaves in the four output windows. -/
def OutOk (D : FVec F S2048x9216 .bf16) (w : Vec F S256x9216 .fp8e4m3) (d' : FVec F S2048x256 .f32) (t' : FVec F S256x2048 .bf16) (gn' : FVec F S2048x128 .f32) (dg' : FVec F S1x256 .f32) : Prop :=
  d' = MM D w ∧ t' = XHT xs rs g x ∧ gn' = GN xs rs g x (MM D w) gn ∧ dg' = DG xs rs x (MM D w)

end Blocks

end Cert.KernelIdeal.Own

end
-- ==== Proof.Run.KernelIdeal.Later.lean ====
module

public import proofs.«01_k».proof.Proof.Run.KernelIdeal.Blocks

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Later

variable (c : Dev nD)
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : ¬ k0_cond1 i = 1#1)

include h1 in
/-- The body at a point after the first. -/
theorem later (X4 : Buf (Elt F) (arg4.view.loc (c : Thread nD τ))) (X5 : Buf (Elt F) (arg5.view.loc (c : Thread nD τ))) (X8 : Buf (Elt F) (arg8.view.loc (c : Thread nD τ)))
    (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (fd : Buf (Elt F) (dqm.view.loc (c : Thread nD τ))) (fx : Buf (Elt F) (xsm.view.loc (c : Thread nD τ))) (fr : Buf (Elt F) (rsm.view.loc (c : Thread nD τ))) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ dqP c fd ∗ (xsm.view.loc (c : Thread nD τ) ↦[xsm.view.set]{fullShare} fx) ∗ (rsm.view.loc (c : Thread nD τ) ↦[rsm.view.set]{fullShare} fr))
    ⊢ wp frame (wpE (defs₀ (F := F)) 𝒱₀ (c : Thread nD τ) none) Set.univ
        (cc0_dx_matmul (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4)
        (fun _ => iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8)
          ∗ dqP c fd ∗ (xsm.view.loc (c : Thread nD τ) ↦[xsm.view.set]{fullShare} fx) ∗ (rsm.view.loc (c : Thread nD τ) ↦[rsm.view.set]{fullShare} fr)
          ∗ ∃ g9 g10 g11 g12, (arg9.view.loc (c : Thread nD τ) ↦[arg9.view.set]{fullShare} g9) ∗ (arg10.view.loc (c : Thread nD τ) ↦[arg10.view.set]{fullShare} g10)
            ∗ (arg11.view.loc (c : Thread nD τ) ↦[arg11.view.set]{fullShare} g11) ∗ (arg12.view.loc (c : Thread nD τ) ↦[arg12.view.set]{fullShare} g12)
            ∗ ⌜OutOk (xsm.view.read (Elt F) fx) (rsm.view.read (Elt F) fr) (arg8.view.read (Elt F) X8) (arg5.view.read (Elt F) X5) (arg11.view.read (Elt F) f11)
                (dqm.view.read (Elt F) fd) (arg4.view.read (Elt F) X4) (arg9.view.read (Elt F) g9) (arg10.view.read (Elt F) g10) (arg11.view.read (Elt F) g11) (arg12.view.read (Elt F) g12)⌝)) := by
  have ht : Scf.trips k0_t2_loop.lb k0_t2_loop.ub k0_t2_loop.st = 4 := by decide +kernel
  iintro ⟨H4, H5, H8, H9, H10, H11, H12, HD, Hx, Hr⟩
  rw [cc0_dx_matmul_eq_skeleton]
  unfold cc0_dx_matmul_skel
  rw [k0_part30_eq_skeleton]
  unfold k0_part30_skel
  sl_exec
  iapply (entails_of_eq (Idealize.SL.Sem.wp_bind _ _ _ _ _ _).symm)
  ihave HI := (loop2_entry c i arg2 harg2 arg3 harg3 arg4 harg4 arg5 harg5 arg6 harg6 arg7 harg7 arg8 harg8 arg9 harg9 arg10 harg10 arg11 harg11 arg12 harg12 X4 fd f9 ()) $$ [H4 HD H9]
  · isplitl [H4]; · iexact H4
    isplitl [HD]; · iexact HD
    iexact H9
  iapply (exec_loop _ _ _ _ _ _ _ _ _ (loop2 c i arg2 harg2 arg3 harg3 arg4 harg4 arg5 harg5 arg6 harg6 arg7 harg7 arg8 harg8 arg9 harg9 arg10 harg10 arg11 harg11 arg12 harg12 X4 fd)) $$ [HI]
  · iexact HI
  iintro %acc HI
  ihave HI := (loop2_exit c i arg2 harg2 arg3 harg3 arg4 harg4 arg5 harg5 arg6 harg6 arg7 harg7 arg8 harg8 arg9 harg9 arg10 harg10 arg11 harg11 arg12 harg12 X4 fd acc) $$ HI
  icases HI with ⟨H4, HD, %g9, H9, %hg⟩
  sl_exec
  sl_step
  isplitl [H4]; · iexact H4
  isplitl [H5]; · iexact H5
  isplitl [H8]; · iexact H8
  isplitl [HD]; · iexact HD
  isplitl [Hx]; · iexact Hx
  isplitl [Hr]; · iexact Hr
  iexists _; iexists _; iexists _; iexists _
  isplitl [H9]; · iexact H9
  isplitl [H10]; · iexact H10
  isplitl [H11]; · iexact H11
  isplitl [H12]; · iexact H12
  ipureintro
  unfold OutOk
  rw [← hg]
  refine ⟨rfl, xok_read _ _ _ _ _ ?_, gok_read _ _ _ _ _ _ _ ?_, dg_read _ _ _ _ _ _ ?_⟩
  · exact xok_cons _ _ _ _ 15 7 1 rfl rfl _ rfl (xok_cons _ _ _ _ 14 7 0 rfl rfl _ rfl (xok_cons _ _ _ _ 13 6 1 rfl rfl _ rfl (xok_cons _ _ _ _ 12 6 0 rfl rfl _ rfl (xok_cons _ _ _ _ 11 5 1 rfl rfl _ rfl (xok_cons _ _ _ _ 10 5 0 rfl rfl _ rfl (xok_cons _ _ _ _ 9 4 1 rfl rfl _ rfl (xok_cons _ _ _ _ 8 4 0 rfl rfl _ rfl (xok_cons _ _ _ _ 7 3 1 rfl rfl _ rfl (xok_cons _ _ _ _ 6 3 0 rfl rfl _ rfl (xok_cons _ _ _ _ 5 2 1 rfl rfl _ rfl (xok_cons _ _ _ _ 4 2 0 rfl rfl _ rfl (xok_cons _ _ _ _ 3 1 1 rfl rfl _ rfl (xok_cons _ _ _ _ 2 1 0 rfl rfl _ rfl (xok_cons _ _ _ _ 1 0 1 rfl rfl _ rfl (xok_cons _ _ _ _ 0 0 0 rfl rfl _ rfl (xok_nil _ _ _ _))))))))))))))))
  · exact gok_cons _ _ _ _ _ _ 7 rfl _ rfl (gok_cons _ _ _ _ _ _ 6 rfl _ rfl (gok_cons _ _ _ _ _ _ 5 rfl _ rfl (gok_cons _ _ _ _ _ _ 4 rfl _ rfl (gok_cons _ _ _ _ _ _ 3 rfl _ rfl (gok_cons _ _ _ _ _ _ 2 rfl _ rfl (gok_cons _ _ _ _ _ _ 1 rfl _ rfl (gok_cons _ _ _ _ _ _ 0 rfl _ rfl (gok_nil _ _ _ _ _ _))))))))
  · rfl

end Later

end Cert.KernelIdeal.Own

end
-- ==== Proof.Run.KernelIdeal.Trip.lean ====
module

public import proofs.«01_k».proof.Proof.Run.KernelIdeal.TripDefs

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

set_option backward.proofsInPublic true in
/-- A trip that sends the next chunk: what it leaves, with the stores it made to the scratch. -/
def tripRun (k : Fin k0_t1_loop.trips) (hk : k.val + 1 < 16) (X2 : Buf (Elt F) (arg2.view.loc (c : Thread nD τ))) (X3 : Buf (Elt F) (arg3.view.loc (c : Thread nD τ)))
    (fd : Buf (Elt F) (dqm.view.loc (c : Thread nD τ))) (W : Waits sig Unit) (f0) (f1) :
    { L : List (View.Piece (Elt F) S2048x9216 .bf16) //
      iprop(P2 c arg2 X2 ∗ P3 c arg3 X3 ∗ dqP c fd ∗ owes (c : Thread nD τ) 0 W ∗ homeP c XA (Ring.bk 16 (k.val + 1))
          ∗ flightP c XA (Ring.sl 2 k.val) (Ring.bk 16 k.val) f0 ∗ slotP c (Ring.sl 2 (k.val + 1)) f1 ∗ cellP c (Ring.sl 2 (k.val + 1)))
        ⊢ wp frame (wpE (defs₀ (F := F)) 𝒱₀ (c : Thread nD τ) none) Set.univ
          (trip i arg2 harg2 arg3 harg3 arg4 harg4 arg5 harg5 arg6 harg6 arg7 harg7 arg8 harg8 arg9 harg9 arg10 harg10 arg11 harg11 arg12 harg12 h1 k)
          (fun _ => iprop(P2 c arg2 X2 ∗ P3 c arg3 X3 ∗ dqP c (dqm.view.writes (Elt F) fd L) ∗ (∃ W, owes (c : Thread nD τ) 0 W) ∗ homeP c XA (Ring.bk 16 k.val)
            ∗ flightP c XA (Ring.sl 2 (k.val + 1)) (Ring.bk 16 (k.val + 1)) f1 ∗ (∃ f, slotP c (Ring.sl 2 k.val) f) ∗ cellP c (Ring.sl 2 k.val))) } := by
  refine ⟨?_, ?run⟩
  case run =>
    have hk6 : k.val < 16 := by omega
    have hc : k0_cond2 k = 1#1 := (cond2_iff k).2 hk
    have hsv : (Ring.sl 2 k.val).val = k.val % 2 := rfl
    iintro ⟨H2, H3, HD, HW, Hh, HF, Hs, Hc⟩
    dsimp only [trip]
    sl_unfold [k0_t1_body]
    sl_exec
    sl_step
    isplitl [H2]; · iexact H2
    isplitl [H3]; · iexact H3
    isplitl [HD]; · iexact HD
    isplitl [HW]; · iexists _; iexact HW
    isplitl [HF_src]; · iexact HF_src
    isplitl [Hc]; · iexact Hc
    isplitl [HF_dst]; · iexists _; iexact HF_dst
    iexact HF

end Trip

end Cert.KernelIdeal.Own

end
-- ==== Proof.Run.KernelIdeal.TripB.lean ====
module

public import proofs.«01_k».proof.Proof.Run.KernelIdeal.TripDefs

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

set_option backward.proofsInPublic true in
/-- The last trip, which sends no further chunk. -/
def lastRun (k : Fin k0_t1_loop.trips) (hk : k.val + 1 = 16) (X2 : Buf (Elt F) (arg2.view.loc (c : Thread nD τ))) (X3 : Buf (Elt F) (arg3.view.loc (c : Thread nD τ)))
    (fd : Buf (Elt F) (dqm.view.loc (c : Thread nD τ))) (W : Waits sig Unit) (f0) :
    { L : List (View.Piece (Elt F) S2048x9216 .bf16) //
      iprop(P2 c arg2 X2 ∗ P3 c arg3 X3 ∗ dqP c fd ∗ owes (c : Thread nD τ) 0 W
          ∗ flightP c XA (Ring.sl 2 k.val) (Ring.bk 16 k.val) f0)
        ⊢ wp frame (wpE (defs₀ (F := F)) 𝒱₀ (c : Thread nD τ) none) Set.univ
          (trip i arg2 harg2 arg3 harg3 arg4 harg4 arg5 harg5 arg6 harg6 arg7 harg7 arg8 harg8 arg9 harg9 arg10 harg10 arg11 harg11 arg12 harg12 h1 k)
          (fun _ => iprop(P2 c arg2 X2 ∗ P3 c arg3 X3 ∗ dqP c (dqm.view.writes (Elt F) fd L) ∗ (∃ W, owes (c : Thread nD τ) 0 W) ∗ homeP c XA (Ring.bk 16 k.val)
            ∗ (∃ f, slotP c (Ring.sl 2 k.val) f) ∗ cellP c (Ring.sl 2 k.val))) } := by
  refine ⟨?_, ?run⟩
  case run =>
    have hk6 : k.val < 16 := by omega
    have hc : ¬ k0_cond2 k = 1#1 := fun h => by have := (cond2_iff k).1 h; omega
    have hsv : (Ring.sl 2 k.val).val = k.val % 2 := rfl
    iintro ⟨H2, H3, HD, HW, HF⟩
    dsimp only [trip]
    sl_unfold [k0_t1_body]
    sl_exec
    sl_step
    isplitl [H2]; · iexact H2
    isplitl [H3]; · iexact H3
    isplitl [HD]; · iexact HD
    isplitl [HW]; · iexists _; iexact HW
    isplitl [HF_src]; · iexact HF_src
    isplitl [HF_dst]; · iexists _; iexact HF_dst
    iexact HF

end Trip

end Cert.KernelIdeal.Own

end
-- ==== Proof.Run.KernelIdeal.TripOk.lean ====
module

public import proofs.«01_k».proof.Proof.Run.KernelIdeal.Trip
public import proofs.«01_k».proof.Proof.Run.KernelIdeal.TripB

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Trip

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

theorem tripRun_ok (k : Fin k0_t1_loop.trips) (hk : k.val + 1 < 16) (X2) (X3) (fd) (W) (f0) (f1) :
    HeadsOK c XA arg2 arg3 X2 X3 k.val 72 (tripRun c XA i arg2 harg2 arg3 harg3 arg4 harg4 arg5 harg5 arg6 harg6 arg7 harg7 arg8 harg8 arg9 harg9 arg10 harg10 arg11 harg11 arg12 harg12 h1 k hk X2 X3 fd W f0 f1).1 := by
  have hk6 : k.val < 16 := by omega
  unfold tripRun
  dsimp only
  repeat' first
    | exact heads_nil c XA arg2 arg3 X2 X3 k.val
    | refine heads_cons c XA arg2 arg3 X2 X3 k.val hk6 _ (by decide) _ (k0_off7_eq k) _ rfl _ rfl _ rfl _ ?_

theorem lastRun_ok (k : Fin k0_t1_loop.trips) (hk : k.val + 1 = 16) (X2) (X3) (fd) (W) (f0) :
    HeadsOK c XA arg2 arg3 X2 X3 k.val 72 (lastRun c XA i arg2 harg2 arg3 harg3 arg4 harg4 arg5 harg5 arg6 harg6 arg7 harg7 arg8 harg8 arg9 harg9 arg10 harg10 arg11 harg11 arg12 harg12 h1 k hk X2 X3 fd W f0).1 := by
  have hk6 : k.val < 16 := by omega
  unfold lastRun
  dsimp only
  repeat' first
    | exact heads_nil c XA arg2 arg3 X2 X3 k.val
    | refine heads_cons c XA arg2 arg3 X2 X3 k.val hk6 _ (by decide) _ (k0_off7_eq k) _ rfl _ rfl _ rfl _ ?_

end Trip

end Cert.KernelIdeal.Own

end
-- ==== Proof.Run.KernelIdeal.Loop.lean ====
module

public import proofs.«01_k».proof.Proof.Run.KernelIdeal.TripOk

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Loop

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

/-- The ring before trip `k`: chunk `k` in flight, the others home, the other slot free; after the last trip everything home. -/
def ring (k : ℕ) : sProp 𝕄 :=
  if k < 16 then
    iprop(bigSep ((Finset.univ : Finset (Fin 16)).erase (Ring.bk 16 k)) (homeP c XA) ∗ (∃ f, flightP c XA (Ring.sl 2 k) (Ring.bk 16 k) f)
      ∗ (∃ f, slotP c (Ring.sl 2 (k + 1)) f) ∗ cellP c (Ring.sl 2 (k + 1)))
  else
    iprop(bigSep (Finset.univ : Finset (Fin 16)) (homeP c XA) ∗ (∃ f, slotP c 0 f) ∗ (∃ f, slotP c 1 f) ∗ cellP c 0 ∗ cellP c 1)

theorem ring_lt {k : ℕ} (h : k < 16) : ring c XA k = iprop(bigSep ((Finset.univ : Finset (Fin 16)).erase (Ring.bk 16 k)) (homeP c XA) ∗ (∃ f, flightP c XA (Ring.sl 2 k) (Ring.bk 16 k) f)
      ∗ (∃ f, slotP c (Ring.sl 2 (k + 1)) f) ∗ cellP c (Ring.sl 2 (k + 1))) := if_pos h
theorem ring_end : ring c XA 16 = iprop(bigSep (Finset.univ : Finset (Fin 16)) (homeP c XA) ∗ (∃ f, slotP c 0 f) ∗ (∃ f, slotP c 1 f) ∗ cellP c 0 ∗ cellP c 1) := if_neg (by decide)

theorem bk_ne {a b : ℕ} (ha : a < 16) (hb : b < 16) (h : a ≠ b) : Ring.bk 16 a ≠ Ring.bk 16 b := fun e => h (by
  have := congrArg Fin.val e; rwa [Ring.bk_val ha, Ring.bk_val hb] at this)

/-- Trip `k`'s homes: chunk `k + 1`, about to go out, beside the rest; -/
theorem homes_here (k : ℕ) (hk : k + 1 < 16) :
    bigSep ((Finset.univ : Finset (Fin 16)).erase (Ring.bk 16 k)) (homeP c XA)
      = iprop(homeP c XA (Ring.bk 16 (k + 1)) ∗ bigSep (((Finset.univ : Finset (Fin 16)).erase (Ring.bk 16 k)).erase (Ring.bk 16 (k + 1))) (homeP c XA)) := by
  conv_lhs => rw [← Finset.insert_erase (Finset.mem_erase.2 ⟨bk_ne hk (by omega : k < 16) (by omega), Finset.mem_univ (Ring.bk 16 (k + 1))⟩), bigSep_insert (Finset.notMem_erase _ _)]
  rfl
/-- trip `k + 1`'s: chunk `k`, just back, beside that rest; -/
theorem homes_next (k : ℕ) (hk : k + 1 < 16) :
    bigSep ((Finset.univ : Finset (Fin 16)).erase (Ring.bk 16 (k + 1))) (homeP c XA)
      = iprop(homeP c XA (Ring.bk 16 k) ∗ bigSep (((Finset.univ : Finset (Fin 16)).erase (Ring.bk 16 k)).erase (Ring.bk 16 (k + 1))) (homeP c XA)) := by
  conv_lhs => rw [← Finset.insert_erase (Finset.mem_erase.2 ⟨bk_ne (by omega : k < 16) hk (by omega), Finset.mem_univ (Ring.bk 16 k)⟩), bigSep_insert (Finset.notMem_erase _ _), Finset.erase_right_comm]
  rfl
/-- and all of them: any one beside the others. -/
theorem homes_all (b : Fin 16) : bigSep (Finset.univ : Finset (Fin 16)) (homeP c XA) = iprop(homeP c XA b ∗ bigSep ((Finset.univ : Finset (Fin 16)).erase b) (homeP c XA)) := by
  conv_lhs => rw [← Finset.insert_erase (Finset.mem_univ b), bigSep_insert (Finset.notMem_erase _ _)]
  rfl

/-- The first loop's invariant: rows below `128 k` of the scratch hold `DQ`. -/
def inv1 (X2 : Buf (Elt F) (arg2.view.loc (c : Thread nD τ))) (X3 : Buf (Elt F) (arg3.view.loc (c : Thread nD τ))) (k : ℕ) : sProp 𝕄 :=
  iprop(∃ fd, dqP c fd ∗ ⌜∀ y : S2048x9216.Idx, (y 0).val < 128 * k → dqm.view.read (Elt F) fd y = DQv c XA arg2 arg3 X2 X3 y⌝
    ∗ P2 c arg2 X2 ∗ P3 c arg3 X3 ∗ (∃ W, owes (c : Thread nD τ) 0 W) ∗ ring c XA k)

set_option warn.classDefReducibility false in
/-- The first loop. -/
def loop1 (X2 : Buf (Elt F) (arg2.view.loc (c : Thread nD τ))) (X3 : Buf (Elt F) (arg3.view.loc (c : Thread nD τ))) :
    LoopInvTy_k0_t1 (F := F) Unit ℕ (UU nD τ) ℕ 𝒱₀ c none Set.univ i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4 h1 where
  inv k _ := inv1 c XA arg2 arg3 X2 X3 k
  step k _ := by
    have hk16 : k.val < 16 := trips_eq ▸ k.isLt
    unfold inv1
    by_cases hk : k.val + 1 < 16
    · rw [ring_lt c XA hk16, homes_here c XA k.val hk, ring_lt c XA hk, homes_next c XA k.val hk,
        show Ring.sl 2 (k.val + 1 + 1) = Ring.sl 2 k.val from by rw [show k.val + 1 + 1 = k.val + 2 from rfl, Ring.sl_add]]
      iintro ⟨%fd, HD, %hd, H2, H3, ⟨%W, HW⟩, ⟨Hh, Hrest⟩, ⟨%f0, HF⟩, ⟨%f1, Hs⟩, Hc⟩
      have hok := tripRun_ok c XA i arg2 harg2 arg3 harg3 arg4 harg4 arg5 harg5 arg6 harg6 arg7 harg7 arg8 harg8 arg9 harg9 arg10 harg10 arg11 harg11 arg12 harg12 h1 k hk X2 X3 fd W f0 f1
      iapply (wp_wand_r Idealize.ShloMosaic.frame (wpE (defs₀ (F := F)) 𝒱₀ (c : Thread nD τ) none) Set.univ)
      isplitl [H2 H3 HD HW Hh HF Hs Hc]
      · iapply (tripRun c XA i arg2 harg2 arg3 harg3 arg4 harg4 arg5 harg5 arg6 harg6 arg7 harg7 arg8 harg8 arg9 harg9 arg10 harg10 arg11 harg11 arg12 harg12 h1 k hk X2 X3 fd W f0 f1).2
        isplitl [H2]; · iexact H2
        isplitl [H3]; · iexact H3
        isplitl [HD]; · iexact HD
        isplitl [HW]; · iexact HW
        isplitl [Hh]; · iexact Hh
        isplitl [HF]; · iexact HF
        isplitl [Hs]; · iexact Hs
        iexact Hc
      · iintro %_ ⟨H2, H3, HD, HW, Hh, HF, Hs, Hc⟩
        iexists _
        isplitl [HD]; · iexact HD
        isplitr; · ipureintro; exact fun y hy => heads_done c XA arg2 arg3 X2 X3 k.val hok fd hd y (by omega)
        isplitl [H2]; · iexact H2
        isplitl [H3]; · iexact H3
        isplitl [HW]; · iexact HW
        isplitl [Hh Hrest]
        · isplitl [Hh]; · iexact Hh
          iexact Hrest
        isplitl [HF]; · iexists _; iexact HF
        isplitl [Hs]; · iexact Hs
        iexact Hc
    · have hk' : k.val + 1 = 16 := by omega
      have e0 : Ring.sl 2 (k.val + 1) = 0 := by rw [hk']; rfl
      have e1 : Ring.sl 2 k.val = 1 := by rw [show k.val = 15 from by omega]; rfl
      rw [ring_lt c XA hk16, hk', ring_end c XA, homes_all c XA (Ring.bk 16 k.val), show Ring.sl 2 16 = 0 from rfl]
      iintro ⟨%fd, HD, %hd, H2, H3, ⟨%W, HW⟩, Hrest, ⟨%f0, HF⟩, Hs1, Hc1⟩
      have hok := lastRun_ok c XA i arg2 harg2 arg3 harg3 arg4 harg4 arg5 harg5 arg6 harg6 arg7 harg7 arg8 harg8 arg9 harg9 arg10 harg10 arg11 harg11 arg12 harg12 h1 k hk' X2 X3 fd W f0
      iapply (wp_wand_r Idealize.ShloMosaic.frame (wpE (defs₀ (F := F)) 𝒱₀ (c : Thread nD τ) none) Set.univ)
      isplitl [H2 H3 HD HW HF]
      · iapply (lastRun c XA i arg2 harg2 arg3 harg3 arg4 harg4 arg5 harg5 arg6 harg6 arg7 harg7 arg8 harg8 arg9 harg9 arg10 harg10 arg11 harg11 arg12 harg12 h1 k hk' X2 X3 fd W f0).2
        isplitl [H2]; · iexact H2
        isplitl [H3]; · iexact H3
        isplitl [HD]; · iexact HD
        isplitl [HW]; · iexact HW
        iexact HF
      · iintro %_ ⟨H2, H3, HD, HW, Hh, Hs, Hc⟩
        iexists _
        isplitl [HD]; · iexact HD
        isplitr; · ipureintro; exact fun y hy => heads_done c XA arg2 arg3 X2 X3 k.val hok fd hd y (by omega)
        isplitl [H2]; · iexact H2
        isplitl [H3]; · iexact H3
        isplitl [HW]; · iexact HW
        isplitl [Hh Hrest]
        · isplitl [Hh]; · iexact Hh
          iexact Hrest
        isplitl [Hs1]; · iexact Hs1
        isplitl [Hs]; · iapply (entails_of_eq (show iprop(∃ f, slotP c (Ring.sl 2 k.val) f) = iprop(∃ f, slotP (F := F) c 1 f) from by rw [e1])); iexact Hs
        isplitl [Hc1]; · iexact Hc1
        iapply (entails_of_eq (show cellP (F := F) c (Ring.sl 2 k.val) = cellP c 1 from by rw [e1])); iexact Hc

theorem loop1_entry (X2 : Buf (Elt F) (arg2.view.loc (c : Thread nD τ))) (X3 : Buf (Elt F) (arg3.view.loc (c : Thread nD τ))) (fd : Buf (Elt F) (dqm.view.loc (c : Thread nD τ))) (W : Waits sig Unit) (f0 f1) (a : Unit) :
    iprop(P2 c arg2 X2 ∗ P3 c arg3 X3 ∗ dqP c fd ∗ owes (c : Thread nD τ) 0 W ∗ bigSep ((Finset.univ : Finset (Fin 16)).erase 0) (homeP c XA)
        ∗ flightP c XA 0 0 f0 ∗ slotP c 1 f1 ∗ cellP c 1)
      ⊢ (loop1 c XA i arg2 harg2 arg3 harg3 arg4 harg4 arg5 harg5 arg6 harg6 arg7 harg7 arg8 harg8 arg9 harg9 arg10 harg10 arg11 harg11 arg12 harg12 h1 X2 X3).inv 0 a := by
  refine .trans ?_ (entails_of_eq (show inv1 c XA arg2 arg3 X2 X3 0 = _ from rfl))
  unfold inv1
  rw [ring_lt c XA (show 0 < 16 by decide), show Ring.bk 16 0 = 0 from rfl, show Ring.sl 2 0 = 0 from rfl, show Ring.sl 2 (0 + 1) = 1 from rfl]
  iintro ⟨H2, H3, HD, HW, Hh, HF, Hs, Hc⟩
  iexists fd
  isplitl [HD]; · iexact HD
  isplitr; · ipureintro; exact fun y hy => absurd hy (Nat.not_lt_zero _)
  isplitl [H2]; · iexact H2
  isplitl [H3]; · iexact H3
  isplitl [HW]; · iexists W; iexact HW
  isplitl [Hh]; · iexact Hh
  isplitl [HF]; · iexists f0; iexact HF
  isplitl [Hs]; · iexists f1; iexact Hs
  iexact Hc

theorem loop1_exit (X2 : Buf (Elt F) (arg2.view.loc (c : Thread nD τ))) (X3 : Buf (Elt F) (arg3.view.loc (c : Thread nD τ))) (a : Unit) :
    (loop1 c XA i arg2 harg2 arg3 harg3 arg4 harg4 arg5 harg5 arg6 harg6 arg7 harg7 arg8 harg8 arg9 harg9 arg10 harg10 arg11 harg11 arg12 harg12 h1 X2 X3).inv (Scf.trips k0_t1_loop.lb k0_t1_loop.ub k0_t1_loop.st) a
      ⊢ iprop(∃ fd, dqP c fd ∗ ⌜dqm.view.read (Elt F) fd = DQv c XA arg2 arg3 X2 X3⌝ ∗ P2 c arg2 X2 ∗ P3 c arg3 X3 ∗ (∃ W, owes (c : Thread nD τ) 0 W)
        ∗ bigSep (Finset.univ : Finset (Fin 16)) (homeP c XA) ∗ (∃ f, slotP c 0 f) ∗ (∃ f, slotP c 1 f) ∗ cellP c 0 ∗ cellP c 1) := by
  have ht : Scf.trips k0_t1_loop.lb k0_t1_loop.ub k0_t1_loop.st = 16 := trips_eq
  rw [ht]
  refine (entails_of_eq (show _ = inv1 c XA arg2 arg3 X2 X3 16 from rfl)).trans ?_
  unfold inv1
  rw [ring_end]
  iintro ⟨%fd, HD, %hd, H2, H3, HW, HR⟩
  iexists fd
  isplitl [HD]; · iexact HD
  isplitr; · ipureintro; exact funext fun y => hd y (y 0).isLt
  isplitl [H2]; · iexact H2
  isplitl [H3]; · iexact H3
  isplitl [HW]; · iexact HW
  iexact HR

end Loop

end Cert.KernelIdeal.Own

end
-- ==== Proof.Run.KernelIdeal.First.lean ====
module

public import proofs.«01_k».proof.Proof.Run.KernelIdeal.Blocks
public import proofs.«01_k».proof.Proof.Run.KernelIdeal.Loop

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section First

variable (c : Dev nD) (XA : Buf (Elt F) (hbm.view.loc (c : Thread nD τ)))
  (i : grid0.Coords) (arg2 : Memref sig .tc .vmem S2048x128 .f32) (harg2 : arg2.IsWhole) (arg3 : Memref sig .tc .vmem S1x9216 .f32) (harg3 : arg3.IsWhole) (arg4 : Memref sig .tc .vmem S256x9216 .fp8e4m3) (harg4 : arg4.IsWhole) (arg5 : Memref sig .tc .vmem S2048x256 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S256x2048 .bf16) (harg10 : arg10.IsWhole) (arg11 : Memref sig .tc .vmem S2048x128 .f32) (harg11 : arg11.IsWhole) (arg12 : Memref sig .tc .vmem S1x256 .f32) (harg12 : arg12.IsWhole)
  (h1 : k0_cond1 i = 1#1)

omit [FloatOps F] [Named F] in
/-- A resource's parameter forgotten but for a fact of it. -/
theorem hide {α : Type} (P : α → sProp 𝕄) (f : α) (Q : α → Prop) (h : Q f) : P f ⊢ iprop(∃ g, P g ∗ ⌜Q g⌝) := by
  iintro H
  iexists f
  isplitl [H]; · iexact H
  ipureintro; exact h

theorem whole_read {s : View sig .tc .vmem S2048x128 .f32} (f : BufTy.Contents (Elt F) s.ty) (i : ∀ a, (![0, 0] : Fin 2 → ℕ) a + S2048x128.size a ≤ S2048x128.size a)
    (v : FVec F S2048x128 .f32) :
    s.read (Elt F) (s.writes (Elt F) f [⟨Rect.unit (s := S2048x128) ![0, 0] S2048x128.size i, v⟩]) = v := by
  funext y
  have hid : ∀ z, (Rect.unit (s := S2048x128) ![0, 0] S2048x128.size i).emb z = z := fun z => by
    funext a; refine Fin.ext ?_; rw [Rect.emb_apply]; fin_cases a
    · show 0 + 1 * (z 0).val = _; exact (by omega : 0 + 1 * (z 0).val = (z 0).val)
    · show 0 + 1 * (z 1).val = _; exact (by omega : 0 + 1 * (z 1).val = (z 1).val)
  refine View.read_writes_apply_of_pieces _ _ _ _ (fun p hp z => ?_) y ⟨_, List.mem_cons_self, ?_⟩
  · obtain rfl := List.mem_singleton.mp hp
    show v z = _
    rw [hid]
  · refine (Rect.mem_set_unit (inb := i)).2 ?_
    have h0 : (y 0).val < 2048 := (y 0).isLt
    have h1 : (y 1).val < 128 := (y 1).isLt
    intro a; fin_cases a
    · show 0 ≤ (y 0).val ∧ (y 0).val < 0 + 2048; omega
    · show 0 ≤ (y 1).val ∧ (y 1).val < 0 + 128; omega

theorem row_read (m : Memref sig .tc .vmem S1x2048 .f32) (f : Buf (Elt F) (m.view.loc (c : Thread nD τ))) (i : ∀ a, (![0, 0] : Fin 2 → ℕ) a + S1x2048.size a ≤ S1x2048.size a) :
    m.view.readAt (Elt F) (Rect.unit (s := S1x2048) ![0, 0] S1x2048.size i).toLoadRect f = m.view.read (Elt F) f := by
  funext z
  rw [View.readAt_apply]; congr 1; funext a; refine Fin.ext ?_; fin_cases a
  · show 0 + 1 * (z 0).val = (z 0).val; omega
  · show 0 + 1 * (z 1).val = (z 1).val; omega

set_option maxHeartbeats 2000000 in
include h1 in
/-- The body at the first point. -/
theorem first (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ))) (X8 : Buf (Elt F) (arg8.view.loc (c : Thread nD τ)))
    (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (fd : Buf (Elt F) (dqm.view.loc (c : Thread nD τ))) (fx : Buf (Elt F) (xsm.view.loc (c : Thread nD τ))) (fr : Buf (Elt F) (rsm.view.loc (c : Thread nD τ))) (W : Waits sig Unit) (s0 s1) :
    iprop(P2 c arg2 X2 ∗ P3 c arg3 X3 ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ dqP c fd ∗ (xsm.view.loc (c : Thread nD τ) ↦[xsm.view.set]{fullShare} fx) ∗ (rsm.view.loc (c : Thread nD τ) ↦[rsm.view.set]{fullShare} fr)
      ∗ owes (c : Thread nD τ) 0 W ∗ (homeP c XA 0 ∗ bigSep ((Finset.univ : Finset (Fin 16)).erase 0) (homeP c XA)) ∗ slotP c 0 s0 ∗ slotP c 1 s1 ∗ cellP c 0 ∗ cellP c 1)
    ⊢ wp frame (wpE (defs₀ (F := F)) 𝒱₀ (c : Thread nD τ) none) Set.univ
        (cc0_dx_matmul (F := F) i hbm (Memref.isWhole_whole _) arg2 harg2 arg3 harg3 arg4 harg4 arg5 harg5 arg6 harg6 arg7 harg7 arg8 harg8 arg9 harg9 arg10 harg10 arg11 harg11 arg12 harg12 dqm (Memref.isWhole_whole _) stg (Memref.isWhole_whole _) xsm (Memref.isWhole_whole _) rsm (Memref.isWhole_whole _) cc0_scratch4)
        (fun _ => iprop(P2 c arg2 X2 ∗ P3 c arg3 X3 ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
          ∗ (∃ W, owes (c : Thread nD τ) 0 W) ∗ bigSep (Finset.univ : Finset (Fin 16)) (homeP c XA) ∗ (∃ f, slotP c 0 f) ∗ (∃ f, slotP c 1 f) ∗ cellP c 0 ∗ cellP c 1
          ∗ ∃ gd gx gr g9 g10 g11 g12, dqP c gd ∗ (xsm.view.loc (c : Thread nD τ) ↦[xsm.view.set]{fullShare} gx) ∗ (rsm.view.loc (c : Thread nD τ) ↦[rsm.view.set]{fullShare} gr)
            ∗ (arg9.view.loc (c : Thread nD τ) ↦[arg9.view.set]{fullShare} g9) ∗ (arg10.view.loc (c : Thread nD τ) ↦[arg10.view.set]{fullShare} g10)
            ∗ (arg11.view.loc (c : Thread nD τ) ↦[arg11.view.set]{fullShare} g11) ∗ (arg12.view.loc (c : Thread nD τ) ↦[arg12.view.set]{fullShare} g12)
            ∗ ⌜dqm.view.read (Elt F) gd = DQv c XA arg2 arg3 X2 X3 ∧ xsm.view.read (Elt F) gx = k0_pay123 (arg6.view.read (Elt F) X6) ∧ rsm.view.read (Elt F) gr = k0_pay124 (arg7.view.read (Elt F) X7)
              ∧ OutOk (k0_pay123 (arg6.view.read (Elt F) X6)) (k0_pay124 (arg7.view.read (Elt F) X7)) (arg8.view.read (Elt F) X8) (arg5.view.read (Elt F) X5) k0_pay125
                (DQv c XA arg2 arg3 X2 X3) (arg4.view.read (Elt F) X4) (arg9.view.read (Elt F) g9) (arg10.view.read (Elt F) g10) (arg11.view.read (Elt F) g11) (arg12.view.read (Elt F) g12)⌝)) := by
  iintro ⟨H2, H3, H4, H5, H6, H7, H8, H9, H10, H11, H12, HD, Hx, Hr, HW, ⟨Hh0, Hh⟩, Hs0, Hs1, Hc0, Hc1⟩
  rw [cc0_dx_matmul_eq_skeleton]
  unfold cc0_dx_matmul_skel
  rw [k0_part30_eq_skeleton]
  unfold k0_part30_skel
  sl_exec
  ihave HI := (loop1_entry c XA i arg2 harg2 arg3 harg3 arg4 harg4 arg5 harg5 arg6 harg6 arg7 harg7 arg8 harg8 arg9 harg9 arg10 harg10 arg11 harg11 arg12 harg12 h1 X2 X3 fd W s0 s1 ()) $$ [H2 H3 HD HW Hh Hs1 Hc0 Hc1]
  · isplitl [H2]; · iexact H2
    isplitl [H3]; · iexact H3
    isplitl [HD]; · iexact HD
    isplitl [HW]; · iexact HW
    isplitl [Hh]; · iexact Hh
    isplitl [Hc0]; · iexact Hc0
    isplitl [Hs1]; · iexact Hs1
    iexact Hc1
  iapply (entails_of_eq (Idealize.SL.Sem.wp_bind _ _ _ _ _ _).symm)
  iapply (entails_of_eq (Idealize.SL.Sem.wp_bind _ _ _ _ _ _).symm)
  iapply (exec_loop_last _ _ _ _ _ _ _ _ _ (loop1 c XA i arg2 harg2 arg3 harg3 arg4 harg4 arg5 harg5 arg6 harg6 arg7 harg7 arg8 harg8 arg9 harg9 arg10 harg10 arg11 harg11 arg12 harg12 h1 X2 X3)) $$ [HI]
  · iexact HI
  iintro %acc HI
  ihave HI := (loop1_exit c XA i arg2 harg2 arg3 harg3 arg4 harg4 arg5 harg5 arg6 harg6 arg7 harg7 arg8 harg8 arg9 harg9 arg10 harg10 arg11 harg11 arg12 harg12 h1 X2 X3 acc) $$ HI
  icases HI with ⟨%gd, HD, %hgd, H2, H3, HW, Hh, Hs0, Hs1, Hc0, Hc1⟩
  ihave Hx := (hide (fun g => (xsm.view.loc (c : Thread nD τ) ↦[xsm.view.set]{fullShare} g)) _ (fun g => xsm.view.read (Elt F) g = k0_pay123 (arg6.view.read (Elt F) X6)) ((whole_read _ _ _).trans (congrArg k0_pay123 (row_read c arg6 X6 _)))) $$ Hx
  icases Hx with ⟨%gx, Hx, %hgx⟩
  ihave Hr := (hide (fun g => (rsm.view.loc (c : Thread nD τ) ↦[rsm.view.set]{fullShare} g)) _ (fun g => rsm.view.read (Elt F) g = k0_pay124 (arg7.view.read (Elt F) X7)) ((whole_read _ _ _).trans (congrArg k0_pay124 (row_read c arg7 X7 _)))) $$ Hr
  icases Hr with ⟨%gr, Hr, %hgr⟩
  ihave H11 := (hide (fun g => (arg11.view.loc (c : Thread nD τ) ↦[arg11.view.set]{fullShare} g)) _ (fun g => arg11.view.read (Elt F) g = k0_pay125) (whole_read _ _ _)) $$ H11
  icases H11 with ⟨%g11, H11, %hg11⟩
  iapply (entails_of_eq (Idealize.SL.Sem.wp_bind _ _ _ _ _ _).symm)
  ihave HI := (loop2_entry c i arg2 harg2 arg3 harg3 arg4 harg4 arg5 harg5 arg6 harg6 arg7 harg7 arg8 harg8 arg9 harg9 arg10 harg10 arg11 harg11 arg12 harg12 X4 gd f9 ()) $$ [H4 HD H9]
  · isplitl [H4]; · iexact H4
    isplitl [HD]; · iexact HD
    iexact H9
  iapply (exec_loop_last _ _ _ _ _ _ _ _ _ (loop2 c i arg2 harg2 arg3 harg3 arg4 harg4 arg5 harg5 arg6 harg6 arg7 harg7 arg8 harg8 arg9 harg9 arg10 harg10 arg11 harg11 arg12 harg12 X4 gd)) $$ [HI]
  · iexact HI
  iintro %acc HI
  ihave HI := (loop2_exit c i arg2 harg2 arg3 harg3 arg4 harg4 arg5 harg5 arg6 harg6 arg7 harg7 arg8 harg8 arg9 harg9 arg10 harg10 arg11 harg11 arg12 harg12 X4 gd acc) $$ HI
  icases HI with ⟨H4, HD, %g9, H9, %hg⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  isplitl [Hh]; · iexact Hh
  isplitl [Hs0]; · iexact Hs0
  isplitl [Hs1]; · iexact Hs1
  isplitl [Hc0]; · iexact Hc0
  isplitl [Hc1]; · iexact Hc1
  iexists gd; iexists gx; iexists gr; iexists _; iexists _; iexists _; iexists _
  isplitl [HD]; · iexact HD
  isplitl [Hx]; · iexact Hx
  isplitl [Hr]; · iexact Hr
  isplitl [H9]; · iexact H9
  isplitl [H10]; · iexact H10
  isplitl [H11]; · iexact H11
  isplitl [H12]; · iexact H12
  ipureintro
  refine ⟨hgd, hgx, hgr, ?_⟩
  rw [← hgd, ← hgx, ← hgr, ← hg11]
  unfold OutOk
  rw [← hg]
  refine ⟨rfl, xok_read _ _ _ _ _ ?_, gok_read _ _ _ _ _ _ _ ?_, dg_read _ _ _ _ _ _ ?_⟩
  · exact xok_cons _ _ _ _ 15 7 1 rfl rfl _ rfl (xok_cons _ _ _ _ 14 7 0 rfl rfl _ rfl (xok_cons _ _ _ _ 13 6 1 rfl rfl _ rfl (xok_cons _ _ _ _ 12 6 0 rfl rfl _ rfl (xok_cons _ _ _ _ 11 5 1 rfl rfl _ rfl (xok_cons _ _ _ _ 10 5 0 rfl rfl _ rfl (xok_cons _ _ _ _ 9 4 1 rfl rfl _ rfl (xok_cons _ _ _ _ 8 4 0 rfl rfl _ rfl (xok_cons _ _ _ _ 7 3 1 rfl rfl _ rfl (xok_cons _ _ _ _ 6 3 0 rfl rfl _ rfl (xok_cons _ _ _ _ 5 2 1 rfl rfl _ rfl (xok_cons _ _ _ _ 4 2 0 rfl rfl _ rfl (xok_cons _ _ _ _ 3 1 1 rfl rfl _ rfl (xok_cons _ _ _ _ 2 1 0 rfl rfl _ rfl (xok_cons _ _ _ _ 1 0 1 rfl rfl _ rfl (xok_cons _ _ _ _ 0 0 0 rfl rfl _ rfl (xok_nil _ _ _ _))))))))))))))))
  · exact gok_cons _ _ _ _ _ _ 7 rfl _ rfl (gok_cons _ _ _ _ _ _ 6 rfl _ rfl (gok_cons _ _ _ _ _ _ 5 rfl _ rfl (gok_cons _ _ _ _ _ _ 4 rfl _ rfl (gok_cons _ _ _ _ _ _ 3 rfl _ rfl (gok_cons _ _ _ _ _ _ 2 rfl _ rfl (gok_cons _ _ _ _ _ _ 1 rfl _ rfl (gok_cons _ _ _ _ _ _ 0 rfl _ rfl (gok_nil _ _ _ _ _ _))))))))
  · rfl

end First

end Cert.KernelIdeal.Own

end
-- ==== Proof.Run.KernelIdeal.Parts.lean ====
/-
  The first call's buffers in their pieces: the quantised output gradient is its sixteen chunks, the staging buffer
  its two slots, and the kernel's own two semaphores are the slots' cells.
-/
module

public import proofs.«01_k».proof.Proof.Run.KernelIdeal.Later
public import proofs.«01_k».proof.Proof.Run.KernelIdeal.First
public import proofs.«01_k».proof.Proof.Gen.KernelIdeal.Regions
public import Idealize.ShloMosaic.Lib.Pipeline.FrameBody
public import Idealize.ShloMosaic.Lib.Pipeline.FrameTail

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The kernel's own semaphores. -/
abbrev osem : Fin 2 → SemLoc sig := fun s => .dma (csm s).sem
theorem ownSemFacts : Pipeline.OwnSemFacts spec0 osem := by decide

/-! ## Element sets -/

abbrev GG (b : Fin 16) : Finset S2048x9216.Idx := (Rect.unit (s := S2048x9216) (chOff b) S128x9216.size (chOff_inb b)).set
abbrev SS (s : Fin 2) : Finset S2x128x9216.Idx := (Rect.unit (s := S2x128x9216) (slotOff s) S1x128x9216.size (slotOff_inb s)).set

theorem chunk_set (b : Fin 16) : (chunk b).view.set = GG b := View.set_slice_whole _ _
theorem slot_set (s : Fin 2) : (slot s).view.set = SS s := (View.set_reshape _ _).trans (View.set_slice_whole _ _)

theorem mem_GG (b : Fin 16) (y : S2048x9216.Idx) : y ∈ GG b ↔ (y 0).val / 128 = b.val := by
  rw [Rect.mem_set_unit]
  have h1 : (y 1).val < 9216 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 9216; omega
theorem mem_SS (s : Fin 2) (y : S2x128x9216.Idx) : y ∈ SS s ↔ (y 0).val = s.val := by
  rw [Rect.mem_set_unit]
  have h1 : (y 1).val < 128 := (y 1).isLt
  have h2 : (y 2).val < 9216 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 9216; omega
theorem GG_disjoint : ∀ b b' : Fin 16, b ≠ b' → Disjoint (GG b) (GG b') := by
  intro b b' hne; rw [Finset.disjoint_left]; intro y hy hy'; rw [mem_GG] at hy hy'; exact hne (Fin.ext (hy.symm.trans hy'))
theorem GG_cover : (Finset.univ : Finset (Fin 16)).biUnion GG = Finset.univ := by
  ext y; simp only [Finset.mem_biUnion, Finset.mem_univ, true_and, iff_true]
  have h0 : (y 0).val < 2048 := (y 0).isLt
  exact ⟨⟨(y 0).val / 128, by omega⟩, by rw [mem_GG]⟩
theorem SS_disjoint : ∀ s s' : Fin 2, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 2)).biUnion SS = Finset.univ := by
  ext y; simp only [Finset.mem_biUnion, Finset.mem_univ, true_and, iff_true]
  have h0 : (y 0).val < 2 := (y 0).isLt
  exact ⟨⟨(y 0).val, h0⟩, by rw [mem_SS]⟩

omit [FloatOps F] [Named F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] [Named F] in
/-- The array in HBM whole is its sixteen chunks home. -/
theorem v1_eq (c : Dev nD) (XA : Buf (Elt F) (hbm.view.loc (c : Thread nD τ))) :
    (((c : Thread nD τ).loc main_v1) ↦{fullShare} XA : sProp 𝕄) = bigSep Finset.univ (homeP c XA) := by
  rw [Ring.pointsTo_blocks (ℓ := (c : Thread nD τ).loc main_v1) GG GG_disjoint GG_cover]
  exact bigSep_congr fun b _ => by rw [← chunk_set]; rfl

omit [FloatOps F] [Named F] in
/-- All chunks home: the first apart from the rest. -/
theorem homes_zero (c : Dev nD) (XA : Buf (Elt F) (hbm.view.loc (c : Thread nD τ))) :
    bigSep (Finset.univ : Finset (Fin 16)) (homeP c XA) = iprop(homeP c XA 0 ∗ bigSep ((Finset.univ : Finset (Fin 16)).erase 0) (homeP c XA)) := by
  conv_lhs => rw [← Finset.insert_erase (Finset.mem_univ (0 : Fin 16))]
  rw [bigSep_insert (by simp)]; rfl

omit [FloatOps F] [Named F] in
theorem slotP_eq (c : Dev nD) (s : Fin 2) (f) : slotP c s f = (((c : Thread nD τ).loc cc0_scratch1) ↦[SS s]{fullShare} f : sProp 𝕄) :=
  congrArg (fun S => (_ ↦[S]{fullShare} f : sProp 𝕄)) (slot_set s)
/-- The staging buffer whole is its two slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) SS SS_disjoint SS_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SS SS_disjoint SS_cover f0)
  irw [bigSep_fin2]
  isplitl [H0]
  · iexists f0; iapply (entails_of_eq (slotP_eq c 0 f0)); iexact H0
  · iexists f1; iapply (entails_of_eq (slotP_eq c 1 f1)); iexact H1

omit [FloatOps F] [Named F] in
/-- The kernel's own cells at zero are the two slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]

/-! ## The other scoped buffers -/

/-- A scoped buffer whole at some contents. -/
abbrev anyP (c : Dev nD) (r : Ref sig .tc) : sProp 𝕄 := iprop(∃ f : Buf (Elt F) ((c : Thread nD τ).loc r), ((c : Thread nD τ).loc r) ↦{fullShare} f)

/-- The scoped buffers of the second call. -/
def rest0 (c : Dev nD) : sProp 𝕄 := iprop(anyP c cc1_stg0_0 ∗ anyP c cc1_stg1_0 ∗ anyP c cc1_stg1_1 ∗ anyP c cc1_stg2_0 ∗ anyP c cc1_stg3_0 ∗ anyP c cc1_stg3_1 ∗ anyP c cc1_stg4_0 ∗ anyP c cc1_stg4_1 ∗ anyP c cc1_stg5_0 ∗ anyP c cc1_stg5_1 ∗ anyP c cc1_stg6_0 ∗ anyP c cc1_stg6_1 ∗ anyP c cc1_stg7_0 ∗ anyP c cc1_stg8_0 ∗ anyP c cc1_stg8_1 ∗ anyP c cc1_stg9_0 ∗ anyP c cc1_stg9_1 ∗ anyP c cc1_stg10_0 ∗ anyP c cc1_stg10_1 ∗ anyP c cc1_scratch0)
omit [FloatOps F] [Named F] in
theorem scoped0_eq (c : Dev nD) : (Pipeline.scopedRest (Ix := Unit) (Name := ℕ) (U := UU nD τ) (Lvl := ℕ) (Val := Elt F) spec0 c : sProp 𝕄)
    = iprop(anyP c cc0_scratch0 ∗ anyP c cc0_scratch1 ∗ anyP c cc0_scratch2 ∗ anyP c cc0_scratch3 ∗ rest0 c) := by
  rw [scopedRest0_eq]; rfl

end Cert.KernelIdeal.Own

end
-- ==== Proof.Run.KernelIdeal.Dat0.lean ====
/-
  The first call as a pipeline: what each window's buffer holds after each of the 28 grid points, what the
  kernel's own buffers hold between points, and the body's triple at every point.
-/
module

public import proofs.«01_k».proof.Proof.Run.KernelIdeal.Parts

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (V : Dev nD → Valuation τ sig (Elt F))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point `n` of the grid (past the end, some point). -/
def pt (n : ℕ) : Fin cfg0.N := ⟨n % 28, by rw [show cfg0.N = 28 from N_0]; omega⟩
theorem pt_val (t : Fin cfg0.N) : pt t.val = t := Fin.ext (Nat.mod_eq_of_lt (lt_of_lt_of_eq t.isLt N_0))

/-- The array the kernel keeps in HBM. -/
abbrev XA (c : Dev nD) : Buf (Elt F) (hbm.view.loc (c : Thread nD τ)) := V c main_v1

/-- The dequantised gradient, `x`'s scales and `rstd` as the kernel's scratch keeps them after the first point. -/
def dq0 (c : Dev nD) : FVec F S2048x9216 .bf16 := DQ (blk0 V c 0 (pt 0)) (blk0 V c 1 (pt 0)) (hbm.view.read (Elt F) (XA V c))
def xs0 (c : Dev nD) : FVec F S2048x128 .f32 := k0_pay123 (blk0 V c 4 (pt 0))
def rs0 (c : Dev nD) : FVec F S2048x128 .f32 := k0_pay124 (blk0 V c 5 (pt 0))

/-- The point's stretch of the gradient of the normalised input, before the norm's own correction. -/
def mm0 (c : Dev nD) (t : Fin cfg0.N) : FVec F S2048x256 .f32 := MM (dq0 V c) (blk0 V c 2 t)
/-- The correction's running sum before point `n`. -/
def gn0 (c : Dev nD) : ℕ → FVec F S2048x128 .f32
  | 0 => k0_pay125
  | n + 1 => GN (xs0 V c) (rs0 V c) (blk0 V c 6 (pt n)) (blk0 V c 3 (pt n)) (mm0 V c (pt n)) (gn0 c n)

/-- What the kernel's own buffers hold between points. -/
def Φ0 (c : Dev nD) (t : Fin (cfg0.N + 1)) : sProp 𝕄 :=
  iprop(bigSep Finset.univ (homeP c (XA V c)) ∗ (∃ f, slotP c 0 f) ∗ (∃ f, slotP c 1 f) ∗ cellP c 0 ∗ cellP c 1
    ∗ (∃ gd gx gr, dqP c gd ∗ (xsm.view.loc (c : Thread nD τ) ↦[xsm.view.set]{fullShare} gx) ∗ (rsm.view.loc (c : Thread nD τ) ↦[rsm.view.set]{fullShare} gr)
        ∗ ⌜t.val ≠ 0 → dqm.view.read (Elt F) gd = dq0 V c ∧ xsm.view.read (Elt F) gx = xs0 V c ∧ rsm.view.read (Elt F) gr = rs0 V c⌝)
    ∗ rest0 c)

/-- The pipeline's proof data. -/
def dat0 (c : Dev nD) : Dat τ (Elt F) Unit ℕ (UU nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => mm0 V c t
    | ⟨8, _⟩ => XHT (xs0 V c) (rs0 V c) (blk0 V c 6 t) (blk0 V c 3 t)
    | ⟨9, _⟩ => gn0 V c (t.val + 1)
    | ⟨10, _⟩ => DG (xs0 V c) (rs0 V c) (blk0 V c 3 t) (mm0 V c t)
  Φ t := Φ0 V c t
  q _ := fullShare
  owed _ := 0

theorem A0_eq (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = mm0 V c t := by dsimp only [dat0]
theorem after0_8 (c : Dev nD) (t : Fin cfg0.N) : (dat0 V c).after 8 t = XHT (xs0 V c) (rs0 V c) (blk0 V c 6 t) (blk0 V c 3 t) := by dsimp only [dat0]
theorem after0_9 (c : Dev nD) (t : Fin cfg0.N) : (dat0 V c).after 9 t = gn0 V c (t.val + 1) := by dsimp only [dat0]
theorem after0_10 (c : Dev nD) (t : Fin cfg0.N) : (dat0 V c).after 10 t = DG (xs0 V c) (rs0 V c) (blk0 V c 3 t) (mm0 V c t) := by dsimp only [dat0]

/-- Each input's buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
/-- The correction's buffer holds the running sum: the point before left it there. -/
theorem before0_9 (c : Dev nD) (t : Fin cfg0.N) (ht : t.val ≠ 0) (d) : (dat0 V c).before 9 t d = gn0 V c t.val := by
  have hN : t.val < 28 := lt_of_lt_of_eq t.isLt N_0
  rw [(dat0 V c).before_of_pos 9 t ht ((cfg0.win 9).fetch_out rfl _), if_neg]
  · show (dat0 V c).kept 9 _ d = _
    unfold Dat.kept
    show (dat0 V c).after 9 _ = _
    rw [after0_9]
    show gn0 V c (t.val - 1 + 1) = _
    rw [Nat.sub_add_cancel (by omega)]
  · intro h
    have := (flush0_9 _).mp h
    have h' : (t.val - 1) % 28 = 27 := this
    omega

theorem hcond0 : ∀ t : Fin cfg0.N, k0_cond1 (grid0.coords t) = 1#1 ↔ t.val = 0 :=
  (by decide +kernel : ∀ t : Fin grid0.N, k0_cond1 (grid0.coords t) = 1#1 ↔ t.val = 0)

theorem defs0_row (t : Fin cfg0.N) : defs₀ (F := F) .tc cfg0.body (cfg0.bodyArgs t (cfg0.slots t)) = bodyAt0 t := by
  unfold defs₀; rw [Defs.onTc_tc]

end Cert.KernelIdeal.Own

end
-- ==== Proof.Run.KernelIdeal.Body0.lean ====
/-
  The first call's body at every grid point: the first point's run and the later points' run, restated over the
  pipeline's windows.
-/
module

public import proofs.«01_k».proof.Proof.Run.KernelIdeal.Dat0

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (V : Dev nD → Valuation τ sig (Elt F))

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d)))
/-- and what it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t))

theorem Φ0_eq (c : Dev nD) (t : Fin (cfg0.N + 1)) : (dat0 V c).Φ t = Φ0 V c t := by dsimp only [dat0]
theorem owed0_eq (c : Dev nD) (t : Fin (cfg0.N + 1)) : (dat0 V c).owed t = 0 := by dsimp only [dat0]

set_option maxHeartbeats 2000000 in
/-- The first point. -/
theorem sound_first (c : Dev nD) (t : Fin cfg0.N) (ht : t.val = 0) :
    bodyPre0 V c t ⊢ wp frame (wpE (defs₀ (F := F)) 𝒱₀ c none) Set.univ (bodyAt0 t) (fun _ => bodyPost0 V c t) := by
  obtain rfl : t = pt 0 := Fin.ext ht
  unfold bodyPre0 bodyPost0 bodyAt0
  simp only [before0_0, before0_1, before0_2, before0_3, before0_4, before0_5, before0_6, after0_0, after0_1, after0_2, after0_3, after0_4, after0_5, after0_6, after0_7, after0_8, after0_9, after0_10]
  rw [Φ0_eq, Φ0_eq]
  unfold Dat.owesAt Pipeline.owesWithin
  rw [owed0_eq, owed0_eq]
  unfold owns Φ0
  iintro ⟨⟨Hh, ⟨%s0, Hs0⟩, ⟨%s1, Hs1⟩, Hc0, Hc1, ⟨%fd, %fx, %fr, HD, Hx, Hr, %hs⟩, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  ihave Hh := (entails_of_eq (homes_zero c (XA V c))) $$ Hh
  iapply wp_wand_r
  isplitl [H0 H1 H2 H3 H4 H5 H6 H7 H8 H9 H10 HD Hx Hr HW Hh Hs0 Hs1 Hc0 Hc1]
  · iapply (first c (XA V c) (grid0.coords (pt 0)) (win0_0.stage (cfg0.slots (pt 0) 0)) (hstage0_0 ((cfg0.slots (pt 0) 0).cast nbuf0_0)) (win0_1.stage (cfg0.slots (pt 0) 1)) (hstage0_1 ((cfg0.slots (pt 0) 1).cast nbuf0_1)) (win0_2.stage (cfg0.slots (pt 0) 2)) (hstage0_2 ((cfg0.slots (pt 0) 2).cast nbuf0_2)) (win0_3.stage (cfg0.slots (pt 0) 3)) (hstage0_3 ((cfg0.slots (pt 0) 3).cast nbuf0_3)) (win0_4.stage (cfg0.slots (pt 0) 4)) (hstage0_4 ((cfg0.slots (pt 0) 4).cast nbuf0_4)) (win0_5.stage (cfg0.slots (pt 0) 5)) (hstage0_5 ((cfg0.slots (pt 0) 5).cast nbuf0_5)) (win0_6.stage (cfg0.slots (pt 0) 6)) (hstage0_6 ((cfg0.slots (pt 0) 6).cast nbuf0_6)) (win0_7.stage (cfg0.slots (pt 0) 7)) (hstage0_7 ((cfg0.slots (pt 0) 7).cast nbuf0_7)) (win0_8.stage (cfg0.slots (pt 0) 8)) (hstage0_8 ((cfg0.slots (pt 0) 8).cast nbuf0_8)) (win0_9.stage (cfg0.slots (pt 0) 9)) (hstage0_9 ((cfg0.slots (pt 0) 9).cast nbuf0_9)) (win0_10.stage (cfg0.slots (pt 0) 10)) (hstage0_10 ((cfg0.slots (pt 0) 10).cast nbuf0_10))
      ((hcond0 (pt 0)).mpr rfl) f0 f1 f2 f3 f4 f5 f6 f7 f8 f9 f10 fd fx fr W s0 s1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HD]; · iexact HD
    isplitl [Hx]; · iexact Hx
    isplitl [Hr]; · iexact Hr
    isplitl [HW]; · iexact HW
    isplitl [Hh]; · iexact Hh
    isplitl [Hs0]; · iexact Hs0
    isplitl [Hs1]; · iexact Hs1
    isplitl [Hc0]; · iexact Hc0
    iexact Hc1
  iintro %a ⟨H0, H1, H2, H3, H4, H5, H6, ⟨%W', HW⟩, Hh, ⟨%s0', Hs0⟩, ⟨%s1', Hs1⟩, Hc0, Hc1, %gd, %gx, %gr, %g7, %g8, %g9, %g10, HD, Hx, Hr, H7, H8, H9, H10, %hpost⟩
  obtain ⟨hd, hx, hr, o7, o8, o9, o10⟩ := hpost
  have hD : dqm.view.read (Elt F) gd = dq0 V c := hd.trans (by show DQ _ _ _ = DQ _ _ _; rw [h0, h1])
  have hX : xsm.view.read (Elt F) gx = xs0 V c := hx.trans (by rw [h4]; rfl)
  have hR : rsm.view.read (Elt F) gr = rs0 V c := hr.trans (by rw [h5]; rfl)
  rw [← hd, hD, h2] at o7
  rw [← hx, ← hr, hX, hR, h6, h3] at o8
  rw [← hd, ← hx, ← hr, hX, hR, hD, h6, h3, h2] at o9
  rw [← hd, ← hx, ← hr, hX, hR, hD, h3, h2] at o10
  isplitl [Hh Hs0 Hs1 Hc0 Hc1 HD Hx Hr HR]
  · isplitl [Hh]; · iexact Hh
    isplitl [Hs0]; · iexists _; iexact Hs0
    isplitl [Hs1]; · iexists _; iexact Hs1
    isplitl [Hc0]; · iexact Hc0
    isplitl [Hc1]; · iexact Hc1
    isplitl [HD Hx Hr]
    · iexists gd; iexists gx; iexists gr
      isplitl [HD]; · iexact HD
      isplitl [Hx]; · iexact Hx
      isplitl [Hr]; · iexact Hr
      ipureintro; exact fun _ => ⟨hD, hX, hR⟩
    iexact HR
  isplitl [HW]
  · iexists W'; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact o7
    iexact H7
  isplitl [H8]
  · iexists _; isplitr; · ipureintro; exact o8
    iexact H8
  isplitl [H9]
  · iexists _; isplitr; · ipureintro; exact o9
    iexact H9
  iexists _; isplitr
  · ipureintro; exact o10
  iexact H10

set_option maxHeartbeats 2000000 in
/-- A later point. -/
theorem sound_later (c : Dev nD) (t : Fin cfg0.N) (ht : t.val ≠ 0) :
    bodyPre0 V c t ⊢ wp frame (wpE (defs₀ (F := F)) 𝒱₀ c none) Set.univ (bodyAt0 t) (fun _ => bodyPost0 V c t) := by
  unfold bodyPre0 bodyPost0 bodyAt0
  simp only [before0_9 V c t ht, before0_0, before0_1, before0_2, before0_3, before0_4, before0_5, before0_6, after0_0, after0_1, after0_2, after0_3, after0_4, after0_5, after0_6, after0_7, after0_8, after0_9, after0_10]
  rw [Φ0_eq, Φ0_eq]
  unfold Dat.owesAt Pipeline.owesWithin
  rw [owed0_eq, owed0_eq]
  unfold owns Φ0
  iintro ⟨⟨Hh, ⟨%s0, Hs0⟩, ⟨%s1, Hs1⟩, Hc0, Hc1, ⟨%fd, %fx, %fr, HD, Hx, Hr, %hs⟩, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  iapply wp_wand_r
  obtain ⟨hD, hX, hR⟩ := hs ht
  isplitl [H2 H3 H6 H7 H8 H9 H10 HD Hx Hr]
  · iapply (later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
      (fun h => ht ((hcond0 t).mp h)) f2 f3 f6 f7 f8 f9 f10 fd fx fr)
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [HD]; · iexact HD
    isplitl [Hx]; · iexact Hx
    iexact Hr
  iintro %a ⟨H2, H3, H6, HD, Hx, Hr, %g7, %g8, %g9, %g10, H7, H8, H9, H10, %hpost⟩
  obtain ⟨o7, o8, o9, o10⟩ := hpost
  rw [hD, h2] at o7
  rw [hX, hR, h6, h3] at o8
  rw [hX, hR, hD, h6, h3, h2, h9] at o9
  rw [hX, hR, hD, h3, h2] at o10
  have o9' : (win0_9.stage (cfg0.slots t 9)).view.read (Elt F) g9 = gn0 V c (t.val + 1) := by
    rw [o9]; show _ = GN _ _ (blk0 V c 6 (pt t.val)) (blk0 V c 3 (pt t.val)) (mm0 V c (pt t.val)) _; rw [pt_val]; rfl
  isplitl [Hh Hs0 Hs1 Hc0 Hc1 HD Hx Hr HR]
  · isplitl [Hh]; · iexact Hh
    isplitl [Hs0]; · iexists _; iexact Hs0
    isplitl [Hs1]; · iexists _; iexact Hs1
    isplitl [Hc0]; · iexact Hc0
    isplitl [Hc1]; · iexact Hc1
    isplitl [HD Hx Hr]
    · iexists fd; iexists fx; iexists fr
      isplitl [HD]; · iexact HD
      isplitl [Hx]; · iexact Hx
      isplitl [Hr]; · iexact Hr
      ipureintro; exact fun _ => ⟨hD, hX, hR⟩
    iexact HR
  isplitl [HW]
  · iexists W; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact o7
    iexact H7
  isplitl [H8]
  · iexists _; isplitr; · ipureintro; exact o8
    iexact H8
  isplitl [H9]
  · iexists _; isplitr; · ipureintro; exact o9'
    iexact H9
  iexists _; isplitr
  · ipureintro; exact o10
  iexact H10

/-- The body at any point. -/
theorem sound0 (c : Dev nD) (t : Fin cfg0.N) :
    bodyPre0 V c t ⊢ wp frame (wpE (defs₀ (F := F)) 𝒱₀ c none) Set.univ (bodyAt0 t) (fun _ => bodyPost0 V c t) := by
  by_cases ht : t.val = 0
  · exact sound_first V c t ht
  · exact sound_later V c t ht

/-- The library's body obligation, at every point. -/
theorem body_obligation0 (c : Dev nD) : BodyObligation (dat0 (F := F) V c) (defs₀ (F := F)) 𝒱₀ () Set.univ := fun t => by
  rw [bigSep_W0, bigSep_W0, defs0_row]
  exact triple_restated (sound0 V c t) rfl .rfl fun _ => .rfl

end Cert.KernelIdeal.Own

end
-- ==== Proof.Run.KernelIdeal.Run1.lean ====
/-
  The second call's body at one grid point: at the first of a column's four points it dequantises the column's
  gradient into its scratch; at every point it multiplies a slab by that scratch; at the first sixty-four points it
  also writes thirty-two rows of the gradient of the input.
-/
module

public import proofs.«01_k».proof.Proof.Run.KernelIdeal.Heads

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section General

variable {c : Dev nD} {ms : Space} {s : Shape} {e : EltTy}

omit [FloatOps F] [Named F] in
/-- A load of a whole view reads it; -/
theorem full_readAt (v : View sig .tc ms s e) (o : Fin s.rank → ℕ) (ho : ∀ a, o a = 0) (i : ∀ a, o a + s.size a ≤ s.size a) (f : BufTy.Contents (Elt F) v.ty) :
    v.readAt (Elt F) (Rect.unit (s := s) o s.size i).toLoadRect f = v.read (Elt F) f := by
  funext z
  rw [View.readAt_apply]; congr 1; funext a; refine Fin.ext ?_
  show o a + 1 * (z a).val = (z a).val
  rw [ho a]; omega

omit [FloatOps F] [Named F] in
/-- a store over a whole view leaves what it stored. -/
theorem full_write (v : View sig .tc ms s e) (o : Fin s.rank → ℕ) (ho : ∀ a, o a = 0) (i : ∀ a, o a + s.size a ≤ s.size a) (f : BufTy.Contents (Elt F) v.ty) (p : s.Idx → Elt F e) :
    v.read (Elt F) (v.writes (Elt F) f [⟨Rect.unit (s := s) o s.size i, p⟩]) = p := by
  funext y
  refine View.read_writes_apply_of_pieces _ _ _ _ (fun q hq z => ?_) y ⟨_, List.mem_cons_self, ?_⟩
  · obtain rfl := List.mem_singleton.mp hq
    show p z = p _
    congr 1; funext a; refine Fin.ext ?_
    rw [Rect.emb_apply]
    show (z a).val = o a + 1 * (z a).val
    rw [ho a]; omega
  · refine (Rect.mem_set_unit (inb := i)).2 fun a => ?_
    rw [ho a]; exact ⟨Nat.zero_le _, by have := (y a).isLt; omega⟩

end General

theorem off00 : ∀ a, (![0, 0] : Fin 2 → ℕ) a = 0 := by decide

/-- Columns `128 J` to `128 J + 127` of a column block of the gradient's codes. -/
def cblk (d : Vec F S2048x512 .fp8e5m2) (J : Fin 4) : Vec F S2048x128 .fp8e5m2 := fun z =>
  d (ix2 (z 0) ⟨128 * J.val + (z 1).val, by have h : (z 1).val < 128 := (z 1).isLt; have := J.isLt; omega⟩)

/-- What a column's first point stores in columns `128 J` of the scratch. -/
def dwPay (i : grid1.Coords) (sc : Vec F S2048x128 .f32) (d : Vec F S2048x512 .fp8e5m2) (J : Fin 4) : FVec F S2048x128 .bf16 :=
  match J with
  | 0 => k1_pay5 (BitVec.ofNat 32 (i 0).val) sc (cblk d 0)
  | 1 => k1_pay6 (BitVec.ofNat 32 (i 0).val) sc (cblk d 1)
  | 2 => k1_pay7 (BitVec.ofNat 32 (i 0).val) sc (cblk d 2)
  | 3 => k1_pay1 (k1_pay8 (BitVec.ofNat 32 (i 0).val) sc) (cblk d 3)
/-- The scratch after a column's first point. -/
def DW (i : grid1.Coords) (sc : Vec F S2048x128 .f32) (d : Vec F S2048x512 .fp8e5m2) : FVec F S2048x512 .bf16 := fun y =>
  dwPay i sc d ⟨(y 1).val / 128, by have h : (y 1).val < 512 := (y 1).isLt; omega⟩ (ix2 (y 0) ⟨(y 1).val % 128, Nat.mod_lt _ (by decide)⟩)

theorem cblk_read (m : Memref sig .tc .vmem S2048x512 .fp8e5m2) (f : BufTy.Contents (Elt F) m.view.ty) (J : Fin 4) (o : Fin 2 → ℕ) (e : o = ![0, 128 * J.val]) (i : ∀ a, o a + S2048x128.size a ≤ S2048x512.size a) :
    m.view.readAt (Elt F) (Rect.unit (s := S2048x512) o S2048x128.size i).toLoadRect f = cblk (m.view.read (Elt F) f) J := by
  subst e
  funext z
  rw [View.readAt_apply]; show m.view.read (Elt F) f _ = m.view.read (Elt F) f _
  congr 1; funext a; refine Fin.ext ?_; fin_cases a
  · show 0 + 1 * (z 0).val = (z 0).val; omega
  · show 128 * J.val + 1 * (z 1).val = 128 * J.val + (z 1).val; omega

section Cols

variable (i : grid1.Coords) (sc : Vec F S2048x128 .f32) (d : Vec F S2048x512 .fp8e5m2)

/-- A list of pieces holding `DW` on the first `n` blocks of columns. -/
def DOk (n : ℕ) (L : List (View.Piece (Elt F) S2048x512 .bf16)) : Prop :=
  (∀ p ∈ L, ∀ z, p.2 z = DW i sc d (p.1.emb z)) ∧ ∀ y : S2048x512.Idx, (y 1).val / 128 < n → ∃ p ∈ L, y ∈ p.1.set

theorem dok_nil : DOk i sc d 0 ([] : List (View.Piece (Elt F) S2048x512 .bf16)) :=
  ⟨fun _ h => absurd h List.not_mem_nil, fun y h => absurd h (Nat.not_lt_zero _)⟩

theorem dok_cons (n : ℕ) (J : Fin 4) (hn : n = J.val) {o : Fin 2 → ℕ} (e : o = ![0, 128 * J.val]) (ib : ∀ a, o a + S2048x128.size a ≤ S2048x512.size a)
    {v : FVec F S2048x128 .bf16} (hv : v = dwPay i sc d J) {L : List (View.Piece (Elt F) S2048x512 .bf16)} (hL : DOk i sc d n L) :
    DOk i sc d (n + 1) (⟨Rect.unit (s := S2048x512) o S2048x128.size ib, v⟩ :: L) := by
  have f0 : o 0 = 0 := congrFun e 0
  have f1 : o 1 = 128 * J.val := congrFun e 1
  refine ⟨fun p hp => ?_, fun y hy => ?_⟩
  · rcases List.mem_cons.mp hp with rfl | hp
    · intro z
      have hz1 : (z 1).val < 128 := (z 1).isLt
      have e0 : ((Rect.unit (s := S2048x512) o S2048x128.size ib).emb z 0).val = (z 0).val := by
        rw [Rect.emb_apply]; show o 0 + 1 * (z 0).val = _; omega
      have e1 : ((Rect.unit (s := S2048x512) o S2048x128.size ib).emb z 1).val = 128 * J.val + (z 1).val := by
        rw [Rect.emb_apply]; show o 1 + 1 * (z 1).val = _; omega
      show v z = DW i sc d _
      rw [hv]
      unfold DW
      congr 1
      · congr 1; refine Fin.ext ?_; show J.val = _ / 128; rw [e1]; omega
      · funext a; refine Fin.ext ?_; fin_cases a
        · exact e0.symm
        · show (z 1).val = _ % 128; rw [e1]; omega
    · exact hL.1 p hp
  · by_cases h : (y 1).val / 128 < n
    · obtain ⟨p, hp, hm⟩ := hL.2 y h
      exact ⟨p, List.mem_cons_of_mem _ hp, hm⟩
    · refine ⟨_, List.mem_cons_self, (Rect.mem_set_unit (inb := ib)).2 fun a => ?_⟩
      have h0 : (y 0).val < 2048 := (y 0).isLt
      fin_cases a
      · show o 0 ≤ (y 0).val ∧ (y 0).val < o 0 + 2048; omega
      · show o 1 ≤ (y 1).val ∧ (y 1).val < o 1 + 128; omega

theorem dok_read {s : View sig .tc .vmem S2048x512 .bf16} (f : BufTy.Contents (Elt F) s.ty) {L : List (View.Piece (Elt F) S2048x512 .bf16)} (hL : DOk i sc d 4 L) :
    s.read (Elt F) (s.writes (Elt F) f L) = DW i sc d := by
  funext y
  exact View.read_writes_apply_of_pieces _ _ _ L hL.1 y (hL.2 y (by have h1 : (y 1).val < 512 := (y 1).isLt; omega))

theorem dok_cov {s : View sig .tc .vmem S2048x512 .bf16} {L : List (View.Piece (Elt F) S2048x512 .bf16)} (hL : DOk i sc d 4 L) (ib : ∀ a, (![0, 0] : Fin 2 → ℕ) a + S2048x512.size a ≤ S2048x512.size a) :
    s.readCov L (Rect.unit (s := S2048x512) ![0, 0] S2048x512.size ib).toLoadRect = DW i sc d := by
  rw [View.readCov_eq_canon']
  funext x
  have h1 : (x 1).val < 512 := (x 1).isLt
  have e : (Rect.unit (s := S2048x512) ![0, 0] S2048x512.size ib).toLoadRect.idx x = x := by
    funext a; refine Fin.ext ?_; fin_cases a
    · show 0 + 1 * (x 0).val = (x 0).val; omega
    · show 0 + 1 * (x 1).val = (x 1).val; omega
  have e' : ∀ y : S2048x512.Idx, ∃ q ∈ L, y ∈ q.1.set := fun y => hL.2 y (by have h1 : (y 1).val < 512 := (y 1).isLt; omega)
  rw [View.canon_apply_of_pieces (DW i sc d) L hL.1 _ (e' _), e]

end Cols

/-- Rows `1792 k` to `1792 k + 1791` of the transposed normalised input, `k` the point's second coordinate. -/
def slab (i : grid1.Coords) (x : Vec F S7168x2048 .bf16) : Vec F S1792x2048 .bf16 := fun z =>
  x ((Rect.unit (s := S7168x2048) (k1_off1 i) S1792x2048.size (k1_off1_inb i)).toLoadRect.idx z)

theorem slab_read (i : grid1.Coords) (m : Memref sig .tc .vmem S7168x2048 .bf16) (f : BufTy.Contents (Elt F) m.view.ty) (ib : ∀ a, k1_off1 i a + S1792x2048.size a ≤ S7168x2048.size a) :
    m.view.readAt (Elt F) (Rect.unit (s := S7168x2048) (k1_off1 i) S1792x2048.size ib).toLoadRect f = slab i (m.view.read (Elt F) f) := by
  funext z; exact View.readAt_apply ..

/-- Whether the point is a column's first. -/
abbrev cond1 (i : grid1.Coords) : Prop := (Scalar.cmpi .ne (Scalar.extui (Scalar.cmpi .eq (BitVec.ofNat 32 (i 1).val) 0#32)) 0#32) = 1#1

section Run

variable (c : Dev nD) (i : grid1.Coords)
  (arg2 : Memref sig .tc .vmem S7168x2048 .bf16) (harg2 : arg2.IsWhole) (arg3 : Memref sig .tc .vmem S2048x512 .fp8e5m2) (harg3 : arg3.IsWhole) (arg4 : Memref sig .tc .vmem S2048x128 .f32) (harg4 : arg4.IsWhole) (arg5 : Memref sig .tc .vmem S32x7168 .f32) (harg5 : arg5.IsWhole) (arg6 : Memref sig .tc .vmem S32x7168 .fp8e4m3) (harg6 : arg6.IsWhole) (arg7 : Memref sig .tc .vmem S32x1 .f32) (harg7 : arg7.IsWhole) (arg8 : Memref sig .tc .vmem S32x1 .f32) (harg8 : arg8.IsWhole) (arg9 : Memref sig .tc .vmem S1x7168 .f32) (harg9 : arg9.IsWhole) (arg10 : Memref sig .tc .vmem S32x128 .f32) (harg10 : arg10.IsWhole) (arg11 : Memref sig .tc .vmem S1792x512 .f32) (harg11 : arg11.IsWhole) (arg12 : Memref sig .tc .vmem S32x7168 .bf16) (harg12 : arg12.IsWhole) (arg13 : Memref sig .tc .vmem S2048x512 .bf16) (harg13 : arg13.IsWhole)

set_option maxHeartbeats 2000000 in
/-- The body's run at one grid point, whichever of its two conditions hold. -/
theorem run1 (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ))) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
    ⊢ wp frame (wpE (defs₀ (F := F)) 𝒱₀ (c : Thread nD τ) none) Set.univ (cc1_dw_matmul (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ ∃ g11 g12 g13, (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13)
          ∗ ⌜(cond1 i → (arg13.view.read (Elt F) g13) = DW i (arg4.view.read (Elt F) X4) (arg3.view.read (Elt F) X3)) ∧ (¬ cond1 i → g13 = f13)
            ∧ (arg11.view.read (Elt F) g11) = k1_pay2 (slab i (arg2.view.read (Elt F) X2)) (arg13.view.read (Elt F) g13)
            ∧ (k1_cond2 i = 1#1 → (arg12.view.read (Elt F) g12) = k1_pay3 (arg10.view.read (Elt F) X10) (arg8.view.read (Elt F) X8) (arg6.view.read (Elt F) X6) (arg7.view.read (Elt F) X7) (arg5.view.read (Elt F) X5) (arg9.view.read (Elt F) X9)) ∧ (¬ k1_cond2 i = 1#1 → g12 = f12)⌝)) := by
  by_cases hc0 : cond1 i <;> by_cases hc1 : k1_cond2 i = 1#1
  all_goals
    rw [cc1_dw_matmul_eq_skeleton]
    unfold cc1_dw_matmul_skel
    iintro ⟨H2, H3, H4, H5, H6, H7, H8, H9, H10, H11, H12, H13⟩
    try rw [k1_part1_eq_skeleton]
    try unfold k1_part1_skel
    sl_exec (disch := first | sl_exact hc0 | sl_exact hc1)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _
    isplitl [H11]; · iexact H11
    isplitl [H12]; · iexact H12
    isplitl [H13]; · iexact H13
    ipureintro
  · have hd : DOk i (arg4.view.read (Elt F) X4) (arg3.view.read (Elt F) X3) 4 (run1.sl.H13_4 c i arg3 arg4 X3 X4) :=
      dok_cons i _ _ 3 3 rfl rfl _ (by rw [full_readAt _ _ off00, cblk_read _ _ 3 ![0, 384] rfl]; rfl) (dok_cons i _ _ 2 2 rfl rfl _ (by rw [full_readAt _ _ off00, cblk_read _ _ 2 ![0, 256] rfl]; rfl)
        (dok_cons i _ _ 1 1 rfl rfl _ (by rw [full_readAt _ _ off00, cblk_read _ _ 1 ![0, 128] rfl]; rfl) (dok_cons i _ _ 0 0 rfl rfl _ (by rw [full_readAt _ _ off00, cblk_read _ _ 0 ![0, 0] rfl]; rfl) (dok_nil i _ _))))
    refine ⟨fun _ => dok_read i _ _ f13 hd, fun h => absurd hc0 h, ?_, fun _ => ?_, fun h => absurd hc1 h⟩
    · rw [full_write _ _ off00, slab_read, dok_read i _ _ f13 hd]
      exact congrArg _ (dok_cov i _ _ hd _)
    · rw [full_write _ _ off00]
      rw [full_readAt _ _ off00, full_readAt _ _ off00, full_readAt _ _ off00, full_readAt _ _ off00, full_readAt _ _ off00, full_readAt _ _ off00]
  · have hd : DOk i (arg4.view.read (Elt F) X4) (arg3.view.read (Elt F) X3) 4 (run1.sl.H13_4_1 c i arg3 arg4 X3 X4) :=
      dok_cons i _ _ 3 3 rfl rfl _ (by rw [full_readAt _ _ off00, cblk_read _ _ 3 ![0, 384] rfl]; rfl) (dok_cons i _ _ 2 2 rfl rfl _ (by rw [full_readAt _ _ off00, cblk_read _ _ 2 ![0, 256] rfl]; rfl)
        (dok_cons i _ _ 1 1 rfl rfl _ (by rw [full_readAt _ _ off00, cblk_read _ _ 1 ![0, 128] rfl]; rfl) (dok_cons i _ _ 0 0 rfl rfl _ (by rw [full_readAt _ _ off00, cblk_read _ _ 0 ![0, 0] rfl]; rfl) (dok_nil i _ _))))
    refine ⟨fun _ => dok_read i _ _ f13 hd, fun h => absurd hc0 h, ?_, fun h => absurd h hc1, fun _ => rfl⟩
    · rw [full_write _ _ off00, slab_read, dok_read i _ _ f13 hd]
      exact congrArg _ (dok_cov i _ _ hd _)
  · refine ⟨fun h => absurd h hc0, fun _ => rfl, ?_, fun _ => ?_, fun h => absurd hc1 h⟩
    · rw [full_write _ _ off00, slab_read, full_readAt _ _ off00]
    · rw [full_write _ _ off00]
      rw [full_readAt _ _ off00, full_readAt _ _ off00, full_readAt _ _ off00, full_readAt _ _ off00, full_readAt _ _ off00, full_readAt _ _ off00]
  · refine ⟨fun h => absurd h hc0, fun _ => rfl, ?_, fun h => absurd h hc1, fun _ => rfl⟩
    · rw [full_write _ _ off00, slab_read, full_readAt _ _ off00]

end Run

end Cert.KernelIdeal.Own

end
-- ==== Proof.Run.KernelIdeal.Body1.lean ====
/-
  The second call's proof data and its body at every point: what each window's buffer holds, and the dequantised
  column the scratch keeps over a column's four points.
-/
module

public import proofs.«01_k».proof.Proof.Run.KernelIdeal.Dat0
public import proofs.«01_k».proof.Proof.Run.KernelIdeal.Run1
public import Idealize.ShloMosaic.Lib.Pipeline.TableIdle

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The scoped buffers of the first call. -/
def rest1 (c : Dev nD) : sProp 𝕄 := iprop(anyP c cc0_stg0_0 ∗ anyP c cc0_stg1_0 ∗ anyP c cc0_stg2_0 ∗ anyP c cc0_stg2_1 ∗ anyP c cc0_stg3_0 ∗ anyP c cc0_stg3_1 ∗ anyP c cc0_stg4_0 ∗ anyP c cc0_stg5_0 ∗ anyP c cc0_stg6_0 ∗ anyP c cc0_stg6_1 ∗ anyP c cc0_stg7_0 ∗ anyP c cc0_stg7_1 ∗ anyP c cc0_stg8_0 ∗ anyP c cc0_stg8_1 ∗ anyP c cc0_stg9_0 ∗ anyP c cc0_stg10_0 ∗ anyP c cc0_stg10_1 ∗ anyP c cc0_scratch0 ∗ anyP c cc0_scratch1 ∗ anyP c cc0_scratch2 ∗ anyP c cc0_scratch3)
omit [FloatOps F] [Named F] in
theorem scoped1_split (c : Dev nD) : (Pipeline.scopedRest (Ix := Unit) (Name := ℕ) (U := UU nD τ) (Lvl := ℕ) (Val := Elt F) spec1 c : sProp 𝕄)
    ⊢ iprop(rest1 c ∗ anyP c cc1_scratch0) := by
  rw [scopedRest1_eq]; unfold rest1
  iintro ⟨H0, H1, H2, H3, H4, H5, H6, H7, H8, H9, H10, H11, H12, H13, H14, H15, H16, H17, H18, H19, H20, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact HS
omit [FloatOps F] [Named F] in
theorem scoped1_join (c : Dev nD) : iprop(rest1 c ∗ anyP c cc1_scratch0)
    ⊢ (Pipeline.scopedRest (Ix := Unit) (Name := ℕ) (U := UU nD τ) (Lvl := ℕ) (Val := Elt F) spec1 c : sProp 𝕄) := by
  rw [scopedRest1_eq]; unfold rest1
  iintro ⟨⟨H0, H1, H2, H3, H4, H5, H6, H7, H8, H9, H10, H11, H12, H13, H14, H15, H16, H17, H18, H19, H20⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact HS

variable (V : Dev nD → Valuation τ sig (Elt F))

/-- Window `w`'s block at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point `n` of the grid (past the end, some point). -/
def pt1 (n : ℕ) : Fin cfg1.N := ⟨n % 72, by rw [show cfg1.N = 72 from N_1]; omega⟩
theorem pt1_val (t : Fin cfg1.N) : pt1 t.val = t := Fin.ext (Nat.mod_eq_of_lt (lt_of_lt_of_eq t.isLt N_1))

/-- The dequantised column of the points from `4 (n / 4)`. -/
def dw1 (c : Dev nD) (n : ℕ) : FVec F S2048x512 .bf16 :=
  DW (grid1.coords (pt1 (4 * (n / 4)))) (blk1 V c 2 (pt1 (4 * (n / 4)))) (blk1 V c 1 (pt1 (4 * (n / 4))))
/-- The rows of the gradient of the input of one point, -/
def dx1 (c : Dev nD) (t : Fin cfg1.N) : FVec F S32x7168 .bf16 :=
  k1_pay3 (blk1 V c 8 t) (blk1 V c 6 t) (blk1 V c 4 t) (blk1 V c 5 t) (blk1 V c 3 t) (blk1 V c 7 t)
/-- and the point that wrote what the buffer holds after point `t`. -/
def lastDx (t : Fin cfg1.N) : Fin cfg1.N := if t.val < 64 then t else pt1 63

/-- What the kernel's own buffers hold between points. -/
def Φ1 (c : Dev nD) (t : Fin (cfg1.N + 1)) : sProp 𝕄 :=
  iprop(rest1 c ∗ ∃ g : Buf (Elt F) ((Memref.whole cc1_scratch0).view.loc (c : Thread nD τ)), ((Memref.whole cc1_scratch0).view.loc (c : Thread nD τ) ↦[(Memref.whole cc1_scratch0).view.set]{fullShare} g)
      ∗ ⌜t.val % 4 ≠ 0 → (Memref.whole cc1_scratch0).view.read (Elt F) g = dw1 V c t.val⌝)

/-- The pipeline's proof data. -/
def dat1 (c : Dev nD) : Dat τ (Elt F) Unit ℕ (UU nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => k1_pay2 (slab (grid1.coords t) (blk1 V c 0 t)) (dw1 V c t.val)
    | ⟨10, _⟩ => dx1 V c (lastDx t)
  Φ t := Φ1 V c t
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = k1_pay2 (slab (grid1.coords t) (blk1 V c 0 t)) (dw1 V c t.val) := by dsimp only [dat1]
theorem after1_10 (c : Dev nD) (t : Fin cfg1.N) : (dat1 V c).after 10 t = dx1 V c (lastDx t) := by dsimp only [dat1]
theorem Φ1_eq (c : Dev nD) (t : Fin (cfg1.N + 1)) : (dat1 V c).Φ t = Φ1 V c t := by dsimp only [dat1]
theorem owed1_eq (c : Dev nD) (t : Fin (cfg1.N + 1)) : (dat1 V c).owed t = 0 := by dsimp only [dat1]

/-- Each input's buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A1_eq]; try rfl) t d).trans
    (by unfold Dat.fetched Dat.blockOf blk1; rw [A1_eq]; try rfl)
theorem before1_8 (c : Dev nD) (t : Fin cfg1.N) (d) : (dat1 V c).before 8 t d = blk1 V c 8 t :=
  ((dat1 V c).before_in_eq_fetched 8 rfl (fun _ => rfl) (fun _ _ _ => rfl) (fun t => by rw [after1_8]; unfold Dat.blockOf blk1; rw [A1_eq]; try rfl) t d).trans
    (by unfold Dat.fetched Dat.blockOf blk1; rw [A1_eq]; try rfl)

theorem hcond1 : ∀ t : Fin cfg1.N, cond1 (grid1.coords t) ↔ t.val % 4 = 0 :=
  (by decide +kernel : ∀ t : Fin grid1.N, cond1 (grid1.coords t) ↔ t.val % 4 = 0)
theorem hcond2 : ∀ t : Fin cfg1.N, k1_cond2 (grid1.coords t) = 1#1 ↔ t.val < 64 :=
  (by decide +kernel : ∀ t : Fin grid1.N, k1_cond2 (grid1.coords t) = 1#1 ↔ t.val < 64)

/-- Between its write-backs the last output's buffer is untouched exactly up to point 63. -/
theorem fresh1 (n : ℕ) (h : n ≤ cfg1.N) : cfg1.fresh 10 n = decide (n < 64 ∨ n = 72) :=
  cfg1.fresh_tab 10 (fun n => decide (n < 64 ∨ n = 72)) rfl
    (by decide +kernel : ∀ t : Fin grid1.N, decide (t.val + 1 < 64 ∨ t.val + 1 = 72) = ((cfg1.win 10).flush t || (cfg1.idle 10 (cfg1.grid.coords t) && decide (t.val < 64 ∨ t.val = 72)))) n h

theorem before1_10 (c : Dev nD) (t : Fin cfg1.N) (ht : 64 ≤ t.val) (d) : (dat1 V c).before 10 t d = dx1 V c (pt1 63) := by
  have hN : t.val < 72 := lt_of_lt_of_eq t.isLt N_1
  rw [(dat1 V c).before_out_traj 10 rfl (fun _ _ => rfl) (fun t h0 hi hf => ?_) t.val t rfl d, fresh1 _ t.isLt.le, decide_eq_false (by omega), if_neg Bool.false_ne_true, after1_10]
  · unfold lastDx
    split
    · next h => congr 1; refine Fin.ext ?_; have h : t.val - 1 < 64 := h; show t.val - 1 = 63; omega
    · rfl
  · have hN : t.val < 72 := lt_of_lt_of_eq t.isLt N_1
    rw [fresh1 _ t.isLt.le] at hf
    have hf := of_decide_eq_false hf
    rw [after1_10, after1_10]; unfold lastDx
    rw [if_neg (by omega)]
    split
    · next h => congr 1; refine Fin.ext ?_; have h : t.val - 1 < 64 := h; show 63 = t.val - 1; omega
    · rfl

/-- At a point that leaves the last output alone its buffer's contents stand for what the point leaves. -/
theorem leaves10 (c : Dev nD) (t : Fin cfg1.N) :
    owns (c : Thread nD τ) (win1_10.stage (cfg1.slots t 10)) fullShare (dx1 V c (lastDx t)) ⊢ ((dat1 V c).leavesExact 10 t : sProp 𝕄) := by
  have hi : cfg1.idle 10 (cfg1.grid.coords t) = true → 64 ≤ t.val :=
    (by decide +kernel : ∀ t : Fin grid1.N, cfg1.idle 10 (cfg1.grid.coords t) = true → 64 ≤ t.val) t
  unfold Dat.leavesExact
  rw [after1_10]
  cases h : cfg1.idle 10 (cfg1.grid.coords t)
  · exact .rfl
  · cases h' : (cfg1.win 10).flush t
    · have e := before1_10 V c t (hi h) (dx1 V c (lastDx t))
      have e2 : lastDx t = pt1 63 := by unfold lastDx; rw [if_neg (by have := hi h; omega)]
      show _ ⊢ iprop(∃ d, owns (c : Thread nD τ) (win1_10.stage (cfg1.slots t 10)) fullShare ((dat1 V c).before 10 t d))
      iintro H; iexists (dx1 V c (lastDx t)); rw [e, e2]; iexact H
    · exact .rfl

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d)))
/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ (dat1 V c).leavesExact 10 t)

set_option maxHeartbeats 2000000 in
/-- The body at any point. -/
theorem sound1 (c : Dev nD) (t : Fin cfg1.N) :
    bodyPre1 V c t ⊢ wp frame (wpE (defs₀ (F := F)) 𝒱₀ c none) Set.univ (bodyAt1 t) (fun _ => bodyPost1 V c t) := by
  have hN : t.val < 72 := lt_of_lt_of_eq t.isLt N_1
  unfold bodyPre1 bodyPost1 bodyAt1
  simp only [before1_0, before1_1, before1_2, before1_3, before1_4, before1_5, before1_6, before1_7, before1_8, after1_0, after1_1, after1_2, after1_3, after1_4, after1_5, after1_6, after1_7, after1_8, after1_9]
  rw [Φ1_eq, Φ1_eq]
  unfold Dat.owesAt Pipeline.owesWithin
  rw [owed1_eq, owed1_eq]
  unfold owns Φ1
  iintro ⟨⟨HR, %fs, HS, %hs⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  iapply wp_wand_r
  isplitl [H0 H1 H2 H3 H4 H5 H6 H7 H8 H9 H10 HS]
  · iapply (run1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _)
      f0 f1 f2 f3 f4 f5 f6 f7 f8 f9 f10 fs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro %a ⟨H0, H1, H2, H3, H4, H5, H6, H7, H8, %g9, %g10, %gs, H9, H10, HS, %hpost⟩
  obtain ⟨p1, p2, o9, p3, p4⟩ := hpost
  have hS : (Memref.whole cc1_scratch0).view.read (Elt F) gs = dw1 V c t.val := by
    by_cases h : t.val % 4 = 0
    · rw [p1 ((hcond1 t).mpr h), h2, h1]
      have e : pt1 (4 * (t.val / 4)) = t := by rw [show 4 * (t.val / 4) = t.val by omega]; exact pt1_val t
      unfold dw1; rw [e]
    · rw [p2 (fun hc => h ((hcond1 t).mp hc))]; exact hs h
  rw [hS, h0] at o9
  have o10 : (win1_10.stage (cfg1.slots t 10)).view.read (Elt F) g10 = dx1 V c (lastDx t) := by
    unfold lastDx
    by_cases h : t.val < 64
    · rw [p3 ((hcond2 t).mpr h), if_pos h, h8, h6, h4, h5, h3, h7]; rfl
    · rw [p4 (fun hc => h ((hcond2 t).mp hc)), if_neg h]
      exact h10.trans (before1_10 V c t (by omega) d10)
  isplitl [HR HS]
  · isplitl [HR]; · iexact HR
    iexists gs
    isplitl [HS]; · iexact HS
    ipureintro
    intro h
    have h : (t.val + 1) % 4 ≠ 0 := h
    rw [hS]; show dw1 V c t.val = dw1 V c (t.val + 1)
    unfold dw1; rw [show (t.val + 1) / 4 = t.val / 4 by omega]
  isplitl [HW]
  · iexists W; isplitr; · ipureintro; exact fun _ _ => Or.inl trivial
    iexact HW
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H9]
  · iexists _; isplitr; · ipureintro; exact o9
    iexact H9
  iapply (leaves10 V c t)
  unfold owns
  iexists _; isplitr
  · ipureintro; exact o10
  iexact H10

theorem defs1_row (t : Fin cfg1.N) : defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) 𝒱₀ () Set.univ := fun t => by
  rw [bigSep_W1, bigSep_W1, defs1_row]
  exact triple_restated (sound1 V c t) rfl .rfl fun _ => .rfl

end Cert.KernelIdeal.Own

end
-- ==== Proof.Run.KernelIdeal.Regs.lean ====
/-
  The two calls as stretches of the program, each entered from and left at the unscoped buffers' contents, and the
  program's run: every argument ends as launched and each result is read off the last contents.
-/
module

public import proofs.«01_k».proof.Proof.Run.KernelIdeal.Body0
public import proofs.«01_k».proof.Proof.Run.KernelIdeal.Body1
public import Idealize.ShloMosaic.Lib.Pipeline.RegionArraysS

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg afterRegion arrRefs ucRefs)

variable {F : FTy → Type} [FloatOps F] [Named F]

local notation "𝕄" => MT nD τ sig Unit (Elt F) ℕ (UU nD τ) ℕ

variable (m : (ℓ : Loc nD τ sig) → Buf (Elt F) ℓ)

/-! ## The contents between the calls -/

/-- What the first call leaves. -/
def outsA : Outs (F := F) := fun _ r c => afterRegion (dat0 (V3 m) c) (V3 m c) r
/-- The contents the second call starts from. -/
abbrev W5 : Dev nD → Valuation τ sig (Elt F) := V5 m (outsA m)
/-- What each call leaves. -/
def outs : Outs (F := F) := fun J r c => match J with
  | 4 => afterRegion (dat0 (V3 m) c) (V3 m c) r
  | _ => afterRegion (dat1 (W5 m) c) (W5 m c) r
theorem V5_outs : V5 m (outs m) = W5 m := rfl

/-- The two pipelines' proof data. -/
def pdats (p : Fin 2) (c : Dev nD) : Dat τ (Elt F) Unit ℕ (UU nD τ) ℕ (cfgs p) c := match p with
  | 0 => dat0 (V3 m) c
  | 1 => dat1 (W5 m) c

theorem arr_sub0 : arrRefs (τ := τ) spec0 ⊆ ucRefs τ sig := Pipeline.arrRefs_sub_ucRefs spec0 (by decide)
theorem arr_sub1 : arrRefs (τ := τ) spec1 ⊆ ucRefs τ sig := Pipeline.arrRefs_sub_ucRefs spec1 (by decide)

theorem V4_eq (c : Dev nD) (r : Ref sig .tc) : V4 m (outs m) c r = afterRegion (dat0 (V3 m) c) (V3 m c) r := by
  by_cases h : r ∈ ([main_v6_0, main_v6_1, main_v6_2, main_v6_3, main_v1] : List (Ref sig .tc))
  · simp only [List.mem_cons, List.not_mem_nil, or_false] at h
    rcases h with rfl | rfl | rfl | rfl | rfl
    · unfold V4
      rw [Function.update_of_ne (StableHlo.devRef_ne_of_ne (by decide)), Function.update_of_ne (StableHlo.devRef_ne_of_ne (by decide)),
        Function.update_of_ne (StableHlo.devRef_ne_of_ne (by decide)), Function.update_of_ne (StableHlo.devRef_ne_of_ne (by decide)), Function.update_self]; rfl
    · unfold V4
      rw [Function.update_of_ne (StableHlo.devRef_ne_of_ne (by decide)), Function.update_of_ne (StableHlo.devRef_ne_of_ne (by decide)),
        Function.update_of_ne (StableHlo.devRef_ne_of_ne (by decide)), Function.update_self]; rfl
    · unfold V4
      rw [Function.update_of_ne (StableHlo.devRef_ne_of_ne (by decide)), Function.update_of_ne (StableHlo.devRef_ne_of_ne (by decide)), Function.update_self]; rfl
    · unfold V4
      rw [Function.update_of_ne (StableHlo.devRef_ne_of_ne (by decide)), Function.update_self]; rfl
    · unfold V4
      rw [Function.update_self]; rfl
  · rw [V4_of m (outs m) c r h]
    refine (Pipeline.afterRegion_keeps (dat0 (V3 m) c) (V3 m c) winFacts0.arr_inj (A0_eq (V3 m) c) r (fun w e => ?_)).symm
    cases hw : (cfg0.win w).isOut
    · rfl
    · exact absurd (e ▸ (by decide : ∀ w : Fin 11, (cfg0.win w).isOut = true → Pipeline.arrRef spec0 w ∈ ([main_v6_0, main_v6_1, main_v6_2, main_v6_3, main_v1] : List (Ref sig .tc))) w hw) h

theorem V6_eq (c : Dev nD) (r : Ref sig .tc) : V6 m (outs m) c r = afterRegion (dat1 (W5 m) c) (W5 m c) r := by
  by_cases h : r ∈ ([main_v9_0, main_v9_1] : List (Ref sig .tc))
  · simp only [List.mem_cons, List.not_mem_nil, or_false] at h
    rcases h with rfl | rfl
    · unfold V6
      rw [Function.update_of_ne (StableHlo.devRef_ne_of_ne (by decide)), Function.update_self]; rfl
    · unfold V6
      rw [Function.update_self]; rfl
  · rw [V6_of m (outs m) c r h]
    refine (Pipeline.afterRegion_keeps (dat1 (W5 m) c) (W5 m c) winFacts1.arr_inj (A1_eq (W5 m) c) r (fun w e => ?_)).symm
    cases hw : (cfg1.win w).isOut
    · rfl
    · exact absurd (e ▸ (by decide : ∀ w : Fin 11, (cfg1.win w).isOut = true → Pipeline.arrRef spec1 w ∈ ([main_v9_0, main_v9_1] : List (Ref sig .tc))) w hw) h

omit [FloatOps F] [Named F] in
/-- Contents agreeing at every reference of the core hold the same buffers. -/
theorem held_refs (c : Dev nD) {V V' : Valuation τ sig (Elt F)} (h : ∀ r : Ref sig .tc, V r = V' r) :
    (StableHlo.held (c : Thread nD τ) (ucRefs τ sig) V : sProp 𝕄) = StableHlo.held (c : Thread nD τ) (ucRefs τ sig) V' :=
  StableHlo.held_congr (c : Thread nD τ) fun b hb => by
    obtain ⟨r, -, rfl⟩ := Finset.mem_map.mp (Finset.mem_filter.mp hb).1
    exact h r

/-! ## Whole buffers -/

omit [FloatOps F] [Named F] in
theorem whole_eq (c : Dev nD) (r : Ref sig .tc) (f : Buf (Elt F) ((c : Thread nD τ).loc r)) :
    ((((Memref.whole r).view.loc (c : Thread nD τ)) ↦[(Memref.whole r).view.set]{fullShare} f : sProp 𝕄)) = (((c : Thread nD τ).loc r) ↦{fullShare} f) :=
  congrArg (fun S => (_ ↦[S]{fullShare} f : sProp 𝕄)) (View.set_whole r)

/-! ## The first call -/

theorem in0 (V : Dev nD → Valuation τ sig (Elt F)) (c : Dev nD) :
    iprop(((((c : Thread nD τ).loc main_v1) ↦{fullShare} XA V c) ∗ cellP c 0 ∗ cellP c 1) ∗ Pipeline.scopedRest spec0 c) ⊢ ((dat0 V c).Φ 0 : sProp 𝕄) := by
  rw [Φ0_eq, scoped0_eq, v1_eq]
  unfold Φ0
  iintro ⟨⟨Hh, Hc0, Hc1⟩, ⟨%gd, HD⟩, Hb, ⟨%gx, Hx⟩, ⟨%gr, Hr⟩, HR⟩
  ihave Hb := (buf_split c) $$ Hb
  icases Hb with ⟨Hs0, Hs1⟩
  isplitl [Hh]; · iexact Hh
  isplitl [Hs0]; · iexact Hs0
  isplitl [Hs1]; · iexact Hs1
  isplitl [Hc0]; · iexact Hc0
  isplitl [Hc1]; · iexact Hc1
  isplitl [HD Hx Hr]
  · iexists gd; iexists gx; iexists gr
    isplitl [HD]; · iapply (entails_of_eq (whole_eq c cc0_scratch0 gd).symm); iexact HD
    isplitl [Hx]; · iapply (entails_of_eq (whole_eq c cc0_scratch2 gx).symm); iexact Hx
    isplitl [Hr]; · iapply (entails_of_eq (whole_eq c cc0_scratch3 gr).symm); iexact Hr
    ipureintro; exact fun h => absurd rfl h
  iexact HR

theorem out0 (V : Dev nD → Valuation τ sig (Elt F)) (c : Dev nD) :
    ((dat0 V c).Φ (Fin.last cfg0.N) : sProp 𝕄) ⊢ iprop((((c : Thread nD τ).loc main_v1) ↦{fullShare} XA V c) ∗ Pipeline.ownSems0 osem c ∗ Pipeline.scopedRest spec0 c) := by
  rw [Φ0_eq, scoped0_eq, v1_eq, ownSems0_eq]
  unfold Φ0
  iintro ⟨Hh, Hs0, Hs1, Hc0, Hc1, ⟨%gd, %gx, %gr, HD, Hx, Hr, %hp⟩, HR⟩
  isplitl [Hh]; · iexact Hh
  isplitl [Hc0 Hc1]
  · isplitl [Hc0]; · iexact Hc0
    iexact Hc1
  isplitl [HD]
  · iexists gd; iapply (entails_of_eq (whole_eq c cc0_scratch0 gd)); iexact HD
  isplitl [Hs0 Hs1]
  · iapply (buf_join c)
    isplitl [Hs0]; · iexact Hs0
    iexact Hs1
  isplitl [Hx]
  · iexists gx; iapply (entails_of_eq (whole_eq c cc0_scratch2 gx)); iexact Hx
  isplitl [Hr]
  · iexists gr; iapply (entails_of_eq (whole_eq c cc0_scratch3 gr)); iexact Hr
  iexact HR

/-- The second call's own buffers. -/
theorem in1 (V : Dev nD → Valuation τ sig (Elt F)) (c : Dev nD) :
    iprop(Pipeline.scopedRest spec1 c ∗ BI.emp) ⊢ ((dat1 V c).Φ 0 : sProp 𝕄) := by
  rw [Φ1_eq]
  unfold Φ1
  iintro ⟨H, -⟩
  ihave H := (scoped1_split c) $$ H
  icases H with ⟨HR, %g, HS⟩
  isplitl [HR]; · iexact HR
  iexists g
  isplitl [HS]; · iapply (entails_of_eq (whole_eq c cc1_scratch0 g).symm); iexact HS
  ipureintro; exact fun h => absurd rfl h
theorem out1 (V : Dev nD → Valuation τ sig (Elt F)) (c : Dev nD) :
    ((dat1 V c).Φ (Fin.last cfg1.N) : sProp 𝕄) ⊢ iprop(Pipeline.scopedRest spec1 c ∗ BI.emp) := by
  rw [Φ1_eq]
  unfold Φ1
  iintro ⟨HR, %g, HS, -⟩
  isplitl [HR HS]
  · iapply (scoped1_join c)
    isplitl [HR]; · iexact HR
    iexists g; iapply (entails_of_eq (whole_eq c cc1_scratch0 g)); iexact HS
  iempintro

/-! ## The levels: the core owes nothing, so one level does -/

abbrev LL : GSem nD τ sig → Finset Unit := fun g => if g.1.2 = .tc then {()} else ∅
abbrev lvl : GSem nD τ sig → Unit → ℕ := fun _ _ => 0
/-- What rides between the stretches: the core owes nothing. -/
abbrev EE (_ : Fin 3) (c : Dev nD) : sProp 𝕄 := iprop(∃ W, owes (c : Thread nD τ) (0 : CellTallies nD τ sig Unit) W)

abbrev v1set : Finset (DevRef τ sig) := {Proc.devRef .tc main_v1}
theorem v1_sub : v1set ⊆ ucRefs τ sig \ arrRefs spec0 := by
  intro b hb
  obtain rfl := Finset.mem_singleton.mp hb
  refine Finset.mem_sdiff.mpr ⟨Finset.mem_filter.mpr ⟨StableHlo.devRef_mem_tcRefs main_v1, by decide⟩, fun h => ?_⟩
  obtain ⟨r, hr, e⟩ := Finset.mem_map.mp h
  obtain ⟨w, -, rfl⟩ := Finset.mem_image.mp hr
  exact (by decide : ∀ w : Fin 11, Pipeline.arrRef spec0 w ≠ main_v1) w (Proc.devRef_injective _ e)

omit [FloatOps F] [Named F] in
theorem held_v1 (c : Dev nD) (V : Valuation τ sig (Elt F)) :
    (StableHlo.held (c : Thread nD τ) v1set V : sProp 𝕄) = (((c : Thread nD τ).loc main_v1) ↦{fullShare} V main_v1) := by
  unfold StableHlo.held; rw [bigSep_singleton]

theorem share0 (c : Dev nD) (w : Fin cfg0.W) : (dat0 (V3 m) c).share w = fullShare := by
  unfold Dat.share; split <;> rfl
theorem share1 (c : Dev nD) (w : Fin cfg1.W) : (dat1 (W5 m) c).share w = fullShare := by
  unfold Dat.share; split <;> rfl

theorem kit0 : Pipeline.PLaunchFacts (nD := nD) (τ := τ) (pcfgs (F := F)) 0 := launch0.toP
theorem kit1 : Pipeline.PLaunchFacts (nD := nD) (τ := τ) (pcfgs (F := F)) 1 := launch1.toP

theorem arrays0 (c : Dev nD) : (((pdats m 0 c).arrays ((pdats m 0 c).arrAt · 0)) : sProp 𝕄) = StableHlo.held (c : Thread nD τ) (arrRefs spec0) (V3 m c) :=
  Pipeline.arrays_held (pcfgs (F := F)) adm (pdats m) 0 kit0 c (share0 m c) _ (V3 m c) (fun w => A0_eq (V3 m) c w)
theorem arraysN0 (c : Dev nD) : (((pdats m 0 c).arrays ((pdats m 0 c).arrAt · cfg0.N)) : sProp 𝕄)
    = StableHlo.held (c : Thread nD τ) (arrRefs spec0) (afterRegion (dat0 (V3 m) c) (V3 m c)) :=
  Pipeline.arrays_held (pcfgs (F := F)) adm (pdats m) 0 kit0 c (share0 m c) _ (afterRegion (dat0 (V3 m) c) (V3 m c))
    (fun w => (Pipeline.afterRegion_arr (dat0 (V3 m) c) (V3 m c) winFacts0.arr_inj w).symm)

set_option backward.isDefEq.respectTransparency.types false in
/-- The first call as a stretch of the program. -/
def R0 : RegionSeg (pcfgs (F := F)) adm (pdats m) () defs₀ 𝒱₀ LL lvl 0 where
  win := (kit0 (F := F)).to₀.win
  block_pos := (kit0 (F := F)).to₀.block_pos
  stage_whole := (kit0 (F := F)).to₀.stage_whole
  K := Fin 2
  osem := osem
  ho := ownSemFacts
  hbody := fun c => (body_obligation0 (V3 m) c).loose
  hwaits c := Pipeline.hwaits_of_owed_zero (pcfgs (F := F)) adm (pdats m) () LL lvl 0 (fun c t => owed0_eq (V3 m) c t) c
  pre c := iprop(StableHlo.held (c : Thread nD τ) (ucRefs τ sig) (V3 m c) ∗ EE 0 c)
  post c := iprop(StableHlo.held (c : Thread nD τ) (ucRefs τ sig) (afterRegion (dat0 (V3 m) c) (V3 m c)) ∗ EE 1 c)
  X c := iprop((((c : Thread nD τ).loc main_v1) ↦{fullShare} V3 m c main_v1) ∗ cellP c 0 ∗ cellP c 1)
  Y c := iprop((((c : Thread nD τ).loc main_v1) ↦{fullShare} V3 m c main_v1))
  Z c := iprop(StableHlo.held (c : Thread nD τ) ((ucRefs τ sig \ arrRefs spec0) \ v1set) (V3 m c))
  hentry c := by
    rw [ownSems0_eq, Pipeline.prefHeld_of_none _ rfl, arrays0]
    rw [StableHlo.held_sub_split (c : Thread nD τ) arr_sub0 (V3 m c), StableHlo.held_sub_split (c : Thread nD τ) v1_sub (V3 m c), held_v1]
    iintro ⟨⟨⟨Ha, Hv, HZ⟩, ⟨%W, HO⟩⟩, ⟨Hc0, Hc1⟩, -⟩
    imodintro
    isplitl [Ha]; · iexact Ha
    isplitr; · iempintro
    isplitl [HO]
    · unfold Dat.owesAt Pipeline.owesWithin Dat.bound
      iexists W
      isplitr; · ipureintro; exact fun _ _ => Or.inl trivial
      iexact HO
    isplitl [Hv Hc0 Hc1]
    · isplitl [Hv]; · iexact Hv
      isplitl [Hc0]; · iexact Hc0
      iexact Hc1
    iexact HZ
  hin c := (show _ ⊢ iprop(((((c : Thread nD τ).loc main_v1) ↦{fullShare} V3 m c main_v1) ∗ cellP c 0 ∗ cellP c 1) ∗ Pipeline.scopedRest spec0 c) from by
    iintro ⟨HX, -, Hr⟩
    isplitl [HX]; · iexact HX
    iexact Hr).trans (in0 (V3 m) c)
  hout c := out0 (V3 m) c
  hexit c := by
    rw [show (((pdats m 0 c).arrays ((pdats m 0 c).arrAt · (Pipeline.pin (pcfgs (F := F)) adm 0).N)) : sProp 𝕄) = _ from arraysN0 m c]
    rw [StableHlo.held_sub_split (c : Thread nD τ) arr_sub0 (afterRegion (dat0 (V3 m) c) (V3 m c)),
      StableHlo.held_congr (c : Thread nD τ) (S := ucRefs τ sig \ arrRefs spec0) (V := afterRegion (dat0 (V3 m) c) (V3 m c)) (V' := V3 m c) (Pipeline.afterRegion_off (dat0 (V3 m) c) (V3 m c) _),
      StableHlo.held_sub_split (c : Thread nD τ) v1_sub (V3 m c), held_v1]
    unfold Dat.owesAt Pipeline.owesWithin
    iintro ⟨Ha, ⟨%W, -, HO⟩, HY, HZ⟩
    imodintro
    isplitl [Ha HY HZ]
    · isplitl [Ha]; · iexact Ha
      isplitl [HY]; · iexact HY
      iexact HZ
    iexists W; iexact HO

/-- The second call as a stretch of the program. -/
def R1 : RegionSeg (pcfgs (F := F)) adm (pdats m) () defs₀ 𝒱₀ LL lvl 1 :=
  RegionSeg.ofHeldIn (pcfgs (F := F)) adm (pdats m) () defs₀ 𝒱₀ LL lvl 1 (fun _ => 0) (ucRefs τ sig) (fun _ => BI.emp) (fun _ => BI.emp) kit1 rfl
    (fun c => (body_obligation1 (W5 m) c).loose) (fun c t => owed1_eq (W5 m) c t) (fun c => rfl) (fun c w => share1 m c w)
    (fun c => in1 (W5 m) c) (fun c => out1 (W5 m) c) (fun _ => 0)
    ⟨fun c w s => by simp [LL], fun c w s => le_refl _, fun c g i h => absurd h (by simp)⟩ (fun _ => BI.emp) (W5 m) (fun c w => A1_eq (W5 m) c w)

theorem hpre0 (c : Dev nD) : iprop(StableHlo.held (c : Thread nD τ) (ucRefs τ sig) (V3 m c) ∗ EE 0 c) ⊢ ((R0 m).pre c : sProp 𝕄) := .rfl
theorem hpost0 (c : Dev nD) : ((R0 m).post c : sProp 𝕄) ⊢ iprop(StableHlo.held (c : Thread nD τ) (ucRefs τ sig) (V4 m (outs m) c) ∗ EE 1 c) := by
  rw [held_refs c (V4_eq m c)]; exact .rfl
theorem hpre1 (c : Dev nD) : iprop(StableHlo.held (c : Thread nD τ) (ucRefs τ sig) (V5 m (outs m) c) ∗ EE 1 c) ⊢ ((R1 m).pre c : sProp 𝕄) := by
  show iprop(StableHlo.held (c : Thread nD τ) (ucRefs τ sig) (W5 m c) ∗ iprop(∃ Wd, owes (c : Thread nD τ) 0 Wd))
    ⊢ iprop(StableHlo.held (c : Thread nD τ) (arrRefs spec1) (W5 m c) ∗ BI.emp ∗ (StableHlo.held (c : Thread nD τ) (ucRefs τ sig \ arrRefs spec1) (W5 m c) ∗ BI.emp) ∗ ∃ Wd, owes (c : Thread nD τ) 0 Wd)
  rw [StableHlo.held_sub_split (c : Thread nD τ) arr_sub1 (W5 m c)]
  iintro ⟨⟨Ha, Hu⟩, HO⟩
  isplitl [Ha]; · iexact Ha
  isplitr; · iempintro
  isplitl [Hu]
  · isplitl [Hu]; · iexact Hu
    iempintro
  iexact HO
theorem hpost1 (c : Dev nD) : ((R1 m).post c : sProp 𝕄) ⊢ iprop(StableHlo.held (c : Thread nD τ) (ucRefs τ sig) (V6 m (outs m) c) ∗ EE 2 c) := by
  rw [held_refs c (V6_eq m c)]
  show iprop(StableHlo.held (c : Thread nD τ) (arrRefs spec1) (afterRegion (dat1 (W5 m) c) (W5 m c)) ∗ BI.emp
      ∗ (StableHlo.held (c : Thread nD τ) (ucRefs τ sig \ arrRefs spec1) (W5 m c) ∗ BI.emp) ∗ ∃ Wd, owes (c : Thread nD τ) 0 Wd)
    ⊢ iprop(StableHlo.held (c : Thread nD τ) (ucRefs τ sig) (afterRegion (dat1 (W5 m) c) (W5 m c)) ∗ iprop(∃ Wd, owes (c : Thread nD τ) 0 Wd))
  rw [StableHlo.held_sub_split (c : Thread nD τ) arr_sub1 (afterRegion (dat1 (W5 m) c) (W5 m c)),
    StableHlo.held_congr (c : Thread nD τ) (S := ucRefs τ sig \ arrRefs spec1) (V := afterRegion (dat1 (W5 m) c) (W5 m c)) (V' := W5 m c) (Pipeline.afterRegion_off (dat1 (W5 m) c) (W5 m c) _)]
  iintro ⟨Ha, -, ⟨Hu, -⟩, HO⟩
  isplitl [Ha Hu]
  · isplitl [Ha]; · iexact Ha
    iexact Hu
  iexact HO

/-! ## The launch -/

/-- The launch's ghost element: the pipelines' cells. -/
def u₀ : UU nD τ := (initOf (Pipeline.cells cfgs cellOf_inj) (Pipeline.launchToks cfgs cellOf_inj), 1)
theorem hu₀ : (ownU u₀ : sProp 𝕄) ⊢ |={Set.univ}=> iprop(BI.own (EP (initOf (Pipeline.cells cfgs cellOf_inj) (Pipeline.launchToks cfgs cellOf_inj))) ∗ bigSep Finset.univ (fun _ : Dev nD => BI.emp)) := by
  unfold u₀
  iintro Hu
  ihave H := (ownU_pair _ _) $$ Hu
  icases H with ⟨HP, -⟩
  imodintro
  isplitl [HP]; · iexact HP
  iapply (show BI.emp ⊢ bigSep Finset.univ (fun _ : Dev nD => BI.emp) from by rw [BI.bigSep_emp_const])
  iempintro
theorem hE0 (ρ : Dev nD → PrngReg) : iprop((bigSep Finset.univ fun c : Dev nD => iprop(unscopedSems0 c ∗ owes (c : Thread nD τ) 0 ∅ ∗ Pipeline.launchCred (fun _ => 0) c ∗ prngReg c (ρ c) ∗ BI.emp)) ∗ levAts LL lvl)
    ⊢ (|={Set.univ}=> bigSep Finset.univ (EE 0) : sProp 𝕄) := by
  refine (show _ ⊢ (bigSep Finset.univ (EE 0) : sProp 𝕄) from ?_).trans (by iintro H; imodintro; iexact H)
  refine (show _ ⊢ (bigSep Finset.univ fun c : Dev nD => iprop(unscopedSems0 c ∗ owes (c : Thread nD τ) 0 ∅ ∗ Pipeline.launchCred (fun _ => 0) c ∗ prngReg c (ρ c) ∗ BI.emp) : sProp 𝕄) from by
    iintro ⟨H, -⟩; iexact H).trans (bigSep_mono fun c _ => ?_)
  show iprop(unscopedSems0 c ∗ owes (c : Thread nD τ) 0 ∅ ∗ Pipeline.launchCred (fun _ => 0) c ∗ prngReg c (ρ c) ∗ BI.emp) ⊢ (iprop(∃ Wd, owes (c : Thread nD τ) 0 Wd) : sProp 𝕄)
  iintro ⟨-, HO, -⟩
  iexists ∅; iexact HO

set_option backward.isDefEq.respectTransparency.types false in
/-- Every run ends, every argument as launched, each result at the last contents, every counter at zero. -/
theorem run (ρ : Dev nD → PrngReg) : θ_run defs (onTc (τ := τ) (main (F := F))) ⟨m, fun _ => 0, ρ⟩ (fun r => (∀ c : Dev nD, r.2.mem ((c.tc : Thread nD τ).loc main_v10) = V7 m (outs m) c main_v10 ∧ r.2.mem ((c.tc : Thread nD τ).loc main_v9_0) = V7 m (outs m) c main_v9_0 ∧ r.2.mem ((c.tc : Thread nD τ).loc main_v11) = V7 m (outs m) c main_v11 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) := by
  refine Pipeline.θ_run_regions_kit_dev_sems (pcfgs (F := F)) adm (pdats m) () cellOf_inj EP defs₀ 𝒱₀ LL lvl m ρ main
    (segs m (outs m) 𝒱₀ LL lvl EE () (pdats m) (R0 m) (R1 m))
    (fun c Q => by
      rewrite [main_chain c, Seg.run_eq_chain,
        show (segs m (outs m) 𝒱₀ LL lvl EE () (pdats m) (R0 m) (R1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => BI.emp) u₀ hu₀
    (T₀ := fun c => iprop(StableHlo.held (c : Thread nD τ) (Pipeline.ucRefs τ sig) (V0 m c) ∗ EE 0 c))
    (Tₙ := fun c => StableHlo.held (c : Thread nD τ) (Pipeline.ucRefs τ sig) (V7 m (outs m) c))
    (hch := fun c => ⟨.rfl, .rfl, .rfl, hpre0 m c, hpost0 m c, hpre1 m c, hpost1 m c, sep_mono .rfl .rfl⟩)
    (hinit := ?_) (QY := fun c s => s.mem ((c.tc : Thread nD τ).loc main_v10) = V7 m (outs m) c main_v10 ∧ s.mem ((c.tc : Thread nD τ).loc main_v9_0) = V7 m (outs m) c main_v9_0 ∧ s.mem ((c.tc : Thread nD τ).loc main_v11) = V7 m (outs m) c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UU nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        h (Proc.devRef .tc main_v9_0) (Finset.mem_filter.mpr ⟨StableHlo.devRef_mem_tcRefs main_v9_0, by decide⟩),
        h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c),
        (h (Proc.devRef .tc main_arg4) (Finset.mem_filter.mpr ⟨StableHlo.devRef_mem_tcRefs main_arg4, by decide⟩)).trans (V7_main_arg4 m (outs m) c),
        (h (Proc.devRef .tc main_arg5) (Finset.mem_filter.mpr ⟨StableHlo.devRef_mem_tcRefs main_arg5, by decide⟩)).trans (V7_main_arg5 m (outs m) c),
        (h (Proc.devRef .tc main_arg6) (Finset.mem_filter.mpr ⟨StableHlo.devRef_mem_tcRefs main_arg6, by decide⟩)).trans (V7_main_arg6 m (outs m) c),
        (h (Proc.devRef .tc main_arg7) (Finset.mem_filter.mpr ⟨StableHlo.devRef_mem_tcRefs main_arg7, by decide⟩)).trans (V7_main_arg7 m (outs m) c)⟩
    · iexact HSI

end Cert.KernelIdeal.Own

end
-- ==== Proof.Value.Entry.lean ====
/- What the host code hands to the two calls, read at an index. -/
module

public import proofs.«01_k».proof.Proof.Run.KernelIdeal.Regs
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Own

open Cert.KernelIdeal Cert.KernelIdeal.Gen
open Idealize.ShloMosaic
open Idealize.ShloMosaic.TcCoe Idealize.SL.Sem
open Idealize.ShloMosaic.Pipeline (Dat)

variable (m : (ℓ : Loc nD τ sig) → Buf (Elt Ideal) ℓ) (c : Dev nD)

theorem v0_at (s : Fin 2048) (d : Fin 7168) : (show FVec Ideal S2048x7168 .fp8e4m3 from V3 m c main_v0) (ix2 s d) = (show FVec Ideal S1x2048x7168 .fp8e4m3 from m ((c : Thread nD τ).loc main_arg0)) (ix3 0 s d) := by
  rw [V3_of m c main_v0 (by decide), V2_of m c main_v0 (by decide)]
  show _ = (show FVec Ideal S1x2048x7168 .fp8e4m3 from V0 m c main_arg0) (ix3 0 s d)
  unfold V1
  generalize V0 m c = σ
  entry_read
  pointwise
theorem v1_at (s : Fin 2048) (k : Fin 9216) : (show FVec Ideal S2048x9216 .fp8e5m2 from V3 m c main_v1) (ix2 s k) = (show FVec Ideal S1x2048x9216 .fp8e5m2 from m ((c : Thread nD τ).loc main_arg6)) (ix3 0 s k) := by
  rw [V3_of m c main_v1 (by decide), V2_of m c main_v1 (by decide)]
  show _ = (show FVec Ideal S1x2048x9216 .fp8e5m2 from V0 m c main_arg6) (ix3 0 s k)
  unfold V1
  generalize V0 m c = σ
  entry_read
  pointwise
theorem v2_at (s : Fin 2048) (h : Fin 72) : (show FVec Ideal S2048x72 .f32 from V1 m c main_v2) (ix2 s h) = (show FVec Ideal S1x2048x72 .f32 from m ((c : Thread nD τ).loc main_arg7)) (ix3 0 s h) := by
  show _ = (show FVec Ideal S1x2048x72 .f32 from V0 m c main_arg7) (ix3 0 s h)
  unfold V1
  generalize V0 m c = σ
  entry_read
  pointwise
/-- The padding leaves the first lanes as they are. -/
theorem pad_at (x : FVec Ideal S2048x72 .f32) (v : FVec Ideal S_ .f32) (s : Fin 2048) (h : Fin 72) :
    pad S2048x128 ![0, 0] ![0, 56] ![0, 0] x v pads_S2048x72_S2048x128_000_0560 h_S_ (ix2 s ⟨h.val, by omega⟩) = x (ix2 s h) := by
  pointwise
theorem v3_at (s : Fin 2048) (h : Fin 72) : (show FVec Ideal S2048x128 .f32 from V3 m c main_v3) (ix2 s ⟨h.val, by omega⟩) = (show FVec Ideal S1x2048x72 .f32 from m ((c : Thread nD τ).loc main_arg7)) (ix3 0 s h) := by
  rw [V3_of m c main_v3 (by decide)]
  refine Eq.trans ?_ (v2_at m c s h)
  unfold V2
  generalize V1 m c = σ
  entry_read
  exact pad_at _ _ s h
theorem v4_at (d : Fin 7168) : (show FVec Ideal S1x7168 .f32 from V3 m c main_v4) (ix2 0 d) = (show FVec Ideal S7168 .f32 from m ((c : Thread nD τ).loc main_arg3)) (ix1 d) := by
  have e : V2 m c main_arg3 = m ((c : Thread nD τ).loc main_arg3) := (V2_of m c main_arg3 (by decide)).trans <| (V1_of m c main_arg3 (by decide)).trans rfl
  rw [← e]
  unfold V3
  generalize V2 m c = σ
  entry_read
  pointwise
theorem v5_at (k : Fin 9216) : (show FVec Ideal S1x9216 .f32 from V3 m c main_v5) (ix2 0 k) = (show FVec Ideal S9216 .f32 from m ((c : Thread nD τ).loc main_arg5)) (ix1 k) := by
  have e : V2 m c main_arg5 = m ((c : Thread nD τ).loc main_arg5) := (V2_of m c main_arg5 (by decide)).trans <| (V1_of m c main_arg5 (by decide)).trans rfl
  rw [← e]
  unfold V3
  generalize V2 m c = σ
  entry_read
  pointwise
theorem a1_eq : V3 m c main_arg1 = m ((c : Thread nD τ).loc main_arg1) :=
  (V3_of m c main_arg1 (by decide)).trans <| (V2_of m c main_arg1 (by decide)).trans <| (V1_of m c main_arg1 (by decide)).trans rfl
theorem a2_eq : V3 m c main_arg2 = m ((c : Thread nD τ).loc main_arg2) :=
  (V3_of m c main_arg2 (by decide)).trans <| (V2_of m c main_arg2 (by decide)).trans <| (V1_of m c main_arg2 (by decide)).trans rfl
theorem a4_eq : V3 m c main_arg4 = m ((c : Thread nD τ).loc main_arg4) :=
  (V3_of m c main_arg4 (by decide)).trans <| (V2_of m c main_arg4 (by decide)).trans <| (V1_of m c main_arg4 (by decide)).trans rfl

/-- Between the calls an array that the first call does not stage for writing, and the host code does not write, is as it was; -/
theorem W5_of_not (r : Ref sig .tc) (h : r ∉ hostOps1_W) (h' : ∀ w : Fin cfg0.W, r ≠ Pipeline.arrRef cfg0.spec w) : W5 m c r = V3 m c r := by
  rw [← V5_outs, V5_of m (outs m) c r h, V4_eq]
  exact Pipeline.afterRegion_of_not_arr (dat0 (V3 m) c) (V3 m c) h'
/-- one of the first call's is as the call left it; -/
theorem W5_arr (w : Fin cfg0.W) (h : Pipeline.arrRef spec0 w ∉ hostOps1_W) : W5 m c (Pipeline.arrRef spec0 w) = (dat0 (V3 m) c).arrAt w cfg0.N := by
  rw [← V5_outs, V5_of m (outs m) c _ h, V4_eq]
  exact Pipeline.afterRegion_arr (dat0 (V3 m) c) (V3 m c) winFacts0.arr_inj w
/-- an input of it is as before. -/
theorem W5_in (w : Fin cfg0.W) (h : Pipeline.arrRef spec0 w ∉ hostOps1_W) (ho : (cfg0.win w).isOut = false) : W5 m c (Pipeline.arrRef spec0 w) = V3 m c (Pipeline.arrRef spec0 w) :=
  (W5_arr m c w h).trans (((dat0 (V3 m) c).arrAt_in w ho _).trans (A0_eq (V3 m) c w))

theorem v7_at (s : Fin 2048) : (show FVec Ideal S2048x1 .f32 from W5 m c main_v7) (ix2 s 0) = (show FVec Ideal S1x2048 .f32 from m ((c : Thread nD τ).loc main_arg1)) (ix2 0 s) := by
  have e : V4 m (outs m) c main_arg1 = m ((c : Thread nD τ).loc main_arg1) := (V4_of m (outs m) c main_arg1 (by decide)).trans (a1_eq m c)
  rw [← V5_outs, ← e]
  unfold V5
  generalize V4 m (outs m) c = σ
  entry_read
  pointwise
theorem v8_at (s : Fin 2048) : (show FVec Ideal S2048x1 .f32 from W5 m c main_v8) (ix2 s 0) = (show FVec Ideal S1x2048 .f32 from m ((c : Thread nD τ).loc main_arg2)) (ix2 0 s) := by
  have e : V4 m (outs m) c main_arg2 = m ((c : Thread nD τ).loc main_arg2) := (V4_of m (outs m) c main_arg2 (by decide)).trans (a2_eq m c)
  rw [← V5_outs, ← e]
  unfold V5
  generalize V4 m (outs m) c = σ
  entry_read
  pointwise

/-! ## The results -/

theorem res0 (s : Fin 2048) (d : Fin 7168) : (show FVec Ideal S1x2048x7168 .bf16 from V7 m (outs m) c main_v10) (ix3 0 s d) = (show FVec Ideal S2048x7168 .bf16 from (dat1 (W5 m) c).arrAt 10 cfg1.N) (ix2 s d) := by
  have e : V6 m (outs m) c main_v9_1 = (dat1 (W5 m) c).arrAt 10 cfg1.N := (V6_eq m c main_v9_1).trans (Pipeline.afterRegion_arr (dat1 (W5 m) c) (W5 m c) winFacts1.arr_inj 10)
  rw [← e]
  unfold V7
  generalize V6 m (outs m) c = σ
  entry_read
  pointwise
theorem res1 : V7 m (outs m) c main_v9_0 = (dat1 (W5 m) c).arrAt 9 cfg1.N :=
  (V7_of m (outs m) c main_v9_0 (by decide)).trans ((V6_eq m c main_v9_0).trans (Pipeline.afterRegion_arr (dat1 (W5 m) c) (W5 m c) winFacts1.arr_inj 9))
theorem res2 (d : Fin 7168) : (show FVec Ideal S7168 .f32 from V7 m (outs m) c main_v11) (ix1 d) = (show FVec Ideal S1x7168 .f32 from (dat0 (V3 m) c).arrAt 10 cfg0.N) (ix2 0 d) := by
  have e : V6 m (outs m) c main_v6_3 = (dat0 (V3 m) c).arrAt 10 cfg0.N :=
    (V6_of m (outs m) c main_v6_3 (by decide)).trans (W5_arr m c 10 (by decide))
  rw [← e]
  unfold V7
  generalize V6 m (outs m) c = σ
  entry_read
  pointwise

end Cert.KernelIdeal.Own

end
-- ==== Proof.Value.Pure.lean ====
/- What the two calls compute at one index, over the reals: each payload read at an index, with the casts gone. -/
module

public import proofs.«01_k».proof.Proof.Run.KernelIdeal.Blocks
public import proofs.«01_k».proof.Proof.Run.KernelIdeal.Run1
public import Idealize.ShloMosaic.Lib.Pipeline.ValueKit
public import Idealize.ShloMosaic.Lib.Pointwise

@[expose] public section

set_option maxRecDepth 16384

noncomputable section

namespace Cert.KernelIdeal.Own

open Cert.KernelIdeal Cert.KernelIdeal.Gen
open Idealize.ShloMosaic
open Idealize.ShloMosaic.TcCoe Idealize.SL.Sem
open Idealize.ShloMosaic.Pipeline (Dat)

/-! ## The first call -/

theorem DQ_at (x2 : FVec Ideal S2048x128 .f32) (x3 : FVec Ideal S1x9216 .f32) (xa : FVec Ideal S2048x9216 .fp8e5m2) (s : Fin 2048) (k : Fin 9216) :
    DQ (F := Ideal) x2 x3 xa (ix2 s k) = xa (ix2 s k) * x2 (ix2 s ⟨k.val / 128, by omega⟩) * x3 (ix2 0 k) := by
  unfold DQ
  pointwise

theorem MM_at (D : FVec Ideal S2048x9216 .bf16) (w : FVec Ideal S256x9216 .fp8e4m3) (s : Fin 2048) (q : Fin 256) :
    MM (F := Ideal) D w (ix2 s q) = ∑ k : Fin 9216, D (ix2 s k) * w (ix2 q k) := by
  have e : ∀ h, (⟨512 * (s.val / 512) + s.val % 512, h⟩ : Fin 2048) = s := fun h => Fin.ext (Nat.div_add_mod _ _)
  unfold MM
  pointwise [k0_pay127]
  simp only [e, zero_add]

theorem XS_at (v : FVec Ideal S1x2048 .f32) (s : Fin 2048) (l : Fin 128) : k0_pay123 (F := Ideal) v (ix2 s l) = v (ix2 0 s) := by
  pointwise [k0_pay123]
theorem RS_at (v : FVec Ideal S1x2048 .f32) (s : Fin 2048) (l : Fin 128) : k0_pay124 (F := Ideal) v (ix2 s l) = v (ix2 0 s) := by
  pointwise [k0_pay124]
theorem Z_at (s : Fin 2048) (l : Fin 128) : k0_pay125 (F := Ideal) (ix2 s l) = 0 := by
  pointwise [k0_pay125]
theorem Z'_at (q : Fin 256) : k0_pay128 (F := Ideal) (ix2 0 q) = 0 := by
  pointwise [k0_pay128]

variable (xs rs : FVec Ideal S2048x128 .f32) (g : FVec Ideal S1x256 .f32) (x : FVec Ideal S2048x256 .fp8e4m3) (d : FVec Ideal S2048x256 .f32) (gn : FVec Ideal S2048x128 .f32)

theorem blk_at (v : FVec Ideal S2048x128 .f32) (b : Fin 8) (r : Fin 256) (l : Fin 128) : blk (F := Ideal) v b (ix2 r l) = v (ix2 ⟨256 * b.val + r.val, by omega⟩ l) := by
  unfold blk
  congr 1; funext a; refine Fin.ext ?_; fin_cases a
  · show 256 * b.val + 1 * r.val = 256 * b.val + r.val; omega
  · show 0 + 1 * l.val = l.val; omega
theorem hblk_at {e : EltTy} (v : Vec Ideal S2048x256 e) (b : Fin 8) (h : Fin 2) (r : Fin 256) (l : Fin 128) :
    hblk (F := Ideal) v b h (ix2 r l) = v (ix2 ⟨256 * b.val + r.val, by omega⟩ ⟨128 * h.val + l.val, by omega⟩) := by
  unfold hblk
  congr 1; funext a; refine Fin.ext ?_; fin_cases a
  · show 256 * b.val + 1 * r.val = 256 * b.val + r.val; omega
  · show 128 * h.val + 1 * l.val = 128 * h.val + l.val; omega
theorem gblk_at (h : Fin 2) (l : Fin 128) : gblk (F := Ideal) g h (ix2 0 l) = g (ix2 0 ⟨128 * h.val + l.val, by omega⟩) := by
  unfold gblk
  congr 1; funext a; refine Fin.ext ?_; fin_cases a
  · rfl
  · show 128 * h.val + 1 * l.val = 128 * h.val + l.val; omega

theorem XHT_at (q : Fin 256) (s : Fin 2048) :
    XHT (F := Ideal) xs rs g x (ix2 q s) = x (ix2 s q) * xs (ix2 s ⟨q.val % 128, by omega⟩) * rs (ix2 s ⟨q.val % 128, by omega⟩) * g (ix2 0 q) := by
  have e1 : ∀ h, (⟨256 * (s.val / 256) + s.val % 256, h⟩ : Fin 2048) = s := fun h => Fin.ext (Nat.div_add_mod _ _)
  have e2 : ∀ h, (⟨128 * (q.val / 128) + q.val % 128, h⟩ : Fin 256) = q := fun h => Fin.ext (Nat.div_add_mod _ _)
  unfold XHT xhtPay
  pointwise [k0_pay131, k0_pay129, k0_pay130]
  simp only [blk_at, gblk_at, hblk_at, e1, e2]

theorem GN_at (s : Fin 2048) (l : Fin 128) :
    GN (F := Ideal) xs rs g x d gn (ix2 s l) = gn (ix2 s l)
      + d (ix2 s ⟨l.val, by omega⟩) * g (ix2 0 ⟨l.val, by omega⟩) * (x (ix2 s ⟨l.val, by omega⟩) * xs (ix2 s l) * rs (ix2 s l))
      + d (ix2 s ⟨128 + l.val, by omega⟩) * g (ix2 0 ⟨128 + l.val, by omega⟩) * (x (ix2 s ⟨128 + l.val, by omega⟩) * xs (ix2 s l) * rs (ix2 s l)) := by
  have e1 : ∀ h, (⟨256 * (s.val / 256) + s.val % 256, h⟩ : Fin 2048) = s := fun h => Fin.ext (Nat.div_add_mod _ _)
  unfold GN gnPay
  pointwise [k0_pay139, k0_pay134, k0_pay135, k0_pay129, k0_pay130, k0_pay132, k0_pay136, k0_pay138]
  simp only [blk_at, gblk_at, hblk_at, e1, Fin.val_zero, Fin.val_one, Nat.mul_zero, Nat.mul_one, Nat.zero_add]

/-- One block's term of the gains' gradient. -/
theorem dgStep_at (acc : FVec Ideal S1x256 .f32) (b : Fin 8) (q : Fin 256) :
    dgStep (F := Ideal) xs rs x d acc b (ix2 0 q) = acc (ix2 0 q)
      + ∑ r : Fin 256, d (ix2 ⟨256 * b.val + r.val, by omega⟩ q)
        * (x (ix2 ⟨256 * b.val + r.val, by omega⟩ q) * xs (ix2 ⟨256 * b.val + r.val, by omega⟩ ⟨q.val % 128, by omega⟩) * rs (ix2 ⟨256 * b.val + r.val, by omega⟩ ⟨q.val % 128, by omega⟩)) := by
  unfold dgStep
  pointwise [k0_pay140, k0_pay133, k0_pay130, k0_pay132, k0_pay136, k0_pay138]
  simp only [blk_at, hblk_at, Fin.val_zero, Fin.val_one, Nat.mul_zero, Nat.mul_one, Nat.zero_add]
  by_cases h : q.val < 128
  · have e1 : ∀ h', (⟨q.val % 128, h'⟩ : Fin 128) = ⟨q.val, h⟩ := fun _ => Fin.ext (Nat.mod_eq_of_lt h)
    simp only [dif_pos h, e1, hblk_at, Fin.val_zero, Nat.mul_zero, Nat.zero_add]
  · have e1 : ∀ h', (⟨q.val % 128, h'⟩ : Fin 128) = ⟨q.val - 128, by omega⟩ := fun _ => Fin.ext (by show q.val % 128 = q.val - 128; omega)
    have e2 : ∀ h', (⟨128 + (q.val - 128), h'⟩ : Fin 256) = q := fun _ => Fin.ext (by show 128 + (q.val - 128) = q.val; omega)
    simp only [dif_neg h, e1, hblk_at, Fin.val_one, Nat.mul_one, e2]

theorem DG_at (q : Fin 256) :
    DG (F := Ideal) xs rs x d (ix2 0 q) = ∑ s : Fin 2048, d (ix2 s q) * (x (ix2 s q) * xs (ix2 s ⟨q.val % 128, by omega⟩) * rs (ix2 s ⟨q.val % 128, by omega⟩)) := by
  unfold DG
  simp only [dgStep_at, Z'_at, zero_add]
  rw [← Fin.sum_univ_eight (fun b : Fin 8 => ∑ r : Fin 256, d (ix2 ⟨256 * b.val + r.val, by omega⟩ q)
        * (x (ix2 ⟨256 * b.val + r.val, by omega⟩ q) * xs (ix2 ⟨256 * b.val + r.val, by omega⟩ ⟨q.val % 128, by omega⟩) * rs (ix2 ⟨256 * b.val + r.val, by omega⟩ ⟨q.val % 128, by omega⟩)))]
  refine Fin.sum_mul_add_congr fun b r hl => ?_
  have e : (⟨256 * b.val + r.val, by omega⟩ : Fin 2048) = ⟨b.val * 256 + r.val, hl⟩ := Fin.ext (by show 256 * b.val + r.val = b.val * 256 + r.val; omega)
  rw [e]

/-! ## The second call -/

theorem k1_pay2_at (a : FVec Ideal S1792x2048 .bf16) (b : FVec Ideal S2048x512 .bf16) (r : Fin 1792) (q : Fin 512) :
    k1_pay2 (F := Ideal) a b (ix2 r q) = ∑ s : Fin 2048, a (ix2 r s) * b (ix2 s q) := by
  pointwise [k1_pay2]

theorem k1_pay3_at (gn : FVec Ideal S32x128 .f32) (rs : FVec Ideal S32x1 .f32) (x : FVec Ideal S32x7168 .fp8e4m3) (xs : FVec Ideal S32x1 .f32) (d : FVec Ideal S32x7168 .f32) (g : FVec Ideal S1x7168 .f32) (r : Fin 32) (q : Fin 7168) :
    k1_pay3 (F := Ideal) gn rs x xs d g (ix2 r q) = rs (ix2 r 0) * (d (ix2 r q) * g (ix2 0 q)
      - x (ix2 r q) * xs (ix2 r 0) * rs (ix2 r 0) * ((∑ l : Fin 128, gn (ix2 r l)) * ((1 / 7168 : ℝ) : EReal))) := by
  have inv_d : Named.named (F := Ideal) κ "inv_d" (φ := .f32) 0x39124925#32 = ((1 / 7168 : ℝ) : EReal) := IdealRules.named_const.ideal_named_scalar _ _ _ _ rfl
  pointwise [k1_pay3, inv_d]

/-- Rotating the lanes of the scales by the program's amount brings the head's scale to lane `k`. -/
theorem rot_eq : ∀ (n : Fin 18) (k : Fin 4), (128 + k.val - (Scalar.subi (128#32) (Scalar.muli (BitVec.ofNat 32 n.val) 4#32)).toNat % 128) % 128 = 4 * n.val + k.val := by
  decide +kernel

theorem DW_at (i : grid1.Coords) (n : ℕ) (hn : n < 18) (hi : (i 0).val = n) (sc : FVec Ideal S2048x128 .f32) (d : FVec Ideal S2048x512 .fp8e5m2) (s : Fin 2048) (q : Fin 512) :
    DW (F := Ideal) i sc d (ix2 s q) = d (ix2 s q) * sc (ix2 s ⟨4 * n + q.val / 128, by omega⟩) := by
  have e2 : ∀ h, (⟨128 * (q.val / 128) + q.val % 128, h⟩ : Fin 512) = q := fun h => Fin.ext (Nat.div_add_mod _ _)
  have er := rot_eq ⟨n, hn⟩
  have hq : q.val / 128 < 4 := by omega
  have ed : ∀ (b : ℕ) (hb : b = q.val / 128) (h), d (ix2 s ⟨128 * b + q.val % 128, h⟩) = d (ix2 s q) := fun b hb h => by
    subst hb; exact congrArg (fun k => d (ix2 s k)) (Fin.ext (Nat.div_add_mod _ _))
  unfold DW
  rcases (by omega : q.val / 128 = 0 ∨ q.val / 128 = 1 ∨ q.val / 128 = 2 ∨ q.val / 128 = 3) with h | h | h | h
  all_goals
    simp only [ix2_1, h]
    unfold dwPay
    pointwise [k1_pay1, k1_pay4, k1_pay5, k1_pay6, k1_pay7, k1_pay8]
    unfold cblk
    rw [hi]
  · exact congrArg₂ (· * ·) (ed 0 h.symm _) (congrArg (fun l => sc (ix2 s l)) (Fin.ext (er 0)))
  · exact congrArg₂ (· * ·) (ed 1 h.symm _) (congrArg (fun l => sc (ix2 s l)) (Fin.ext (er 1)))
  · exact congrArg₂ (· * ·) (ed 2 h.symm _) (congrArg (fun l => sc (ix2 s l)) (Fin.ext (er 2)))
  · exact congrArg₂ (· * ·) (ed 3 h.symm _) (congrArg (fun l => sc (ix2 s l)) (Fin.ext (er 3)))

end Cert.KernelIdeal.Own

end
-- ==== Proof.Value.Call0.lean ====
/- The arrays the first call leaves, over the reals, from those it starts from. -/
module

public import proofs.«01_k».proof.Proof.Run.KernelIdeal.Dat0
public import proofs.«01_k».proof.Proof.Value.Pure

@[expose] public section

set_option maxRecDepth 16384

noncomputable section

namespace Cert.KernelIdeal.Own

open Cert.KernelIdeal Cert.KernelIdeal.Gen
open Idealize.ShloMosaic
open Idealize.ShloMosaic.TcCoe Idealize.SL.Sem
open Idealize.ShloMosaic.Pipeline (Dat)

variable (V : Dev nD → Valuation τ sig (Elt Ideal)) (c : Dev nD)

theorem idx0 : ∀ t : Fin cfg0.N, win0_0.index t = ![0, 0] ∧ win0_1.index t = ![0, 0] ∧ win0_2.index t = ![t.val, 0] ∧ win0_3.index t = ![0, t.val] ∧ win0_4.index t = ![0, 0] ∧ win0_5.index t = ![0, 0]
    ∧ win0_6.index t = ![0, t.val] ∧ win0_7.index t = ![0, t.val] ∧ win0_8.index t = ![t.val, 0] ∧ win0_9.index t = ![0, 0] ∧ win0_10.index t = ![0, t.val] :=
  (by decide +kernel : ∀ t : Fin grid0.N, _)

abbrev eX : FVec Ideal S2048x7168 .fp8e4m3 := V c main_v0
abbrev eXS : FVec Ideal S1x2048 .f32 := V c main_arg1
abbrev eRS : FVec Ideal S1x2048 .f32 := V c main_arg2
abbrev eG : FVec Ideal S1x7168 .f32 := V c main_v4
abbrev eW : FVec Ideal S7168x9216 .fp8e4m3 := V c main_arg4
abbrev eWS : FVec Ideal S1x9216 .f32 := V c main_v5
abbrev eC : FVec Ideal S2048x9216 .fp8e5m2 := V c main_v1
abbrev eDS : FVec Ideal S2048x128 .f32 := V c main_v3

/-- The normalised input, -/
def nrm (s : Fin 2048) (d : Fin 7168) : EReal := eX V c (ix2 s d) * eXS V c (ix2 0 s) * eRS V c (ix2 0 s)
/-- the gradient with respect to the scaled one, -/
def dxh (s : Fin 2048) (d : Fin 7168) : EReal :=
  ∑ k : Fin 9216, eC V c (ix2 s k) * eDS V c (ix2 s ⟨k.val / 128, by omega⟩) * eWS V c (ix2 0 k) * eW V c (ix2 d k)
/-- and the term of the correction. -/
def gnt (s : Fin 2048) (d : Fin 7168) : EReal := dxh V c s d * eG V c (ix2 0 d) * nrm V c s d

theorem blk0_0 (t : Fin cfg0.N) (s : Fin 2048) (l : Fin 128) : (show FVec Ideal S2048x128 .f32 from blk0 V c 0 t) (ix2 s l) = eDS V c (ix2 s l) := by blk_ext [blk0, idx0 t]
theorem blk0_1 (t : Fin cfg0.N) (k : Fin 9216) : (show FVec Ideal S1x9216 .f32 from blk0 V c 1 t) (ix2 0 k) = eWS V c (ix2 0 k) := by blk_ext [blk0, idx0 t]
theorem blk0_2 (t : Fin cfg0.N) (q : Fin 256) (k : Fin 9216) (h) : (show FVec Ideal S256x9216 .fp8e4m3 from blk0 V c 2 t) (ix2 q k) = eW V c (ix2 ⟨t.val * 256 + q.val, h⟩ k) := by blk_ext [blk0, idx0 t]
theorem blk0_3 (t : Fin cfg0.N) (s : Fin 2048) (q : Fin 256) (h) : (show FVec Ideal S2048x256 .fp8e4m3 from blk0 V c 3 t) (ix2 s q) = eX V c (ix2 s ⟨t.val * 256 + q.val, h⟩) := by blk_ext [blk0, idx0 t]
theorem blk0_4 (t : Fin cfg0.N) (s : Fin 2048) : (show FVec Ideal S1x2048 .f32 from blk0 V c 4 t) (ix2 0 s) = eXS V c (ix2 0 s) := by blk_ext [blk0, idx0 t]
theorem blk0_5 (t : Fin cfg0.N) (s : Fin 2048) : (show FVec Ideal S1x2048 .f32 from blk0 V c 5 t) (ix2 0 s) = eRS V c (ix2 0 s) := by blk_ext [blk0, idx0 t]
theorem blk0_6 (t : Fin cfg0.N) (q : Fin 256) (h) : (show FVec Ideal S1x256 .f32 from blk0 V c 6 t) (ix2 0 q) = eG V c (ix2 0 ⟨t.val * 256 + q.val, h⟩) := by blk_ext [blk0, idx0 t]

theorem xs0_at (s : Fin 2048) (l : Fin 128) : xs0 V c (ix2 s l) = eXS V c (ix2 0 s) := (XS_at _ s l).trans (blk0_4 V c _ s)
theorem rs0_at (s : Fin 2048) (l : Fin 128) : rs0 V c (ix2 s l) = eRS V c (ix2 0 s) := (RS_at _ s l).trans (blk0_5 V c _ s)
theorem dq0_at (s : Fin 2048) (k : Fin 9216) : dq0 V c (ix2 s k) = eC V c (ix2 s k) * eDS V c (ix2 s ⟨k.val / 128, by omega⟩) * eWS V c (ix2 0 k) := by
  unfold dq0
  refine (DQ_at _ _ _ s k).trans ?_
  exact congrArg₂ (· * ·) (congrArg₂ (· * ·) rfl (blk0_0 V c _ s _)) (blk0_1 V c _ k)

theorem lt256 (t : Fin cfg0.N) (q : Fin 256) : t.val * 256 + q.val < 7168 := by
  have h : t.val < 28 := lt_of_lt_of_eq t.isLt N_0
  omega

theorem mm0_at (t : Fin cfg0.N) (s : Fin 2048) (q : Fin 256) : mm0 V c t (ix2 s q) = dxh V c s ⟨t.val * 256 + q.val, lt256 t q⟩ := by
  unfold mm0 dxh
  refine (MM_at _ _ s q).trans (Finset.sum_congr rfl fun k _ => ?_)
  exact congrArg₂ (· * ·) (dq0_at V c s k) (blk0_2 V c t q k _)

/-- One point's block of the normalised input. -/
theorem nrm_at (t : Fin cfg0.N) (s : Fin 2048) (q : Fin 256) (l l' : Fin 128) :
    (show FVec Ideal S2048x256 .fp8e4m3 from blk0 V c 3 t) (ix2 s q) * xs0 V c (ix2 s l) * rs0 V c (ix2 s l') = nrm V c s ⟨t.val * 256 + q.val, lt256 t q⟩ :=
  congrArg₂ (· * ·) (congrArg₂ (· * ·) (blk0_3 V c t s q _) (xs0_at V c s l)) (rs0_at V c s l')

/-! ## The arrays -/

theorem final0_7 : (dat0 V c).arrAt 7 cfg0.N = (show FVec Ideal S2048x7168 .f32 from fun y => dxh V c (y 0) (y 1)) := by
  refine (dat0 V c).arrAt_eq_of_covers 7 _ (by decide +kernel) fun t _ y => ?_
  blk_simp
  rw [after0_7]
  idx_vars y
  refine (mm0_at V c t _ _).trans ?_
  refine congrArg₂ (dxh V c) (Fin.ext ?_) (Fin.ext ?_)
  · blk_simp [idx0 t]
  · blk_simp [idx0 t]

theorem final0_8 : (dat0 V c).arrAt 8 cfg0.N = (show FVec Ideal S7168x2048 .bf16 from fun y => nrm V c (y 1) (y 0) * eG V c (ix2 0 (y 0))) := by
  refine (dat0 V c).arrAt_eq_of_covers 8 _ (by decide +kernel) fun t _ y => ?_
  blk_simp
  rw [after0_8]
  idx_vars y
  refine (XHT_at _ _ _ _ _ _).trans ?_
  refine (congrArg₂ (· * ·) (nrm_at V c t _ _ _ _) (blk0_6 V c t _ (lt256 t _))).trans ?_
  refine congrArg₂ (fun s d => nrm V c s d * eG V c (ix2 0 d)) (Fin.ext ?_) (Fin.ext ?_)
  · blk_simp [idx0 t]
  · blk_simp [idx0 t]

theorem final0_10 : (dat0 V c).arrAt 10 cfg0.N = (show FVec Ideal S1x7168 .f32 from fun y => ∑ s : Fin 2048, dxh V c s (y 1) * nrm V c s (y 1)) := by
  refine (dat0 V c).arrAt_eq_of_covers 10 _ (by decide +kernel) fun t _ y => ?_
  blk_simp
  rw [after0_10]
  idx_vars y
  obtain rfl : y0 = 0 := Subsingleton.elim _ _
  refine (DG_at _ _ _ _ _).trans ?_
  refine (Finset.sum_congr rfl fun s _ => congrArg₂ (· * ·) (mm0_at V c t s _) (nrm_at V c t s _ _ _)).trans ?_
  refine congrArg (fun d => ∑ s : Fin 2048, dxh V c s d * nrm V c s d) (Fin.ext ?_)
  blk_simp [idx0 t]

/-- What point `n` adds to the correction's sums. -/
def gstep (n : ℕ) (s : Fin 2048) (l : Fin 128) : EReal :=
  gnt V c s ⟨(pt n).val * 256 + l.val, lt256 (pt n) ⟨l.val, by omega⟩⟩ + gnt V c s ⟨(pt n).val * 256 + (128 + l.val), lt256 (pt n) ⟨128 + l.val, by omega⟩⟩

theorem gn0_at (s : Fin 2048) (l : Fin 128) : ∀ n : ℕ, gn0 V c n (ix2 s l) = ∑ j ∈ Finset.range n, gstep V c j s l
  | 0 => by rw [Finset.sum_range_zero]; exact Z_at s l
  | n + 1 => by
    rw [Finset.sum_range_succ, ← gn0_at s l n]
    refine (GN_at _ _ _ _ _ _ s l).trans ?_
    rw [add_assoc]
    refine congrArg₂ (· + ·) rfl (congrArg₂ (· + ·) ?_ ?_)
    · exact congrArg₂ (· * ·) (congrArg₂ (· * ·) (mm0_at V c (pt n) s _) (blk0_6 V c (pt n) _ (lt256 _ _))) (nrm_at V c (pt n) s _ _ _)
    · exact congrArg₂ (· * ·) (congrArg₂ (· * ·) (mm0_at V c (pt n) s _) (blk0_6 V c (pt n) _ (lt256 _ _))) (nrm_at V c (pt n) s _ _ _)

theorem final0_9 : (dat0 V c).arrAt 9 cfg0.N = (show FVec Ideal S2048x128 .f32 from fun y => ∑ j ∈ Finset.range 28, gstep V c j (y 0) (y 1)) := by
  refine (dat0 V c).arrAt_eq_of_covers 9 _ (by decide +kernel) fun t hf y => ?_
  blk_simp
  rw [after0_9]
  have ht : t.val + 1 = 28 := by have h := (flush0_9 t).mp hf; have h' : t.val < 28 := lt_of_lt_of_eq t.isLt N_0; omega
  rw [ht]
  idx_vars y
  refine (gn0_at V c _ _ 28).trans ?_
  refine congrArg₂ (fun s l => ∑ j ∈ Finset.range 28, gstep V c j s l) (Fin.ext ?_) (Fin.ext ?_)
  · blk_simp [idx0 t]
  · blk_simp [idx0 t]

/-- The correction's sums, added over the lanes, are the sum over the row. -/
theorem gn_sum (s : Fin 2048) : ∑ l : Fin 128, ∑ j ∈ Finset.range 28, gstep V c j s l = ∑ d : Fin 7168, gnt V c s d := by
  have step : ∀ t : Fin 28, ∑ l : Fin 128, gstep V c t.val s l = ∑ q : Fin 256, gnt V c s ⟨t.val * 256 + q.val, by omega⟩ := fun t => by
    have ht : (pt t.val).val = t.val := Nat.mod_eq_of_lt (lt_of_lt_of_eq t.isLt N_0.symm)
    rw [Fin.sum_univ_two_halves 128 128 rfl, ← Finset.sum_add_distrib]
    refine Finset.sum_congr rfl fun l _ => ?_
    unfold gstep
    refine congrArg₂ (· + ·) (congrArg (gnt V c s) (Fin.ext ?_)) (congrArg (gnt V c s) (Fin.ext ?_))
    · show (pt t.val).val * 256 + l.val = _
      rw [ht]
    · show (pt t.val).val * 256 + (128 + l.val) = _
      rw [ht]
  rw [Finset.sum_comm, Finset.sum_range]
  refine (Finset.sum_congr rfl fun t _ => step t).trans ?_
  exact Fin.sum_mul_add_congr (S := 28) (L := 7168) (n := 256) (F := fun t q => gnt V c s ⟨t.val * 256 + q.val, by omega⟩) (f := fun d => gnt V c s d) fun t q hl => rfl

end Cert.KernelIdeal.Own

end
-- ==== Proof.Value.Call1.lean ====
/- The arrays the second call leaves, over the reals, from those it starts from. -/
module

public import proofs.«01_k».proof.Proof.Run.KernelIdeal.Body1
public import proofs.«01_k».proof.Proof.Value.Pure

@[expose] public section

set_option maxRecDepth 16384

noncomputable section

namespace Cert.KernelIdeal.Own

open Cert.KernelIdeal Cert.KernelIdeal.Gen
open Idealize.ShloMosaic
open Idealize.ShloMosaic.TcCoe Idealize.SL.Sem
open Idealize.ShloMosaic.Pipeline (Dat)

variable (V : Dev nD → Valuation τ sig (Elt Ideal)) (c : Dev nD)

theorem idx1 : ∀ t : Fin cfg1.N, win1_0.index t = ![0, 0] ∧ win1_1.index t = ![0, t.val / 4] ∧ win1_2.index t = ![0, 0] ∧ win1_7.index t = ![0, 0] ∧ win1_9.index t = ![t.val % 4, t.val / 4]
    ∧ win1_3.index t = ![min t.val 63, 0] ∧ win1_4.index t = ![min t.val 63, 0] ∧ win1_5.index t = ![min t.val 63, 0] ∧ win1_6.index t = ![min t.val 63, 0] ∧ win1_8.index t = ![min t.val 63, 0] ∧ win1_10.index t = ![min t.val 63, 0]
    ∧ (grid1.coords t 0).val = t.val / 4 ∧ (grid1.coords t 1).val = t.val % 4 :=
  (by decide +kernel : ∀ t : Fin grid1.N, _)

abbrev fXT : FVec Ideal S7168x2048 .bf16 := V c main_v6_1
abbrev fC : FVec Ideal S2048x9216 .fp8e5m2 := V c main_v1
abbrev fDS : FVec Ideal S2048x128 .f32 := V c main_v3
abbrev fD : FVec Ideal S2048x7168 .f32 := V c main_v6_0
abbrev fX : FVec Ideal S2048x7168 .fp8e4m3 := V c main_v0
abbrev fXS : FVec Ideal S2048x1 .f32 := V c main_v7
abbrev fRS : FVec Ideal S2048x1 .f32 := V c main_v8
abbrev fG : FVec Ideal S1x7168 .f32 := V c main_v4
abbrev fGN : FVec Ideal S2048x128 .f32 := V c main_v6_2

theorem blk1_0 (t : Fin cfg1.N) (d : Fin 7168) (s : Fin 2048) : (show FVec Ideal S7168x2048 .bf16 from blk1 V c 0 t) (ix2 d s) = fXT V c (ix2 d s) := by blk_ext [blk1, idx1 t]
theorem blk1_1 (t : Fin cfg1.N) (s : Fin 2048) (q : Fin 512) (h) : (show FVec Ideal S2048x512 .fp8e5m2 from blk1 V c 1 t) (ix2 s q) = fC V c (ix2 s ⟨t.val / 4 * 512 + q.val, h⟩) := by blk_ext [blk1, idx1 t]
theorem blk1_2 (t : Fin cfg1.N) (s : Fin 2048) (l : Fin 128) : (show FVec Ideal S2048x128 .f32 from blk1 V c 2 t) (ix2 s l) = fDS V c (ix2 s l) := by blk_ext [blk1, idx1 t]
theorem blk1_3 (t : Fin cfg1.N) (r : Fin 32) (q : Fin 7168) (h) : (show FVec Ideal S32x7168 .f32 from blk1 V c 3 t) (ix2 r q) = fD V c (ix2 ⟨min t.val 63 * 32 + r.val, h⟩ q) := by blk_ext [blk1, idx1 t]
theorem blk1_4 (t : Fin cfg1.N) (r : Fin 32) (q : Fin 7168) (h) : (show FVec Ideal S32x7168 .fp8e4m3 from blk1 V c 4 t) (ix2 r q) = fX V c (ix2 ⟨min t.val 63 * 32 + r.val, h⟩ q) := by blk_ext [blk1, idx1 t]
theorem blk1_5 (t : Fin cfg1.N) (r : Fin 32) (h) : (show FVec Ideal S32x1 .f32 from blk1 V c 5 t) (ix2 r 0) = fXS V c (ix2 ⟨min t.val 63 * 32 + r.val, h⟩ 0) := by blk_ext [blk1, idx1 t]
theorem blk1_6 (t : Fin cfg1.N) (r : Fin 32) (h) : (show FVec Ideal S32x1 .f32 from blk1 V c 6 t) (ix2 r 0) = fRS V c (ix2 ⟨min t.val 63 * 32 + r.val, h⟩ 0) := by blk_ext [blk1, idx1 t]
theorem blk1_7 (t : Fin cfg1.N) (q : Fin 7168) : (show FVec Ideal S1x7168 .f32 from blk1 V c 7 t) (ix2 0 q) = fG V c (ix2 0 q) := by blk_ext [blk1, idx1 t]
theorem blk1_8 (t : Fin cfg1.N) (r : Fin 32) (l : Fin 128) (h) : (show FVec Ideal S32x128 .f32 from blk1 V c 8 t) (ix2 r l) = fGN V c (ix2 ⟨min t.val 63 * 32 + r.val, h⟩ l) := by blk_ext [blk1, idx1 t]

theorem lt72 (t : Fin cfg1.N) : t.val < 72 := lt_of_lt_of_eq t.isLt N_1

/-- A slab of rows of the transposed input. -/
theorem slab_at (t : Fin cfg1.N) (x : FVec Ideal S7168x2048 .bf16) (r : Fin 1792) (s : Fin 2048) (h) : slab (F := Ideal) (grid1.coords t) x (ix2 r s) = x (ix2 ⟨t.val % 4 * 1792 + r.val, h⟩ s) := by
  have e : ∀ t : Fin cfg1.N, k1_off1 (grid1.coords t) = ![t.val % 4 * 1792, 0] := (by decide +kernel : ∀ t : Fin grid1.N, _)
  unfold slab
  refine congrArg x ?_
  funext a; refine Fin.ext ?_
  show k1_off1 (grid1.coords t) a + 1 * _ = _
  fin_cases a
  · show k1_off1 (grid1.coords t) 0 + 1 * r.val = t.val % 4 * 1792 + r.val
    rw [e t]
    show t.val % 4 * 1792 + 1 * r.val = t.val % 4 * 1792 + r.val
    omega
  · show k1_off1 (grid1.coords t) 1 + 1 * s.val = s.val
    rw [e t]
    show 0 + 1 * s.val = s.val
    omega

theorem dw1_at (t : Fin cfg1.N) (s : Fin 2048) (q : Fin 512) (h) (h') : dw1 V c t.val (ix2 s q)
    = fC V c (ix2 s ⟨t.val / 4 * 512 + q.val, h⟩) * fDS V c (ix2 s ⟨4 * (t.val / 4) + q.val / 128, h'⟩) := by
  have hp : (pt1 (4 * (t.val / 4))).val = 4 * (t.val / 4) := by
    have h := lt72 t
    show 4 * (t.val / 4) % 72 = _
    omega
  have hq : (pt1 (4 * (t.val / 4))).val / 4 = t.val / 4 := by omega
  unfold dw1
  refine (DW_at _ (t.val / 4) (by have h := lt72 t; omega) ((idx1 (pt1 (4 * (t.val / 4)))).2.2.2.2.2.2.2.2.2.2.2.1.trans hq) _ _ s q).trans ?_
  refine congrArg₂ (· * ·) ((blk1_1 V c _ s q (by rw [hq]; exact h)).trans ?_) (blk1_2 V c _ s _)
  refine congrArg (fun k => fC V c (ix2 s k)) (Fin.ext ?_)
  show _ / 4 * 512 + q.val = _
  rw [hq]

/-! ## The arrays -/

theorem final1_9 : (dat1 V c).arrAt 9 cfg1.N = (show FVec Ideal S7168x9216 .f32 from fun y =>
    ∑ s : Fin 2048, fXT V c (ix2 (y 0) s) * (fC V c (ix2 s (y 1)) * fDS V c (ix2 s ⟨(y 1).val / 128, by have h : (y 1).val < 9216 := (y 1).isLt; omega⟩))) := by
  refine (dat1 V c).arrAt_eq_of_covers 9 _ (by decide +kernel) fun t _ y => ?_
  blk_simp
  rw [after1_9]
  idx_vars y
  have ht := lt72 t
  refine (k1_pay2_at _ _ _ _).trans ?_
  refine (Finset.sum_congr rfl fun s _ => congrArg₂ (· * ·) ((slab_at t _ y0 s (by omega)).trans (blk1_0 V c t _ s)) (dw1_at V c t s y1 (by omega) (by omega))).trans ?_
  have e0 : ((((cfg1.win 9).blk t).view.emb (ix2 y0 y1) 0 : Fin 7168)).val = t.val % 4 * 1792 + y0.val := by blk_simp [idx1 t]
  have e1 : ((((cfg1.win 9).blk t).view.emb (ix2 y0 y1) 1 : Fin 9216)).val = t.val / 4 * 512 + y1.val := by blk_simp [idx1 t]
  refine Finset.sum_congr rfl fun s _ => congrArg₂ (· * ·) ?_ (congrArg₂ (· * ·) ?_ ?_)
  · exact congrArg (fun d => fXT V c (ix2 d s)) (Fin.ext e0.symm)
  · exact congrArg (fun d => fC V c (ix2 s d)) (Fin.ext e1.symm)
  · refine congrArg (fun d => fDS V c (ix2 s d)) (Fin.ext ?_)
    have e2 : 4 * (t.val / 4) + y1.val / 128 = (t.val / 4 * 512 + y1.val) / 128 := by omega
    have e3 : win1_9.index t 1 = t.val / 4 := by
      rw [(idx1 t).2.2.2.2.1]
      rfl
    exact e2.trans (congrArg (fun z => (z * 512 + y1.val) / 128) e3.symm)

/-- The gradient of the input at one index. -/
def dxo (s : Fin 2048) (d : Fin 7168) : EReal :=
  fRS V c (ix2 s 0) * (fD V c (ix2 s d) * fG V c (ix2 0 d)
    - fX V c (ix2 s d) * fXS V c (ix2 s 0) * fRS V c (ix2 s 0) * ((∑ l : Fin 128, fGN V c (ix2 s l)) * ((1 / 7168 : ℝ) : EReal)))

theorem dx1_at (t : Fin cfg1.N) (r : Fin 32) (d : Fin 7168) (h) : dx1 V c t (ix2 r d) = dxo V c ⟨min t.val 63 * 32 + r.val, h⟩ d := by
  unfold dx1 dxo
  refine (k1_pay3_at _ _ _ _ _ _ r d).trans ?_
  refine congrArg₂ (· * ·) (blk1_6 V c t r h) (congrArg₂ (· - ·) (congrArg₂ (· * ·) (blk1_3 V c t r d h) (blk1_7 V c t d)) (congrArg₂ (· * ·) (congrArg₂ (· * ·) (congrArg₂ (· * ·) (blk1_4 V c t r d h) (blk1_5 V c t r h)) (blk1_6 V c t r h))
    (congrArg (· * _) (Finset.sum_congr rfl fun l _ => blk1_8 V c t r l h))))

theorem final1_10 : (dat1 V c).arrAt 10 cfg1.N = (show FVec Ideal S2048x7168 .bf16 from fun y => dxo V c (y 0) (y 1)) := by
  refine (dat1 V c).arrAt_eq_of_covers 10 _ (by decide +kernel) fun t _ y => ?_
  blk_simp
  rw [after1_10]
  idx_vars y
  have hl : min (lastDx t).val 63 = min t.val 63 := by
    unfold lastDx
    split
    · rfl
    · show min (63 % 72) 63 = _
      omega
  refine (dx1_at V c (lastDx t) y0 y1 (by omega)).trans ?_
  refine congrArg₂ (dxo V c) (Fin.ext ?_) (Fin.ext ?_)
  · show min (lastDx t).val 63 * 32 + y0.val = _
    rw [hl]
    blk_simp [idx1 t]
  · blk_simp [idx1 t]

end Cert.KernelIdeal.Own

end
-- ==== Proof.Value.RefValue.lean ====
/- What the reference computes at one index, over the reals, and the arrays its run ends with. -/
module

public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.ReferenceIdeal.Own

open Cert.ReferenceIdeal Cert.ReferenceIdeal.Gen
open Idealize.ShloMosaic
open Idealize.ShloMosaic.TcCoe Idealize.SL.Sem
open Idealize.ShloMosaic.Pipeline (Dat)

variable (X : FVec Ideal S1x2048x7168 .fp8e4m3) (XS RS : FVec Ideal S1x2048 .f32) (G : FVec Ideal S7168 .f32) (W : FVec Ideal S7168x9216 .fp8e4m3)
  (WS : FVec Ideal S9216 .f32) (C : FVec Ideal S1x2048x9216 .fp8e5m2) (DS : FVec Ideal S1x2048x72 .f32)

theorem n_at (s : Fin 2048) (d : Fin 7168) : k0_pay2 (F := Ideal) RS X XS (ix3 0 s d) = X (ix3 0 s d) * XS (ix2 0 s) * RS (ix2 0 s) := by
  pointwise [k0_pay2]
theorem dq_at (s : Fin 2048) (k : Fin 9216) : k0_pay3 (F := Ideal) C DS (ix3 0 s k) = C (ix3 0 s k) * DS (ix3 0 s ⟨k.val / 128, by omega⟩) := by
  pointwise [k0_pay3]
theorem dx_at (s : Fin 2048) (d : Fin 7168) : k0_pay5 (F := Ideal) C DS W WS (ix3 0 s d)
    = ∑ k : Fin 9216, C (ix3 0 s k) * DS (ix3 0 s ⟨k.val / 128, by omega⟩) * (W (ix2 d k) * WS (ix1 k)) := by
  pointwise [k0_pay5]
  simp only [dq_at]
theorem dw_at (d : Fin 7168) (k : Fin 9216) : k0_pay4 (F := Ideal) RS G X XS C DS (ix2 d k)
    = ∑ s : Fin 2048, X (ix3 0 s d) * XS (ix2 0 s) * RS (ix2 0 s) * G (ix1 d) * (C (ix3 0 s k) * DS (ix3 0 s ⟨k.val / 128, by omega⟩)) := by
  pointwise [k0_pay4]
  rw [Fin.sum_univ_one]
  simp only [dq_at, n_at]
/-- A sum over the first two axes, the first of size one. -/
theorem reduce01 (v : FVec Ideal S1x2048x7168 .f32) (d : Fin 7168) : Ideal.reduceAdd reduces_S1x2048x7168_S7168 v (ix1 d) = ∑ s : Fin 2048, v (ix3 0 s d) := by
  refine Finset.sum_filter_eq_sum_of_fiber _ (fun s : Fin 2048 => (ix3 0 s d : S1x2048x7168.Idx)) (fun a b e => (congrFun e 1 : a = b)) (fun i => ?_) v
  constructor
  · intro e
    refine ⟨i 1, ?_⟩
    funext a; apply Fin.ext
    match a with
    | ⟨0, _⟩ => exact (Nat.lt_one_iff.mp (i 0).isLt).symm
    | ⟨1, _⟩ => rfl
    | ⟨2, _⟩ => exact (congrArg Fin.val (congrFun e 0)).symm
  · rintro ⟨k, rfl⟩
    funext b
    apply Fin.ext
    match b with
    | ⟨0, _⟩ => rfl
theorem dg_at (d : Fin 7168) : k0_pay6 (F := Ideal) RS X XS C DS W WS (ix1 d)
    = ∑ s : Fin 2048, k0_pay5 (F := Ideal) C DS W WS (ix3 0 s d) * k0_pay2 (F := Ideal) RS X XS (ix3 0 s d) := by
  pointwise [k0_pay6]
  exact reduce01 _ d
/-- The mean's divisor. -/
theorem ofBits_7168 : Ideal.ofBits .f32 0x45E00000#32 = ((7168 : ℝ) : EReal) := by
  simp [Ideal.ofBits, Ideal.ieee, -EReal.coe_mul]; norm_num
theorem out_at (n dx : FVec Ideal S1x2048x7168 .f32) (s : Fin 2048) (d : Fin 7168) : k0_pay1 (F := Ideal) RS G n dx (ix3 0 s d)
    = RS (ix2 0 s) * (dx (ix3 0 s d) * G (ix1 d) - n (ix3 0 s d) * ((∑ e : Fin 7168, dx (ix3 0 s e) * G (ix1 e) * n (ix3 0 s e)) * ((1 / 7168 : ℝ) : EReal))) := by
  pointwise [k0_pay1, ofBits_7168]
  rw [Ideal.div_coe (by norm_num : (7168 : ℝ) ≠ 0)]

variable (m : (ℓ : Loc nD τ sig) → Buf (Elt Ideal) ℓ) (c : Dev nD)

theorem ridx : win0_0.index t0_0 = ![0, 0, 0] ∧ win0_1.index t0_0 = ![0, 0] ∧ win0_2.index t0_0 = ![0, 0] ∧ win0_3.index t0_0 = ![0] ∧ win0_4.index t0_0 = ![0, 0] ∧ win0_5.index t0_0 = ![0]
    ∧ win0_6.index t0_0 = ![0, 0, 0] ∧ win0_7.index t0_0 = ![0, 0, 0] ∧ win0_8.index t0_0 = ![0, 0, 0] ∧ win0_9.index t0_0 = ![0, 0] ∧ win0_10.index t0_0 = ![0] := by
  decide +kernel

theorem final8 : (dats m 0 c).arrAt 8 cfg0.N = k0_pay1 (F := Ideal) (m ((c : Thread nD τ).loc main_arg2)) (m ((c : Thread nD τ).loc main_arg3))
    (k0_pay2 (F := Ideal) (m ((c : Thread nD τ).loc main_arg2)) (m ((c : Thread nD τ).loc main_arg0)) (m ((c : Thread nD τ).loc main_arg1)))
    (k0_pay5 (F := Ideal) (m ((c : Thread nD τ).loc main_arg6)) (m ((c : Thread nD τ).loc main_arg7)) (m ((c : Thread nD τ).loc main_arg4)) (m ((c : Thread nD τ).loc main_arg5))) := by
  refine (dats m 0 c).arrAt_eq_of_after_last 8 t0_0 (by decide +kernel) _ fun j => ?_
  blk_simp
  rw [after0_8]
  frame_out
  blk_point [iblk, V, ridx]
theorem final9 : (dats m 0 c).arrAt 9 cfg0.N = k0_pay4 (F := Ideal) (m ((c : Thread nD τ).loc main_arg2)) (m ((c : Thread nD τ).loc main_arg3))
    (m ((c : Thread nD τ).loc main_arg0)) (m ((c : Thread nD τ).loc main_arg1)) (m ((c : Thread nD τ).loc main_arg6)) (m ((c : Thread nD τ).loc main_arg7)) := by
  refine (dats m 0 c).arrAt_eq_of_after_last 9 t0_0 (by decide +kernel) _ fun j => ?_
  blk_simp
  rw [after0_9]
  frame_out
  blk_point [iblk, V, ridx]
theorem final10 : (dats m 0 c).arrAt 10 cfg0.N = k0_pay6 (F := Ideal) (m ((c : Thread nD τ).loc main_arg2)) (m ((c : Thread nD τ).loc main_arg0))
    (m ((c : Thread nD τ).loc main_arg1)) (m ((c : Thread nD τ).loc main_arg6)) (m ((c : Thread nD τ).loc main_arg7)) (m ((c : Thread nD τ).loc main_arg4)) (m ((c : Thread nD τ).loc main_arg5)) := by
  refine (dats m 0 c).arrAt_eq_of_after_last 10 t0_0 (by decide +kernel) _ fun j => ?_
  blk_simp
  rw [after0_10]
  frame_out
  blk_point [iblk, V, ridx]

end Cert.ReferenceIdeal.Own

end
-- ==== Proof.Value.Results.lean ====
/- The three results of the kernel over the reals, each an expression in the arguments, and that they are the reference's. -/
module

public import proofs.«01_k».proof.Proof.Value.Entry
public import proofs.«01_k».proof.Proof.Value.Call0
public import proofs.«01_k».proof.Proof.Value.Call1
public import proofs.«01_k».proof.Proof.Value.RefValue

@[expose] public section

set_option maxRecDepth 16384

noncomputable section

namespace Cert.KernelIdeal.Own

open Cert.KernelIdeal Cert.KernelIdeal.Gen
open Idealize.ShloMosaic
open Idealize.ShloMosaic.TcCoe Idealize.SL.Sem
open Idealize.ShloMosaic.Pipeline (Dat)

variable (m : (ℓ : Loc nD τ sig) → Buf (Elt Ideal) ℓ) (c : Dev nD)

abbrev aX : FVec Ideal S1x2048x7168 .fp8e4m3 := m ((c : Thread nD τ).loc main_arg0)
abbrev aXS : FVec Ideal S1x2048 .f32 := m ((c : Thread nD τ).loc main_arg1)
abbrev aRS : FVec Ideal S1x2048 .f32 := m ((c : Thread nD τ).loc main_arg2)
abbrev aG : FVec Ideal S7168 .f32 := m ((c : Thread nD τ).loc main_arg3)
abbrev aW : FVec Ideal S7168x9216 .fp8e4m3 := m ((c : Thread nD τ).loc main_arg4)
abbrev aWS : FVec Ideal S9216 .f32 := m ((c : Thread nD τ).loc main_arg5)
abbrev aC : FVec Ideal S1x2048x9216 .fp8e5m2 := m ((c : Thread nD τ).loc main_arg6)
abbrev aDS : FVec Ideal S1x2048x72 .f32 := m ((c : Thread nD τ).loc main_arg7)

/-- The reference's intermediate arrays of these arguments: the normalised input, and the gradient with respect to the scaled one. -/
abbrev rN : FVec Ideal S1x2048x7168 .f32 := Cert.ReferenceIdeal.Gen.k0_pay2 (F := Ideal) (aRS m c) (aX m c) (aXS m c)
abbrev rD : FVec Ideal S1x2048x7168 .f32 := Cert.ReferenceIdeal.Gen.k0_pay5 (F := Ideal) (aC m c) (aDS m c) (aW m c) (aWS m c)

/-! ## The first call's arrays -/

theorem nrm_eq (s : Fin 2048) (d : Fin 7168) : nrm (V3 m) c s d = rN m c (ix3 0 s d) :=
  (congrArg₂ (· * ·) (congrArg₂ (· * ·) (v0_at m c s d) (congrFun (a1_eq m c) (ix2 0 s))) (congrFun (a2_eq m c) (ix2 0 s))).trans
    (Cert.ReferenceIdeal.Own.n_at _ _ _ s d).symm
theorem dxh_eq (s : Fin 2048) (d : Fin 7168) : dxh (V3 m) c s d = rD m c (ix3 0 s d) := by
  refine Eq.trans (Finset.sum_congr rfl fun k _ => ?_) (Cert.ReferenceIdeal.Own.dx_at _ _ _ _ s d).symm
  refine (congrArg₂ (· * ·) (congrArg₂ (· * ·) (congrArg₂ (· * ·) (v1_at m c s k) (v3_at m c s ⟨k.val / 128, by omega⟩)) (v5_at m c k)) (congrFun (a4_eq m c) (ix2 d k))).trans ?_
  rw [mul_assoc]
  exact congrArg₂ (· * ·) rfl (mul_comm _ _)
theorem gnt_eq (s : Fin 2048) (d : Fin 7168) : gnt (V3 m) c s d = rD m c (ix3 0 s d) * aG m c (ix1 d) * rN m c (ix3 0 s d) :=
  congrArg₂ (· * ·) (congrArg₂ (· * ·) (dxh_eq m c s d) (v4_at m c d)) (nrm_eq m c s d)

/-! ## What the second call starts from -/

theorem fXT_eq (d : Fin 7168) (s : Fin 2048) : fXT (W5 m) c (ix2 d s) = rN m c (ix3 0 s d) * aG m c (ix1 d) :=
  (congrFun ((W5_arr m c 8 (by decide)).trans (final0_8 (V3 m) c)) (ix2 d s)).trans (congrArg₂ (· * ·) (nrm_eq m c s d) (v4_at m c d))
theorem fC_eq (s : Fin 2048) (k : Fin 9216) : fC (W5 m) c (ix2 s k) = aC m c (ix3 0 s k) :=
  (congrFun (W5_of_not m c main_v1 (by decide) (by decide)) (ix2 s k)).trans (v1_at m c s k)
theorem fDS_eq (s : Fin 2048) (h : Fin 72) : fDS (W5 m) c (ix2 s ⟨h.val, by omega⟩) = aDS m c (ix3 0 s h) :=
  (congrFun (W5_in m c 0 (by decide) rfl) (ix2 s ⟨h.val, by omega⟩)).trans (v3_at m c s h)
theorem fD_eq (s : Fin 2048) (d : Fin 7168) : fD (W5 m) c (ix2 s d) = rD m c (ix3 0 s d) :=
  (congrFun ((W5_arr m c 7 (by decide)).trans (final0_7 (V3 m) c)) (ix2 s d)).trans (dxh_eq m c s d)
theorem fX_eq (s : Fin 2048) (d : Fin 7168) : fX (W5 m) c (ix2 s d) = aX m c (ix3 0 s d) :=
  (congrFun (W5_in m c 3 (by decide) rfl) (ix2 s d)).trans (v0_at m c s d)
theorem fG_eq (d : Fin 7168) : fG (W5 m) c (ix2 0 d) = aG m c (ix1 d) :=
  (congrFun (W5_in m c 6 (by decide) rfl) (ix2 0 d)).trans (v4_at m c d)
theorem fGN_eq (s : Fin 2048) : ∑ l : Fin 128, fGN (W5 m) c (ix2 s l) = ∑ d : Fin 7168, rD m c (ix3 0 s d) * aG m c (ix1 d) * rN m c (ix3 0 s d) := by
  have e : ∀ l : Fin 128, fGN (W5 m) c (ix2 s l) = ∑ j ∈ Finset.range 28, gstep (V3 m) c j s l := fun l =>
    congrFun ((W5_arr m c 9 (by decide)).trans (final0_9 (V3 m) c)) (ix2 s l)
  refine (Finset.sum_congr rfl fun l _ => e l).trans ?_
  exact (gn_sum (V3 m) c s).trans (Finset.sum_congr rfl fun d _ => gnt_eq m c s d)

/-! ## The results -/

theorem dxo_eq (s : Fin 2048) (d : Fin 7168) : dxo (W5 m) c s d
    = aRS m c (ix2 0 s) * (rD m c (ix3 0 s d) * aG m c (ix1 d) - rN m c (ix3 0 s d) * ((∑ e : Fin 7168, rD m c (ix3 0 s e) * aG m c (ix1 e) * rN m c (ix3 0 s e)) * ((1 / 7168 : ℝ) : EReal))) := by
  unfold dxo
  refine congrArg₂ (· * ·) (v8_at m c s) (congrArg₂ (· - ·) (congrArg₂ (· * ·) (fD_eq m c s d) (fG_eq m c d)) (congrArg₂ (· * ·) ?_ (congrArg (· * _) (fGN_eq m c s))))
  exact (congrArg₂ (· * ·) (congrArg₂ (· * ·) (fX_eq m c s d) (v7_at m c s)) (v8_at m c s)).trans (Cert.ReferenceIdeal.Own.n_at _ _ _ s d).symm

theorem tie0 : (show FVec Ideal S1x2048x7168 .bf16 from V7 m (outs m) c main_v10) = Cert.ReferenceIdeal.Gen.k0_pay1 (F := Ideal) (aRS m c) (aG m c) (rN m c) (rD m c) := by
  funext i
  idx_vars i
  obtain rfl : i0 = 0 := Subsingleton.elim _ _
  refine (res0 m c i1 i2).trans ?_
  refine (congrFun (final1_10 (W5 m) c) (ix2 i1 i2)).trans ?_
  exact (dxo_eq m c i1 i2).trans (Cert.ReferenceIdeal.Own.out_at _ _ _ _ i1 i2).symm

theorem tie1 : (show FVec Ideal S7168x9216 .f32 from V7 m (outs m) c main_v9_0) = Cert.ReferenceIdeal.Gen.k0_pay4 (F := Ideal) (aRS m c) (aG m c) (aX m c) (aXS m c) (aC m c) (aDS m c) := by
  funext i
  idx_vars i
  refine (congrFun ((res1 m c).trans (final1_9 (W5 m) c)) (ix2 i0 i1)).trans ?_
  show (∑ s : Fin 2048, fXT (W5 m) c (ix2 i0 s) * (fC (W5 m) c (ix2 s i1) * fDS (W5 m) c (ix2 s ⟨i1.val / 128, by omega⟩)) : EReal) = (_ : EReal)
  refine Eq.trans (Finset.sum_congr rfl fun s _ => ?_) (Cert.ReferenceIdeal.Own.dw_at _ _ _ _ _ _ i0 i1).symm
  refine congrArg₂ (· * ·) ((fXT_eq m c i0 s).trans ?_) (congrArg₂ (· * ·) (fC_eq m c s i1) (fDS_eq m c s ⟨i1.val / 128, by omega⟩))
  exact congrArg (· * _) (Cert.ReferenceIdeal.Own.n_at _ _ _ s i0)

theorem tie2 : (show FVec Ideal S7168 .f32 from V7 m (outs m) c main_v11) = Cert.ReferenceIdeal.Gen.k0_pay6 (F := Ideal) (aRS m c) (aX m c) (aXS m c) (aC m c) (aDS m c) (aW m c) (aWS m c) := by
  funext i
  idx_vars i
  refine (res2 m c i0).trans ?_
  refine (congrFun (final0_10 (V3 m) c) (ix2 0 i0)).trans ?_
  show (∑ s : Fin 2048, dxh (V3 m) c s i0 * nrm (V3 m) c s i0 : EReal) = (_ : EReal)
  refine Eq.trans (Finset.sum_congr rfl fun s _ => ?_) (Cert.ReferenceIdeal.Own.dg_at _ _ _ _ _ _ _ i0).symm
  exact congrArg₂ (· * ·) (dxh_eq m c s i0) (nrm_eq m c s i0)

end Cert.KernelIdeal.Own

end
-- ==== Proof.lean ====
module

public import proofs.«01_k».proof.Defs
public import proofs.«01_k».proof.Proof.Run.Kernel.Regs
public import proofs.«01_k».proof.Proof.Run.KernelIdeal.Regs
public import proofs.«01_k».proof.Proof.Gen.ReferenceIdeal.Frame
public import proofs.«01_k».proof.Proof.Value.Results

@[expose] public section

noncomputable section

namespace Cert.Proof

open Idealize.ShloMosaic Idealize.SL.Sem
open Idealize.ShloMosaic.TcCoe

theorem quiescentKernel : Cert.quiescent_Kernel (hKernel := Cert.Kernel.Gen.facts) := fun m g _ =>
  (θ_run _ _ _).mono (fun _ h => ⟨fun c => (h.1 c).2.2.2, h.2⟩) (Cert.Kernel.Own.run m g)

theorem quiescentKernelIdeal : Cert.quiescent_KernelIdeal (hKernelIdeal := Cert.KernelIdeal.Gen.facts) := fun m g _ =>
  (θ_run _ _ _).mono (fun _ h => ⟨fun c => (h.1 c).2.2.2, h.2⟩) (Cert.KernelIdeal.Own.run m g)

section Reference
open Cert.ReferenceIdeal Cert.ReferenceIdeal.Gen

/-- The reference's run ends with its three arrays of results, and its arguments unchanged. -/
theorem runReference (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_v0_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1 8, (h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Reference

/-- Over the reals the kernel's results are the reference's. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.V7 m (Cert.KernelIdeal.Own.outs m) c Cert.KernelIdeal.main_v10,
    fun c => Cert.KernelIdeal.Gen.V7 m (Cert.KernelIdeal.Own.outs m) c Cert.KernelIdeal.main_v9_0,
    fun c => Cert.KernelIdeal.Gen.V7 m (Cert.KernelIdeal.Own.outs m) c Cert.KernelIdeal.main_v11,
    (θ_run _ _ _).mono (fun _ h => h.1) (Cert.KernelIdeal.Own.run m g),
    (θ_run _ _ _).mono (fun r h c => ?_) (runReference m' g')⟩
  obtain ⟨e0, e1, e2, e3, e4, e5, e6, e7⟩ := hargs c
  obtain ⟨h0, h1, h2, ha⟩ := h c
  refine ⟨h0.trans ?_, h1.trans ?_, h2.trans ?_, ha⟩
  · refine (Cert.ReferenceIdeal.Own.final8 m' c).trans ?_
    rw [e0, e1, e2, e3, e4, e5, e6, e7]
    exact (Cert.KernelIdeal.Own.tie0 m c).symm
  · refine (Cert.ReferenceIdeal.Own.final9 m' c).trans ?_
    rw [e0, e1, e2, e3, e6, e7]
    exact (Cert.KernelIdeal.Own.tie1 m c).symm
  · refine (Cert.ReferenceIdeal.Own.final10 m' c).trans ?_
    rw [e0, e1, e2, e4, e5, e6, e7]
    exact (Cert.KernelIdeal.Own.tie2 m c).symm

/-- The one rewrite of the ideal pass: the kernel's factor of the mean is named, and the name denotes 1/7168. -/
theorem preserves : Cert.preserves_Kernel_KernelIdeal :=
  IdealRules.named_const.statement _ _ _ _ _ rfl

theorem claim : Cert.Claim := ⟨Cert.Kernel.Gen.facts, Cert.KernelIdeal.Gen.facts, Cert.ReferenceIdeal.Gen.facts,
  quiescentKernel, quiescentKernelIdeal, fun m g _ => Cert.ReferenceIdeal.Gen.frame m g, preserves, algebraic⟩

end Cert.Proof

end
